-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x4096 : Shape := ⟨3, ![2, 1024, 4096]⟩
abbrev S2x1024x32 : Shape := ⟨3, ![2, 1024, 32]⟩
abbrev S576x4096 : Shape := ⟨2, ![576, 4096]⟩
abbrev S5x32 : Shape := ⟨2, ![5, 32]⟩
abbrev S512 : Shape := ⟨1, ![512]⟩
abbrev S2x1024 : Shape := ⟨2, ![2, 1024]⟩
abbrev S2x1024x512 : Shape := ⟨3, ![2, 1024, 512]⟩
abbrev S2x1024x64 : Shape := ⟨3, ![2, 1024, 64]⟩
abbrev S2048x4096 : Shape := ⟨2, ![2048, 4096]⟩
abbrev S2048x32 : Shape := ⟨2, ![2048, 32]⟩
abbrev S1x512 : Shape := ⟨2, ![1, 512]⟩
abbrev S16x128 : Shape := ⟨2, ![16, 128]⟩
abbrev S2048x512 : Shape := ⟨2, ![2048, 512]⟩
abbrev S2048x64 : Shape := ⟨2, ![2048, 64]⟩
abbrev S16x512 : Shape := ⟨2, ![16, 512]⟩
abbrev S2048x576 : Shape := ⟨2, ![2048, 576]⟩
abbrev S2048x5 : Shape := ⟨2, ![2048, 5]⟩
abbrev S16x576 : Shape := ⟨2, ![16, 576]⟩
abbrev S256x4096 : Shape := ⟨2, ![256, 4096]⟩
abbrev S256x32 : Shape := ⟨2, ![256, 32]⟩
abbrev S256x512 : Shape := ⟨2, ![256, 512]⟩
abbrev S256x64 : Shape := ⟨2, ![256, 64]⟩
abbrev S256x576 : Shape := ⟨2, ![256, 576]⟩
abbrev S256x5 : Shape := ⟨2, ![256, 5]⟩
abbrev S1x1 : Shape := ⟨2, ![1, 1]⟩
abbrev S128x128 : Shape := ⟨2, ![128, 128]⟩
abbrev S64x128 : Shape := ⟨2, ![64, 128]⟩
abbrev S256x1 : Shape := ⟨2, ![256, 1]⟩
abbrev S256x128 : Shape := ⟨2, ![256, 128]⟩
abbrev S512x4096 : Shape := ⟨2, ![512, 4096]⟩
abbrev S256 : Shape := ⟨1, ![256]⟩
abbrev S128x512 : Shape := ⟨2, ![128, 512]⟩
abbrev S128x64 : Shape := ⟨2, ![128, 64]⟩
abbrev S1x128 : Shape := ⟨2, ![1, 128]⟩
abbrev S64x1 : Shape := ⟨2, ![64, 1]⟩
abbrev S128 : Shape := ⟨1, ![128]⟩
abbrev S128x1 : Shape := ⟨2, ![128, 1]⟩
abbrev S128x252 : Shape := ⟨2, ![128, 252]⟩
abbrev S252x128 : Shape := ⟨2, ![252, 128]⟩
abbrev S64 : Shape := ⟨1, ![64]⟩
abbrev S1x64 : Shape := ⟨2, ![1, 64]⟩
abbrev S252x64 : Shape := ⟨2, ![252, 64]⟩
abbrev S16x64 : Shape := ⟨2, ![16, 64]⟩

abbrev nBuf : Space → Nat
  | .hbm => 21
  | .vmem => 26
  | .smem => 1
  | _ => 0

abbrev bufTy : (tb : Table) → Fin (tcTables nBuf tb) → BufTy
  | .hbm, ⟨0, _⟩ => ⟨S2x1024x4096, .fp8e4m3⟩
  | .hbm, ⟨1, _⟩ => ⟨S2x1024x32, .f32⟩
  | .hbm, ⟨2, _⟩ => ⟨S576x4096, .fp8e4m3⟩
  | .hbm, ⟨3, _⟩ => ⟨S5x32, .f32⟩
  | .hbm, ⟨4, _⟩ => ⟨S512, .f32⟩
  | .hbm, ⟨5, _⟩ => ⟨S2x1024, .i32⟩
  | .hbm, ⟨6, _⟩ => ⟨S2x1024x512, .bf16⟩
  | .hbm, ⟨7, _⟩ => ⟨S2x1024x64, .bf16⟩
  | .hbm, ⟨8, _⟩ => ⟨S2048x4096, .fp8e4m3⟩
  | .hbm, ⟨9, _⟩ => ⟨S2048x32, .f32⟩
  | .hbm, ⟨10, _⟩ => ⟨S1x512, .f32⟩
  | .hbm, ⟨11, _⟩ => ⟨S16x128, .i32⟩
  | .hbm, ⟨12, _⟩ => ⟨S2048x512, .bf16⟩
  | .hbm, ⟨13, _⟩ => ⟨S2048x64, .bf16⟩
  | .hbm, ⟨14, _⟩ => ⟨S2048x4096, .bf16⟩
  | .hbm, ⟨15, _⟩ => ⟨S576x4096, .f32⟩
  | .hbm, ⟨16, _⟩ => ⟨S16x512, .f32⟩
  | .hbm, ⟨17, _⟩ => ⟨S2048x576, .fp8e5m2⟩
  | .hbm, ⟨18, _⟩ => ⟨S2048x5, .f32⟩
  | .hbm, ⟨19, _⟩ => ⟨S2048x576, .fp8e5m2⟩
  | .hbm, ⟨20, _⟩ => ⟨S16x576, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S256x32, .f32⟩
  | .local _ .vmem, ⟨3, _⟩ => ⟨S256x32, .f32⟩
  | .local _ .vmem, ⟨4, _⟩ => ⟨S576x4096, .fp8e4m3⟩
  | .local _ .vmem, ⟨5, _⟩ => ⟨S1x512, .f32⟩
  | .local _ .vmem, ⟨6, _⟩ => ⟨S16x128, .i32⟩
  | .local _ .vmem, ⟨7, _⟩ => ⟨S256x512, .bf16⟩
  | .local _ .vmem, ⟨8, _⟩ => ⟨S256x512, .bf16⟩
  | .local _ .vmem, ⟨9, _⟩ => ⟨S256x64, .bf16⟩
  | .local _ .vmem, ⟨10, _⟩ => ⟨S256x64, .bf16⟩
  | .local _ .vmem, ⟨11, _⟩ => ⟨S256x4096, .bf16⟩
  | .local _ .vmem, ⟨12, _⟩ => ⟨S256x4096, .bf16⟩
  | .local _ .vmem, ⟨13, _⟩ => ⟨S576x4096, .f32⟩
  | .local _ .vmem, ⟨14, _⟩ => ⟨S16x512, .f32⟩
  | .local _ .vmem, ⟨15, _⟩ => ⟨S256x576, .fp8e5m2⟩
  | .local _ .vmem, ⟨16, _⟩ => ⟨S256x576, .fp8e5m2⟩
  | .local _ .vmem, ⟨17, _⟩ => ⟨S256x5, .f32⟩
  | .local _ .vmem, ⟨18, _⟩ => ⟨S256x5, .f32⟩
  | .local _ .vmem, ⟨19, _⟩ => ⟨S256x576, .fp8e5m2⟩
  | .local _ .vmem, ⟨20, _⟩ => ⟨S256x576, .fp8e5m2⟩
  | .local _ .vmem, ⟨21, _⟩ => ⟨S16x576, .f32⟩
  | .local _ .vmem, ⟨22, _⟩ => ⟨S576x4096, .bf16⟩
  | .local _ .vmem, ⟨23, _⟩ => ⟨S256x4096, .bf16⟩
  | .local _ .vmem, ⟨24, _⟩ => ⟨S256x576, .bf16⟩
  | .local _ .vmem, ⟨25, _⟩ => ⟨S256x576, .bf16⟩
  | .local _ .smem, ⟨0, _⟩ => ⟨S5x32, .f32⟩
  | _, _ => ⟨S2x1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def k0_off1 (i : grid0.Coords) (c0_i32_143 : BitVec 32) : Fin 2 → Nat :=
  let arg0 : BitVec 32 := BitVec.ofNat 32 (i 0).val
  let c2_i32 : BitVec 32 := 2#32
  let v422 : BitVec 32 := Scalar.muli arg0 c2_i32
  let v423 : BitVec 32 := Scalar.addi v422 c0_i32_143
  let v439 : Index := Scalar.indexCast v423
  let c0_151 : Index := 0#32
  ![v439.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S576x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S5x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S576x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x576 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x576 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x576 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2x1024x4096 : Shape := ⟨3, ![2, 1024, 4096]⟩
abbrev S2x1024x32 : Shape := ⟨3, ![2, 1024, 32]⟩
abbrev S576x4096 : Shape := ⟨2, ![576, 4096]⟩
abbrev S5x32 : Shape := ⟨2, ![5, 32]⟩
abbrev S512 : Shape := ⟨1, ![512]⟩
abbrev S2x1024 : Shape := ⟨2, ![2, 1024]⟩
abbrev S2x1024x512 : Shape := ⟨3, ![2, 1024, 512]⟩
abbrev S2x1024x64 : Shape := ⟨3, ![2, 1024, 64]⟩
abbrev S2048x4096 : Shape := ⟨2, ![2048, 4096]⟩
abbrev S16x512 : Shape := ⟨2, ![16, 512]⟩
abbrev S2048x576 : Shape := ⟨2, ![2048, 576]⟩
abbrev S2048x5 : Shape := ⟨2, ![2048, 5]⟩
abbrev S16x576 : Shape := ⟨2, ![16, 576]⟩
abbrev S2048x32x128 : Shape := ⟨3, ![2048, 32, 128]⟩
abbrev S2048x32 : Shape := ⟨2, ![2048, 32]⟩
abbrev S2048x32x1 : Shape := ⟨3, ![2048, 32, 1]⟩
abbrev S576x32x128 : Shape := ⟨3, ![576, 32, 128]⟩
abbrev S5x1x32 : Shape := ⟨3, ![5, 1, 32]⟩
abbrev S5x128x32 : Shape := ⟨3, ![5, 128, 32]⟩
abbrev S640x32 : Shape := ⟨2, ![640, 32]⟩
abbrev S576x32 : Shape := ⟨2, ![576, 32]⟩
abbrev S576x32x1 : Shape := ⟨3, ![576, 32, 1]⟩
abbrev S512x4096 : Shape := ⟨2, ![512, 4096]⟩
abbrev S2048x512 : Shape := ⟨2, ![2048, 512]⟩
abbrev S2048 : Shape := ⟨1, ![2048]⟩
abbrev S2048x1 : Shape := ⟨2, ![2048, 1]⟩
abbrev S16x128x512 : Shape := ⟨3, ![16, 128, 512]⟩
abbrev S1x512 : Shape := ⟨2, ![1, 512]⟩
abbrev S1x32 : Shape := ⟨2, ![1, 32]⟩
abbrev S2048x32x2 : Shape := ⟨3, ![2048, 32, 2]⟩
abbrev S2048x64 : Shape := ⟨2, ![2048, 64]⟩
abbrev S2048x4x128 : Shape := ⟨3, ![2048, 4, 128]⟩
abbrev S2048x4 : Shape := ⟨2, ![2048, 4]⟩
abbrev S2048x5x1 : Shape := ⟨3, ![2048, 5, 1]⟩
abbrev S2048x5x128 : Shape := ⟨3, ![2048, 5, 128]⟩
abbrev S2048x640 : Shape := ⟨2, ![2048, 640]⟩
abbrev S16x128x576 : Shape := ⟨3, ![16, 128, 576]⟩
abbrev S16x1x576 : Shape := ⟨3, ![16, 1, 576]⟩

abbrev nBuf : Space → Nat
  | .hbm => 15
  | .vmem => 15
  | .smem => 0
  | _ => 0

abbrev bufTy : (tb : Table) → Fin (tcTables nBuf tb) → BufTy
  | .hbm, ⟨0, _⟩ => ⟨S2x1024x4096, .fp8e4m3⟩
  | .hbm, ⟨1, _⟩ => ⟨S2x1024x32, .f32⟩
  | .hbm, ⟨2, _⟩ => ⟨S576x4096, .fp8e4m3⟩
  | .hbm, ⟨3, _⟩ => ⟨S5x32, .f32⟩
  | .hbm, ⟨4, _⟩ => ⟨S512, .f32⟩
  | .hbm, ⟨5, _⟩ => ⟨S2x1024, .i32⟩
  | .hbm, ⟨6, _⟩ => ⟨S2x1024x512, .bf16⟩
  | .hbm, ⟨7, _⟩ => ⟨S2x1024x64, .bf16⟩
  | .hbm, ⟨8, _⟩ => ⟨S2048x4096, .bf16⟩
  | .hbm, ⟨9, _⟩ => ⟨S576x4096, .f32⟩
  | .hbm, ⟨10, _⟩ => ⟨S16x512, .f32⟩
  | .hbm, ⟨11, _⟩ => ⟨S2048x576, .fp8e5m2⟩
  | .hbm, ⟨12, _⟩ => ⟨S2048x5, .f32⟩
  | .hbm, ⟨13, _⟩ => ⟨S2048x576, .fp8e5m2⟩
  | .hbm, ⟨14, _⟩ => ⟨S16x576, .f32⟩
  | .local _ .vmem, ⟨0, _⟩ => ⟨S2x1024x4096, .fp8e4m3⟩
  | .local _ .vmem, ⟨1, _⟩ => ⟨S2x1024x32, .f32⟩
  | .local _ .vmem, ⟨2, _⟩ => ⟨S576x4096, .fp8e4m3⟩
  | .local _ .vmem, ⟨3, _⟩ => ⟨S5x32, .f32⟩
  | .local _ .vmem, ⟨4, _⟩ => ⟨S512, .f32⟩
  | .local _ .vmem, ⟨5, _⟩ => ⟨S2x1024, .i32⟩
  | .local _ .vmem, ⟨6, _⟩ => ⟨S2x1024x512, .bf16⟩
  | .local _ .vmem, ⟨7, _⟩ => ⟨S2x1024x64, .bf16⟩
  | .local _ .vmem, ⟨8, _⟩ => ⟨S2048x4096, .bf16⟩
  | .local _ .vmem, ⟨9, _⟩ => ⟨S576x4096, .f32⟩
  | .local _ .vmem, ⟨10, _⟩ => ⟨S16x512, .f32⟩
  | .local _ .vmem, ⟨11, _⟩ => ⟨S2048x576, .fp8e5m2⟩
  | .local _ .vmem, ⟨12, _⟩ => ⟨S2048x5, .f32⟩
  | .local _ .vmem, ⟨13, _⟩ => ⟨S2048x576, .fp8e5m2⟩
  | .local _ .vmem, ⟨14, _⟩ => ⟨S16x576, .f32⟩
  | _, _ => ⟨S2x1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S576x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x576 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x5 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x576 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x576 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Run.Points.lean ====
/- What the two runs of the kernel's body share: when a point is the first one, and the names of the staging and scratch buffers. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x4096 .fp8e4m3 := win0_0.stage (cfg0.slots t 0)
/-- The staging buffer of window 0 is whole. -/
abbrev hs0_0 (t : Fin cfg0.N) : (ms0_0 t).IsWhole := hstage0_0 ((cfg0.slots t 0).cast nbuf0_0)
/-- The staging buffer of window 1. -/
abbrev ms0_1 (t : Fin cfg0.N) : Memref sig .tc .vmem S256x32 .f32 := win0_1.stage (cfg0.slots t 1)
/-- The staging buffer of window 1 is whole. -/
abbrev hs0_1 (t : Fin cfg0.N) : (ms0_1 t).IsWhole := hstage0_1 ((cfg0.slots t 1).cast nbuf0_1)
/-- The staging buffer of window 2. -/
abbrev ms0_2 (t : Fin cfg0.N) : Memref sig .tc .vmem S576x4096 .fp8e4m3 := win0_2.stage (cfg0.slots t 2)
/-- The staging buffer of window 2 is whole. -/
abbrev hs0_2 (t : Fin cfg0.N) : (ms0_2 t).IsWhole := hstage0_2 ((cfg0.slots t 2).cast nbuf0_2)
/-- The staging buffer of window 3. -/
abbrev ms0_3 (t : Fin cfg0.N) : Memref sig .tc .smem S5x32 .f32 := win0_3.stage (cfg0.slots t 3)
/-- The staging buffer of window 3 is whole. -/
abbrev hs0_3 (t : Fin cfg0.N) : (ms0_3 t).IsWhole := hstage0_3 ((cfg0.slots t 3).cast nbuf0_3)
/-- The staging buffer of window 4. -/
abbrev ms0_4 (t : Fin cfg0.N) : Memref sig .tc .vmem S1x512 .f32 := win0_4.stage (cfg0.slots t 4)
/-- The staging buffer of window 4 is whole. -/
abbrev hs0_4 (t : Fin cfg0.N) : (ms0_4 t).IsWhole := hstage0_4 ((cfg0.slots t 4).cast nbuf0_4)
/-- The staging buffer of window 5. -/
abbrev ms0_5 (t : Fin cfg0.N) : Memref sig .tc .vmem S16x128 .i32 := win0_5.stage (cfg0.slots t 5)
/-- The staging buffer of window 5 is whole. -/
abbrev hs0_5 (t : Fin cfg0.N) : (ms0_5 t).IsWhole := hstage0_5 ((cfg0.slots t 5).cast nbuf0_5)
/-- The staging buffer of window 6. -/
abbrev ms0_6 (t : Fin cfg0.N) : Memref sig .tc .vmem S256x512 .bf16 := win0_6.stage (cfg0.slots t 6)
/-- The staging buffer of window 6 is whole. -/
abbrev hs0_6 (t : Fin cfg0.N) : (ms0_6 t).IsWhole := hstage0_6 ((cfg0.slots t 6).cast nbuf0_6)
/-- The staging buffer of window 7. -/
abbrev ms0_7 (t : Fin cfg0.N) : Memref sig .tc .vmem S256x64 .bf16 := win0_7.stage (cfg0.slots t 7)
/-- The staging buffer of window 7 is whole. -/
abbrev hs0_7 (t : Fin cfg0.N) : (ms0_7 t).IsWhole := hstage0_7 ((cfg0.slots t 7).cast nbuf0_7)
/-- The staging buffer of window 8. -/
abbrev ms0_8 (t : Fin cfg0.N) : Memref sig .tc .vmem S256x4096 .bf16 := win0_8.stage (cfg0.slots t 8)
/-- The staging buffer of window 8 is whole. -/
abbrev hs0_8 (t : Fin cfg0.N) : (ms0_8 t).IsWhole := hstage0_8 ((cfg0.slots t 8).cast nbuf0_8)
/-- The staging buffer of window 9. -/
abbrev ms0_9 (t : Fin cfg0.N) : Memref sig .tc .vmem S576x4096 .f32 := win0_9.stage (cfg0.slots t 9)
/-- The staging buffer of window 9 is whole. -/
abbrev hs0_9 (t : Fin cfg0.N) : (ms0_9 t).IsWhole := hstage0_9 ((cfg0.slots t 9).cast nbuf0_9)
/-- The staging buffer of window 10. -/
abbrev ms0_10 (t : Fin cfg0.N) : Memref sig .tc .vmem S16x512 .f32 := win0_10.stage (cfg0.slots t 10)
/-- The staging buffer of window 10 is whole. -/
abbrev hs0_10 (t : Fin cfg0.N) : (ms0_10 t).IsWhole := hstage0_10 ((cfg0.slots t 10).cast nbuf0_10)
/-- The staging buffer of window 11. -/
abbrev ms0_11 (t : Fin cfg0.N) : Memref sig .tc .vmem S256x576 .fp8e5m2 := win0_11.stage (cfg0.slots t 11)
/-- The staging buffer of window 11 is whole. -/
abbrev hs0_11 (t : Fin cfg0.N) : (ms0_11 t).IsWhole := hstage0_11 ((cfg0.slots t 11).cast nbuf0_11)
/-- The staging buffer of window 12. -/
abbrev ms0_12 (t : Fin cfg0.N) : Memref sig .tc .vmem S256x5 .f32 := win0_12.stage (cfg0.slots t 12)
/-- The staging buffer of window 12 is whole. -/
abbrev hs0_12 (t : Fin cfg0.N) : (ms0_12 t).IsWhole := hstage0_12 ((cfg0.slots t 12).cast nbuf0_12)
/-- The staging buffer of window 13. -/
abbrev ms0_13 (t : Fin cfg0.N) : Memref sig .tc .vmem S256x576 .fp8e5m2 := win0_13.stage (cfg0.slots t 13)
/-- The staging buffer of window 13 is whole. -/
abbrev hs0_13 (t : Fin cfg0.N) : (ms0_13 t).IsWhole := hstage0_13 ((cfg0.slots t 13).cast nbuf0_13)
/-- The staging buffer of window 14. -/
abbrev ms0_14 (t : Fin cfg0.N) : Memref sig .tc .vmem S16x576 .f32 := win0_14.stage (cfg0.slots t 14)
/-- The staging buffer of window 14 is whole. -/
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S576x4096 .bf16 := Memref.whole cc0_scratch0
/-- Scratch operand 1. -/
abbrev scM0_1 : Memref sig .tc .vmem S256x4096 .bf16 := Memref.whole cc0_scratch1
/-- Scratch operand 2. -/
abbrev scM0_2 : Memref sig .tc .vmem S256x576 .bf16 := Memref.whole cc0_scratch2
/-- Scratch operand 3. -/
abbrev scM0_3 : Memref sig .tc .vmem S256x576 .bf16 := Memref.whole cc0_scratch3
/-- The scratch `arg16` the kernel carries between points, as a view: what it holds is stated through it. -/
abbrev VS0_0 : View sig .tc .vmem S576x4096 .bf16 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Run

end
-- ==== Proof.Run.First.lean ====
/- The body of the kernel at the first point: it runs, and leaves its inputs as they were. -/
module

public import proofs.«01_k».proof.Proof.Run.Points

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 5488000 in
/-- The body at the first point, whatever the output buffers and the scratch held: it leaves the input buffers as they were and everything
    else at some contents. -/
theorem runA (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i)
    (x0 : Vec F S256x4096 .fp8e4m3) (x1 : Vec F S256x32 .f32) (x2 : Vec F S576x4096 .fp8e4m3) (x3 : Vec F S5x32 .f32) (x4 : Vec F S1x512 .f32) (x5 : Vec F S16x128 .i32) (x6 : Vec F S256x512 .bf16) (x7 : Vec F S256x64 .bf16) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  intro E K
  simp only [cc0__body_eq_skeleton]; unfold cc0__body_skel
  simp only [k0_part85_eq_skeleton, k0_part44_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Run

end
-- ==== Proof.Run.Later.lean ====
/- The body of the kernel at a later point: it runs, and leaves its inputs as they were. -/
module

public import proofs.«01_k».proof.Proof.Run.First

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1936000 in
/-- The same at a later point. -/
theorem runB (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i)
    (x0 : Vec F S256x4096 .fp8e4m3) (x1 : Vec F S256x32 .f32) (x2 : Vec F S576x4096 .fp8e4m3) (x3 : Vec F S5x32 .f32) (x4 : Vec F S1x512 .f32) (x5 : Vec F S16x128 .i32) (x6 : Vec F S256x512 .bf16) (x7 : Vec F S256x64 .bf16) (xs0 : Vec F S576x4096 .bf16) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  intro E K
  simp only [cc0__body_eq_skeleton]; unfold cc0__body_skel
  simp only [k0_part85_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg16.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [HS0]
  · iexists _; isplitr; · ipureintro; exact harg16.read_unread _
    iexact HS0
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Run

end
-- ==== Proof.Run.Frame.lean ====
/- The frame of the kernel: every run of it ends, with the arguments unchanged and every counter at zero, at any interpretation of the floats. -/
module

public import proofs.«01_k».proof.Proof.Run.Later
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: each input buffer is left as found, of the output buffers nothing is said, and between points the scratch holds
    anything. -/
def rdats (c : Dev nD) : RDat τ (Elt F) Unit ℕ (UR sig nD τ) ℕ cfg0 c where
  A w := V m c (Pipeline.arrRef spec0 w)
  after w _ := fun Y X => w.val < 8 → X = Y
  Φ _ := Pipeline.ΦA spec0 c
  q _ := fullShare
  owed _ := 0

/-- The arrays the region starts from are those the host left. -/
theorem A_eq (c : Dev nD) (w : Fin cfg0.W) : (rdats m c).A w = V m c (Pipeline.arrRef spec0 w) := by
  dsimp only [rdats]

/-- What the body is called with at point `t`, the staging buffers at `Y0` … `Y14`. -/
def bodyPre (c : Dev nD) (t : Fin cfg0.N) (Y0 : Vec F S256x4096 .fp8e4m3) (Y1 : Vec F S256x32 .f32) (Y2 : Vec F S576x4096 .fp8e4m3) (Y3 : Vec F S5x32 .f32) (Y4 : Vec F S1x512 .f32) (Y5 : Vec F S16x128 .i32) (Y6 : Vec F S256x512 .bf16) (Y7 : Vec F S256x64 .bf16) (Y8 : Vec F S256x4096 .bf16) (Y9 : Vec F S576x4096 .f32) (Y10 : Vec F S16x512 .f32) (Y11 : Vec F S256x576 .fp8e5m2) (Y12 : Vec F S256x5 .f32) (Y13 : Vec F S256x576 .fp8e5m2) (Y14 : Vec F S16x576 .f32) : sProp 𝕄 :=
  iprop(Pipeline.ΦA spec0 c ∗ (rdats m c).owesAt () t.castSucc ∗ owns (c : Thread nD τ) (ms0_0 t) fullShare Y0 ∗ owns (c : Thread nD τ) (ms0_1 t) fullShare Y1 ∗ owns (c : Thread nD τ) (ms0_2 t) fullShare Y2 ∗ owns (c : Thread nD τ) (ms0_3 t) fullShare Y3 ∗ owns (c : Thread nD τ) (ms0_4 t) fullShare Y4 ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)

/-- What it returns: the inputs' buffers as they were. -/
def bodyPost (c : Dev nD) (t : Fin cfg0.N) (Y0 : Vec F S256x4096 .fp8e4m3) (Y1 : Vec F S256x32 .f32) (Y2 : Vec F S576x4096 .fp8e4m3) (Y3 : Vec F S5x32 .f32) (Y4 : Vec F S1x512 .f32) (Y5 : Vec F S16x128 .i32) (Y6 : Vec F S256x512 .bf16) (Y7 : Vec F S256x64 .bf16) : sProp 𝕄 :=
  iprop(Pipeline.ΦA spec0 c ∗ (rdats m c).owesAt () t.castSucc ∗ owns (c : Thread nD τ) (ms0_0 t) fullShare Y0 ∗ owns (c : Thread nD τ) (ms0_1 t) fullShare Y1 ∗ owns (c : Thread nD τ) (ms0_2 t) fullShare Y2 ∗ owns (c : Thread nD τ) (ms0_3 t) fullShare Y3 ∗ owns (c : Thread nD τ) (ms0_4 t) fullShare Y4 ∗ owns (c : Thread nD τ) (ms0_5 t) fullShare Y5 ∗ owns (c : Thread nD τ) (ms0_6 t) fullShare Y6 ∗ owns (c : Thread nD τ) (ms0_7 t) fullShare Y7 ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d))

set_option maxHeartbeats 12800000 in
/-- The body at any point: the first point's run or a later one's. -/
theorem sound_body (c : Dev nD) (t : Fin cfg0.N) (Y0 : Vec F S256x4096 .fp8e4m3) (Y1 : Vec F S256x32 .f32) (Y2 : Vec F S576x4096 .fp8e4m3) (Y3 : Vec F S5x32 .f32) (Y4 : Vec F S1x512 .f32) (Y5 : Vec F S16x128 .i32) (Y6 : Vec F S256x512 .bf16) (Y7 : Vec F S256x64 .bf16) (Y8 : Vec F S256x4096 .bf16) (Y9 : Vec F S576x4096 .f32) (Y10 : Vec F S16x512 .f32) (Y11 : Vec F S256x576 .fp8e5m2) (Y12 : Vec F S256x5 .f32) (Y13 : Vec F S256x576 .fp8e5m2) (Y14 : Vec F S16x576 .f32) :
    bodyPre m c t Y0 Y1 Y2 Y3 Y4 Y5 Y6 Y7 Y8 Y9 Y10 Y11 Y12 Y13 Y14 ⊢ wp frame (wpE (defs₀ (F := F)) Variants.none c none) Set.univ (bodyAt0 t) (fun _ => bodyPost m c t Y0 Y1 Y2 Y3 Y4 Y5 Y6 Y7) := by
  unfold bodyPre bodyPost bodyAt0
  rw [PhiA0_eq]
  by_cases hz : t.val % 8 = 0
  · iintro ⟨⟨⟨HS0, HS1, HS2, HS3⟩, Hg⟩, Ho, H0, H1, H2, H3, H4, H5, H6, H7, H8, H9, H10, H11, H12, H13, H14⟩
    iapply (runA c (grid0.coords t) _ _ _ _ _ _ _ _ _ _ _ _ _ _ _ _ _ _ _ _ _ _ _ _ _ _ _ _ _ _ _ _ _ _ _ _ _ _ ((hcond0_0 t).mpr hz) ((hcond0_1 t).mpr hz) Y0 Y1 Y2 Y3 Y4 Y5 Y6 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro ⟨⟨⟨⟨%d0, HS0⟩, HS1, HS2, HS3⟩, Hg⟩, Ho, H0, H1, H2, H3, H4, H5, H6, H7, H8, H9, H10, H11, H12, H13, H14⟩
    iapply (runB c (grid0.coords t) _ _ _ _ _ _ _ _ _ _ _ _ _ _ _ _ _ _ _ _ _ _ _ _ _ _ _ _ _ _ _ _ _ _ _ _ _ _ (fun h => hz ((hcond0_0 t).mp h)) (fun h => hz ((hcond0_1 t).mp h)) Y0 Y1 Y2 Y3 Y4 Y5 Y6 Y7 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hg]
    · isplitl [HS0 HS1 HS2 HS3]
      · isplitl [HS0]; · iexists _; iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The library's body obligation, at every point. -/
theorem body_obligation (c : Dev nD) : (rdats m c).BodyObligation (defs₀ (F := F)) Variants.none () Set.univ := fun t Y hY => by
  rw [bigSep_W0, bigSep_W0, show defs₀ (F := F) .tc cfg0.body (cfg0.bodyArgs t (cfg0.slots t)) = bodyAt0 t from by unfold defs₀; rw [Defs.onTc_tc]]
  refine triple_restated (sound_body m c t (Y 0) (Y 1) (Y 2) (Y 3) (Y 4) (Y 5) (Y 6) (Y 7) (Y 8) (Y 9) (Y 10) (Y 11) (Y 12) (Y 13) (Y 14)) rfl .rfl fun _ => ?_
  unfold bodyPost
  rw [show (rdats m c).Φ t.succ = Pipeline.ΦA spec0 c from rfl, show (rdats m c).owesAt () t.succ = (rdats m c).owesAt () t.castSucc from rfl]
  iintro ⟨HP, Ho, H0, H1, H2, H3, H4, H5, H6, H7, ⟨%d8, H8⟩, ⟨%d9, H9⟩, ⟨%d10, H10⟩, ⟨%d11, H11⟩, ⟨%d12, H12⟩, ⟨%d13, H13⟩, ⟨%d14, H14⟩⟩
  isplitl [HP]; · iexact HP
  isplitl [Ho]; · iexact Ho
  isplitl [H0]
  · iexists _; isplitr
    swap; · iexact H0
    ipureintro; exact fun _ => rfl
  isplitl [H1]
  · iexists _; isplitr
    swap; · iexact H1
    ipureintro; exact fun _ => rfl
  isplitl [H2]
  · iexists _; isplitr
    swap; · iexact H2
    ipureintro; exact fun _ => rfl
  isplitl [H3]
  · iexists _; isplitr
    swap; · iexact H3
    ipureintro; exact fun _ => rfl
  isplitl [H4]
  · iexists _; isplitr
    swap; · iexact H4
    ipureintro; exact fun _ => rfl
  isplitl [H5]
  · iexists _; isplitr
    swap; · iexact H5
    ipureintro; exact fun _ => rfl
  isplitl [H6]
  · iexists _; isplitr
    swap; · iexact H6
    ipureintro; exact fun _ => rfl
  isplitl [H7]
  · iexists _; isplitr
    swap; · iexact H7
    ipureintro; exact fun _ => rfl
  isplitl [H8]
  · iexists _; isplitr
    swap; · iexact H8
    ipureintro; exact fun h => absurd h (by decide)
  isplitl [H9]
  · iexists _; isplitr
    swap; · iexact H9
    ipureintro; exact fun h => absurd h (by decide)
  isplitl [H10]
  · iexists _; isplitr
    swap; · iexact H10
    ipureintro; exact fun h => absurd h (by decide)
  isplitl [H11]
  · iexists _; isplitr
    swap; · iexact H11
    ipureintro; exact fun h => absurd h (by decide)
  isplitl [H12]
  · iexists _; isplitr
    swap; · iexact H12
    ipureintro; exact fun h => absurd h (by decide)
  isplitl [H13]
  · iexists _; isplitr
    swap; · iexact H13
    ipureintro; exact fun h => absurd h (by decide)
  iexists _; isplitr
  swap; · iexact H14
  ipureintro; exact fun h => absurd h (by decide)

set_option backward.isDefEq.respectTransparency.types false in
/-- Every run ends, each windowed array at contents the body may have left block by block, every other buffer as the region found
    it, every semaphore counter at zero. -/
theorem run_main : θ_run defs (onTc (τ := τ) (main (F := F))) (s₀ m ρ)
    (fun r => RDat.FramePost (cfgs 0) (rdats m) (V m) r ∧ r.2.sem = fun _ => 0) :=
  RDat.θ_run_frame (Q' := _) cfgs (0 : Fin 1) launch0 defs₀ Variants.none (rdats m) m ρ main
    (hbody := body_obligation m) (hshare := fun c w => by unfold RDat.share; split <;> rfl) (howed := fun _ _ => rfl) (V := V m) (hmain := hmain m Variants.none)
    (hA := A_eq m) (hΦ := fun _ _ => rfl)

/-- The arguments end as they were. -/
theorem args_of (r : PUnit × MemSt nD τ sig (Elt F)) (h : RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (h.arr_in c 2 rfl).trans ((A_eq m c 2).trans (V_main_arg2 m c)),
      (h.arr_in c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- The frame: every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_of m r h.1, h.2⟩) (run_main m ρ)

end Cert.Kernel.Run

end
-- ==== Proof.Body.Runs.lean ====
/- What the two runs of the idealized kernel's body share: when a point is the first one, and the names of the staging and scratch buffers. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x4096 .fp8e4m3 := win0_0.stage (cfg0.slots t 0)
/-- The staging buffer of window 0 is whole. -/
abbrev hs0_0 (t : Fin cfg0.N) : (ms0_0 t).IsWhole := hstage0_0 ((cfg0.slots t 0).cast nbuf0_0)
/-- The staging buffer of window 1. -/
abbrev ms0_1 (t : Fin cfg0.N) : Memref sig .tc .vmem S256x32 .f32 := win0_1.stage (cfg0.slots t 1)
/-- The staging buffer of window 1 is whole. -/
abbrev hs0_1 (t : Fin cfg0.N) : (ms0_1 t).IsWhole := hstage0_1 ((cfg0.slots t 1).cast nbuf0_1)
/-- The staging buffer of window 2. -/
abbrev ms0_2 (t : Fin cfg0.N) : Memref sig .tc .vmem S576x4096 .fp8e4m3 := win0_2.stage (cfg0.slots t 2)
/-- The staging buffer of window 2 is whole. -/
abbrev hs0_2 (t : Fin cfg0.N) : (ms0_2 t).IsWhole := hstage0_2 ((cfg0.slots t 2).cast nbuf0_2)
/-- The staging buffer of window 3. -/
abbrev ms0_3 (t : Fin cfg0.N) : Memref sig .tc .smem S5x32 .f32 := win0_3.stage (cfg0.slots t 3)
/-- The staging buffer of window 3 is whole. -/
abbrev hs0_3 (t : Fin cfg0.N) : (ms0_3 t).IsWhole := hstage0_3 ((cfg0.slots t 3).cast nbuf0_3)
/-- The staging buffer of window 4. -/
abbrev ms0_4 (t : Fin cfg0.N) : Memref sig .tc .vmem S1x512 .f32 := win0_4.stage (cfg0.slots t 4)
/-- The staging buffer of window 4 is whole. -/
abbrev hs0_4 (t : Fin cfg0.N) : (ms0_4 t).IsWhole := hstage0_4 ((cfg0.slots t 4).cast nbuf0_4)
/-- The staging buffer of window 5. -/
abbrev ms0_5 (t : Fin cfg0.N) : Memref sig .tc .vmem S16x128 .i32 := win0_5.stage (cfg0.slots t 5)
/-- The staging buffer of window 5 is whole. -/
abbrev hs0_5 (t : Fin cfg0.N) : (ms0_5 t).IsWhole := hstage0_5 ((cfg0.slots t 5).cast nbuf0_5)
/-- The staging buffer of window 6. -/
abbrev ms0_6 (t : Fin cfg0.N) : Memref sig .tc .vmem S256x512 .bf16 := win0_6.stage (cfg0.slots t 6)
/-- The staging buffer of window 6 is whole. -/
abbrev hs0_6 (t : Fin cfg0.N) : (ms0_6 t).IsWhole := hstage0_6 ((cfg0.slots t 6).cast nbuf0_6)
/-- The staging buffer of window 7. -/
abbrev ms0_7 (t : Fin cfg0.N) : Memref sig .tc .vmem S256x64 .bf16 := win0_7.stage (cfg0.slots t 7)
/-- The staging buffer of window 7 is whole. -/
abbrev hs0_7 (t : Fin cfg0.N) : (ms0_7 t).IsWhole := hstage0_7 ((cfg0.slots t 7).cast nbuf0_7)
/-- The staging buffer of window 8. -/
abbrev ms0_8 (t : Fin cfg0.N) : Memref sig .tc .vmem S256x4096 .bf16 := win0_8.stage (cfg0.slots t 8)
/-- The staging buffer of window 8 is whole. -/
abbrev hs0_8 (t : Fin cfg0.N) : (ms0_8 t).IsWhole := hstage0_8 ((cfg0.slots t 8).cast nbuf0_8)
/-- The staging buffer of window 9. -/
abbrev ms0_9 (t : Fin cfg0.N) : Memref sig .tc .vmem S576x4096 .f32 := win0_9.stage (cfg0.slots t 9)
/-- The staging buffer of window 9 is whole. -/
abbrev hs0_9 (t : Fin cfg0.N) : (ms0_9 t).IsWhole := hstage0_9 ((cfg0.slots t 9).cast nbuf0_9)
/-- The staging buffer of window 10. -/
abbrev ms0_10 (t : Fin cfg0.N) : Memref sig .tc .vmem S16x512 .f32 := win0_10.stage (cfg0.slots t 10)
/-- The staging buffer of window 10 is whole. -/
abbrev hs0_10 (t : Fin cfg0.N) : (ms0_10 t).IsWhole := hstage0_10 ((cfg0.slots t 10).cast nbuf0_10)
/-- The staging buffer of window 11. -/
abbrev ms0_11 (t : Fin cfg0.N) : Memref sig .tc .vmem S256x576 .fp8e5m2 := win0_11.stage (cfg0.slots t 11)
/-- The staging buffer of window 11 is whole. -/
abbrev hs0_11 (t : Fin cfg0.N) : (ms0_11 t).IsWhole := hstage0_11 ((cfg0.slots t 11).cast nbuf0_11)
/-- The staging buffer of window 12. -/
abbrev ms0_12 (t : Fin cfg0.N) : Memref sig .tc .vmem S256x5 .f32 := win0_12.stage (cfg0.slots t 12)
/-- The staging buffer of window 12 is whole. -/
abbrev hs0_12 (t : Fin cfg0.N) : (ms0_12 t).IsWhole := hstage0_12 ((cfg0.slots t 12).cast nbuf0_12)
/-- The staging buffer of window 13. -/
abbrev ms0_13 (t : Fin cfg0.N) : Memref sig .tc .vmem S256x576 .fp8e5m2 := win0_13.stage (cfg0.slots t 13)
/-- The staging buffer of window 13 is whole. -/
abbrev hs0_13 (t : Fin cfg0.N) : (ms0_13 t).IsWhole := hstage0_13 ((cfg0.slots t 13).cast nbuf0_13)
/-- The staging buffer of window 14. -/
abbrev ms0_14 (t : Fin cfg0.N) : Memref sig .tc .vmem S16x576 .f32 := win0_14.stage (cfg0.slots t 14)
/-- The staging buffer of window 14 is whole. -/
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S576x4096 .bf16 := Memref.whole cc0_scratch0
/-- Scratch operand 1. -/
abbrev scM0_1 : Memref sig .tc .vmem S256x4096 .bf16 := Memref.whole cc0_scratch1
/-- Scratch operand 2. -/
abbrev scM0_2 : Memref sig .tc .vmem S256x576 .bf16 := Memref.whole cc0_scratch2
/-- Scratch operand 3. -/
abbrev scM0_3 : Memref sig .tc .vmem S256x576 .bf16 := Memref.whole cc0_scratch3
/-- The scratch `arg16` the kernel carries between points, as a view: what it holds is stated through it. -/
abbrev VS0_0 : View sig .tc .vmem S576x4096 .bf16 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.Body.RunA.lean ====
/- The run of the idealized kernel's body at the first point: the weights are dequantised into the scratch `arg16` first, and `dw` starts from zero. -/
module

public import proofs.«01_k».proof.Proof.Body.Runs

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 10976000 in
/-- The stores the body makes into each output buffer (latest first), with the proof that the body runs and leaves each output buffer with those stores made into it, at the first point: the weights are dequantised into the scratch `arg16` first, and `dw` starts from zero. The windows written one row at a time, `dgain` and `tscales`, are given with the contents they had before. -/
noncomputable def kernelRun0_A (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i)
    (x0 : Vec F S256x4096 .fp8e4m3) (x1 : Vec F S256x32 .f32) (x2 : Vec F S576x4096 .fp8e4m3) (x3 : Vec F S5x32 .f32) (x4 : Vec F S1x512 .f32) (x5 : Vec F S16x128 .i32) (x6 : Vec F S256x512 .bf16) (x7 : Vec F S256x64 .bf16) (xo10 : Vec F S16x512 .f32) (xo14 : Vec F S16x576 .f32) :
    Σ' (L8 : List (View.Piece (Elt F) S256x4096 .bf16)), Σ' (L9 : List (View.Piece (Elt F) S576x4096 .f32)), Σ' (L10 : List (View.Piece (Elt F) S16x512 .f32)), Σ' (L11 : List (View.Piece (Elt F) S256x576 .fp8e5m2)), Σ' (L12 : List (View.Piece (Elt F) S256x5 .f32)), Σ' (L13 : List (View.Piece (Elt F) S256x576 .fp8e5m2)), Σ' (L14 : List (View.Piece (Elt F) S16x576 .f32)), { LS0 : List (View.Piece (Elt F) S576x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xo10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0__body_eq_skeleton]; unfold cc0__body_skel
    simp only [k0_part85_eq_skeleton, k0_part44_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%d12, %f12, -, H12⟩, ⟨%d13, %f13, -, H13⟩, ⟨%f14, %hf14, H14⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.Spec.lean ====
/- The mathematics of the step at the extended reals, written once, index by index: tokens, features and columns are
   natural numbers, and a program's array is read as a function of them. Both programs are shown to compute these
   functions: the kernel from its blocks (a block is the same functions of shifted tokens), the reference from its arrays. -/
module

public import Idealize.ShloMosaic.Lib.Pointwise

@[expose] public section

noncomputable section

namespace Cert.Spec

open Idealize.ShloMosaic

/-- The argument arrays as functions of natural indices: codes and scales of the tokens and of the weight, the norm's
    gain, the positions, the two incoming gradients. -/
structure In where
  x : ℕ → ℕ → EReal
  xs : ℕ → ℕ → EReal
  w : ℕ → ℕ → EReal
  ws : ℕ → ℕ → EReal
  gain : ℕ → EReal
  pos : ℕ → BitVec 32
  dc : ℕ → ℕ → EReal
  dk : ℕ → ℕ → EReal

/-- The same arrays seen from token `s` on. -/
def In.shift (I : In) (s : ℕ) : In :=
  { I with x := fun r => I.x (s + r), xs := fun r => I.xs (s + r), pos := fun r => I.pos (s + r),
           dc := fun r => I.dc (s + r), dk := fun r => I.dk (s + r) }

/-! ### The quantiser's numbers -/

/-- The maximum of `n` values, from minus infinity. -/
def rmax (n : ℕ) (f : ℕ → EReal) : EReal :=
  Finset.fold max (Ideal.ofBits FTy.f32 0xFF800000#32) (fun k : Fin n => f k.val) Finset.univ

/-- The magnitude of a value. -/
def mag (v : EReal) : EReal := FloatOps.absf (F := Ideal) (φ := .f32) v

/-- The exponent of a block whose largest magnitude is `a`: the count of the thresholds `a / 57344` reaches, less 126. -/
def kE (a : EReal) : BitVec 32 :=
  Scalar.select
    (IntOp.ori (BitVec.ofBool (decide (a = 0))) (BitVec.ofBool (decide (a * Ideal.ofBits FTy.f32 0x37924925#32 = 0))))
    (0#32)
    (IntOp.subi
      (Finset.fold IntOp.addi (0#32)
        (fun x : Fin 252 => BitVec.setWidth 32 (BitVec.ofBool (decide
          (Ideal.ofBits FTy.f32 (IntOp.shli ArithUnit.vector (IntOp.addi (BitVec.ofNat 32 x.val) 1#32) 23#32)
            ≤ a * Ideal.ofBits FTy.f32 0x37924925#32))))
        Finset.univ)
      126#32)

/-- The scale of a block whose largest magnitude is `a`. -/
def kS (a : EReal) : EReal := Ideal.ofBits FTy.f32 (IntOp.shli ArithUnit.vector (IntOp.addi (kE a) 127#32) 23#32)

/-- The inverse of that scale. -/
def kI (a : EReal) : EReal := Ideal.ofBits FTy.f32 (IntOp.shli ArithUnit.vector (IntOp.subi (127#32) (kE a)) 23#32)

/-- A value clipped to the code's range. -/
def clipv (v : EReal) : EReal := min (Ideal.ofBits FTy.f32 0x47600000#32) (max (Ideal.ofBits FTy.f32 0xC7600000#32) v)

/-- The width of column group `g`: four groups of 128 columns and one of 64. -/
def gw (g : ℕ) : ℕ := if g < 4 then 128 else 64

/-! ### The quantiser, of any gradient `G` -/

section Quant
variable (G : ℕ → ℕ → EReal)

/-- The largest magnitude of the `n` columns of token `r` from column `base` on. -/
def rowA (n r base : ℕ) : EReal := rmax n fun j => mag (G r (base + j))

/-- The largest magnitude of column `d` over the run of 128 tokens from token `s` on. -/
def colA (s d : ℕ) : EReal := rmax 128 fun j => mag (G (s + j) d)

/-- The code of column `d` of token `r`, in the row block of `n` columns from `base` on. -/
def codeR (n r base d : ℕ) : EReal := clipv (G r d * kI (rowA G n r base))
/-- That code, dequantised. -/
def gbR (n r base d : ℕ) : EReal := codeR G n r base d * kS (rowA G n r base)
/-- The code of column `d` of token `r`, in the run of 128 tokens from token `s` on. -/
def codeC (s r d : ℕ) : EReal := clipv (G r d * kI (colA G s d))
/-- That code, dequantised. -/
def gtC (s r d : ℕ) : EReal := codeC G s r d * kS (colA G s d)

/-- The scale of column group `g` of token `r`. -/
def SCALE (r g : ℕ) : EReal := kS (rowA G (gw g) r (128 * g))
/-- The row code of column `d` of token `r`. -/
def CODE (r d : ℕ) : EReal := codeR G (gw (d / 128)) r (128 * (d / 128)) d
/-- The row code, dequantised. -/
def GB (r d : ℕ) : EReal := gbR G (gw (d / 128)) r (128 * (d / 128)) d
/-- The scale of column `d` over the run of tokens from `s` on. -/
def TSCALE (s d : ℕ) : EReal := kS (colA G s d)
/-- The column code of column `d` of token `r`. -/
def TCODE (r d : ℕ) : EReal := codeC G (128 * (r / 128)) r d
/-- The column code, dequantised. -/
def GT (r d : ℕ) : EReal := gtC G (128 * (r / 128)) r d

/-- The scale, the group's width named. -/
theorem SCALE_of {r g n : ℕ} (hn : gw g = n) : SCALE G r g = kS (rowA G n r (128 * g)) := by subst hn; rfl
/-- The row code, its group and the group's width named. -/
theorem CODE_of {r d g n : ℕ} (h : d / 128 = g) (hn : gw g = n) : CODE G r d = codeR G n r (128 * g) d := by
  subst h; subst hn; rfl
/-- The dequantised row code, its group and the group's width named. -/
theorem GB_of {r d g n : ℕ} (h : d / 128 = g) (hn : gw g = n) : GB G r d = gbR G n r (128 * g) d := by
  subst h; subst hn; rfl
/-- The column code, its run's first token named. -/
theorem TCODE_of {r d s : ℕ} (h : 128 * (r / 128) = s) : TCODE G r d = codeC G s r d := by subst h; rfl
/-- The dequantised column code, its run's first token named. -/
theorem GT_of {r d s : ℕ} (h : 128 * (r / 128) = s) : GT G r d = gtC G s r d := by subst h; rfl

end Quant

/-- A choice by an equality of words is the choice by the equality. -/
theorem sel_eq {α : Type} {n : ℕ} (u v : BitVec n) (x y : α) :
    Scalar.select (IntOp.cmpi CmpIPredicate.eq u v) x y = if u = v then x else y := by
  by_cases h : u = v
  · simp [Scalar.select, IntOp.cmpi, h]
  · simp [Scalar.select, IntOp.cmpi, h, beq_eq_false_iff_ne.2 h]

/-! ### The step -/

variable (I : In)

/-- The dequantised tokens. -/
def XW (r o : ℕ) : EReal := I.x r o * I.xs r (o / 128)
/-- The dequantised weight. -/
def WW (d o : ℕ) : EReal := I.w d o * I.ws (d / 128) (o / 128)
/-- The latent, before the norm. -/
def C (r d : ℕ) : EReal := ∑ k : Fin 4096, XW I r k.val * WW I d k.val

/-- The mean of a token's 512 values: their sum by 1/512. -/
def mean (f : ℕ → EReal) : EReal := (∑ k : Fin 512, f k.val) * Ideal.ofBits FTy.f32 0x3B000000#32

/-- The reciprocal root of the norm's mean square. -/
def RSTD (r : ℕ) : EReal := Ideal.rsqrt (mean (fun k => C I r k * C I r k) + Ideal.ofBits FTy.f32 0x358637BD#32)
/-- The gradient at the normalised latent. -/
def DH (r d : ℕ) : EReal := I.dc r d * I.gain d
/-- The gradient at the latent. -/
def DC (r d : ℕ) : EReal :=
  RSTD I r * (DH I r d - C I r d * (RSTD I r * RSTD I r * mean (fun k => DH I r k * C I r k)))
/-- A token's contribution to the gain's gradient. -/
def GP (r d : ℕ) : EReal := I.dc r d * C I r d * RSTD I r

/-- The rotary angle of token `r` for pair `p`. -/
def ang (r p : ℕ) : EReal :=
  FloatOps.sitofp (F := Ideal) FTy.f32 (I.pos r) *
    Ideal.div 1 (Ideal.pow (Ideal.ofBits FTy.f32 0x461C4000#32)
      (Ideal.div (FloatOps.sitofp (F := Ideal) FTy.f32 (BitVec.ofNat 32 p) * Ideal.ofBits FTy.f32 0x40000000#32)
        (Ideal.ofBits FTy.f32 0x42800000#32)))

/-- The rotary gradient: each pair of columns turned back by its angle. -/
def DKR (r l : ℕ) : EReal :=
  if l % 2 = 0 then I.dk r l * Ideal.cos (ang I r (l / 2)) + I.dk r (l + 1) * Ideal.sin (ang I r (l / 2))
  else I.dk r l * Ideal.cos (ang I r (l / 2)) + I.dk r (l - 1) * (0 - Ideal.sin (ang I r (l / 2)))

/-- The gradient that is quantised: 512 latent columns and 64 rotary ones. -/
def G (r d : ℕ) : EReal := if d < 512 then DC I r d else DKR I r (d - 512)

/-- The gradient of the input. -/
def DX (r o : ℕ) : EReal := ∑ k : Fin 576, GB (G I) r k.val * WW I k.val o
/-- The contribution of the `n` tokens from `s` on to the weight's gradient. -/
def DWpart (s n d o : ℕ) : EReal := ∑ k : Fin n, GT (G I) (s + k.val) d * XW I (s + k.val) o
/-- The gain's gradient over the run of 128 tokens from token `s` on. -/
def DGAIN (s d : ℕ) : EReal := ∑ j : Fin 128, GP I (s + j.val) d

end Cert.Spec

end
-- ==== Proof.Val.Tiles.lean ====
/- Arrays stored in tiles: a list of pieces that are all tiles of one function leaves that function, and the tiles in which the
   kernel dequantises the tokens and the weight are tiles of the dequantised arrays. -/
module

public import proofs.«01_k».proof.Proof.Gen.KernelIdeal.Skeleton
public import proofs.«01_k».proof.Proof.Spec
public import Idealize.ShloMosaic.Lib.Pipeline.Value
public import Idealize.ShloMosaic.Lib.Pipeline.ValueKit
public import Idealize.ShloMosaic.Lib.WholeRead

@[expose] public section

noncomputable section

namespace Cert.KernelIdeal.Val

open Idealize.ShloMosaic Idealize.ShloMosaic.TcCoe Cert.KernelIdeal Cert.KernelIdeal.Gen Cert.Spec

/-- A function of two natural indices, read at an array's index. -/
def at2 {m n : ℕ} (f : ℕ → ℕ → EReal) : (⟨2, ![m, n]⟩ : Shape).Idx → EReal := fun y => f (y 0).val (y 1).val

/-- The function of a row and a column, at an index. -/
theorem at2_ix2 {m n : ℕ} (f : ℕ → ℕ → EReal) (a : Fin m) (b : Fin n) : at2 f (ix2 a b) = f a.val b.val := rfl

/-- Every piece of the list is the tile of `G` its rectangle names. -/
def Pieces {S : Shape} {e : EltTy} (G : S.Idx → Elt Ideal e) (L : List (View.Piece (Elt Ideal) S e)) : Prop :=
  ∀ p ∈ L, ∀ x : p.1.shape.Idx, p.2 x = G (p.1.emb x)

/-- No piece at all. -/
theorem Pieces.nil {S : Shape} {e : EltTy} (G : S.Idx → Elt Ideal e) : Pieces G [] := fun _ h => absurd h (by simp)

/-- One more piece, the tile its rectangle names. -/
theorem Pieces.cons {S : Shape} {e : EltTy} {G : S.Idx → Elt Ideal e} {r : Rect S} {w : r.shape.Idx → Elt Ideal e}
    {L : List (View.Piece (Elt Ideal) S e)} (h : ∀ x, w x = G (r.emb x)) (hL : Pieces G L) : Pieces G (⟨r, w⟩ :: L) := by
  intro p hp
  rcases List.mem_cons.1 hp with rfl | hp
  · exact h
  · exact hL p hp

/-- A load from a buffer so stored reads the function. -/
theorem readCov_of_pieces {κ : Kind} {sp : Space} {S : Shape} {e : EltTy} (v : View sig κ sp S e)
    {L : List (View.Piece (Elt Ideal) S e)} {G : S.Idx → Elt Ideal e} (hG : Pieces G L)
    (hcov : ∀ y, ∃ p ∈ L, y ∈ p.1.set) (B : Rect S) (x : B.shape.Idx) : v.readCov L B.toLoadRect x = G (B.emb x) := by
  have h := congrFun (View.readCov_eq_canon_ld v L B hcov) x
  exact h.trans (View.canon_apply_of_pieces G L hG _ (hcov _))

/-- What a tile's element is, by its place in the array. -/
theorem at2_emb {m n a b : ℕ} (f : ℕ → ℕ → EReal) (p q : ℕ) (inb) (x : (⟨2, ![a, b]⟩ : Shape).Idx) :
    at2 f ((Rect.unit (s := (⟨2, ![m, n]⟩ : Shape)) ![p, q] ![a, b] inb).emb x) = f (p + (x 0).val) (q + (x 1).val) := by
  unfold at2
  rw [ValueKit.rect_emb_unit_val, ValueKit.rect_emb_unit_val]; rfl

/-- A stored tile read by row and column is a tile of the function. -/
theorem piece_of {m n a b : ℕ} (f : ℕ → ℕ → EReal) (p q : ℕ) (inb) (w : (⟨2, ![a, b]⟩ : Shape).Idx → EReal)
    (h : ∀ (u : Fin a) (v : Fin b), w (ix2 u v) = f (p + u.val) (q + v.val)) (x : (⟨2, ![a, b]⟩ : Shape).Idx) :
    w x = at2 f ((Rect.unit (s := (⟨2, ![m, n]⟩ : Shape)) ![p, q] ![a, b] inb).emb x) :=
  ((congrArg w (eq_ix2 x)).trans (h _ _)).trans (at2_emb f p q inb x).symm

/-- A load through a tile of a whole buffer whose contents read a function of two indices. -/
theorem readAt_at2 {κ : Kind} {sp : Space} {e : EltTy} {m n a b : ℕ} {arg : Memref sig κ sp (⟨2, ![m, n]⟩ : Shape) e}
    (h : arg.IsWhole) (X : (⟨2, ![m, n]⟩ : Shape).Idx → Elt Ideal e) {α : Type} (tr : Elt Ideal e → α) (f : ℕ → ℕ → α) (hX : ∀ r d, tr (X (ix2 r d)) = f r.val d.val)
    (p q : ℕ) (inb) (x : (⟨2, ![a, b]⟩ : Shape).Idx) :
    tr (View.readAt (Elt Ideal) arg.view (Rect.unit (s := (⟨2, ![m, n]⟩ : Shape)) ![p, q] ![a, b] inb).toLoadRect (h.unread X) x) =
      f (p + (x 0).val) (q + (x 1).val) := by
  rw [Memref.IsWhole.readAt_unread]
  have e := eq_ix2 ((Rect.unit (s := (⟨2, ![m, n]⟩ : Shape)) ![p, q] ![a, b] inb).toLoadRect.idx x)
  have e0 : (((Rect.unit (s := (⟨2, ![m, n]⟩ : Shape)) ![p, q] ![a, b] inb).emb x 0 : Fin _) : ℕ) = p + (x 0).val :=
    ValueKit.rect_emb_unit_val _ _ _ _ _
  have e1 : (((Rect.unit (s := (⟨2, ![m, n]⟩ : Shape)) ![p, q] ![a, b] inb).emb x 1 : Fin _) : ℕ) = q + (x 1).val :=
    ValueKit.rect_emb_unit_val _ _ _ _ _
  exact (congrArg (fun z => tr (X z)) e).trans ((hX _ _).trans (congrArg₂ f e0 e1))

variable (I : In)

/-- A tile of the weight's codes by its scale. -/
theorem pay_w128 (s : EReal) (x : Vec Ideal S128x128 .fp8e4m3) (y : S128x128.Idx) : k0_pay2 (F := Ideal) s x y = x y * s := by
  rw [eq_ix2 y]
  unfold_payloads
  pointwise

/-- A tile of the last 64 rows of the weight's codes by its scale. -/
theorem pay_w64 (s : EReal) (x : Vec Ideal S64x128 .fp8e4m3) (y : S64x128.Idx) : k0_pay156 (F := Ideal) s x y = x y * s := by
  rw [eq_ix2 y]
  unfold_payloads
  pointwise

/-- A tile of the tokens' codes by the scales of its rows. -/
theorem pay_x (s : Vec Ideal S256x1 .f32) (x : Vec Ideal S256x128 .fp8e4m3) (y : S256x128.Idx) :
    k0_pay195 (F := Ideal) s x y = x y * s (ix2 (n0 := 256) (n1 := 1) (y 0) 0) := by
  rw [eq_ix2 y]
  unfold_payloads
  pointwise

/-- A 128 by 128 tile of the weight, dequantised by its scale. -/
theorem wpiece {arg3 : Memref sig .tc .vmem S576x4096 .fp8e4m3} (h3 : arg3.IsWhole) {arg4 : Memref sig .tc .smem S5x32 .f32} (h4 : arg4.IsWhole)
    (x2 : Vec Ideal S576x4096 .fp8e4m3) (x3 : Vec Ideal S5x32 .f32) (hx2 : ∀ r d, x2 (ix2 r d) = I.w r.val d.val)
    (hx3 : ∀ r d, x3 (ix2 r d) = I.ws r.val d.val) (g k p q : ℕ) (hp : p = 128 * g) (hq : q = 128 * k) (inb4) (inb3) (hf)
    (x : S128x128.Idx) :
    k0_pay2 (F := Ideal)
        (View.readAt (Elt Ideal) arg4.view (Rect.unit (s := S5x32) ![g, k] S1x1.size inb4).toLoadRect (h4.unread x3) (Shape.Idx.first hf))
        (View.readAt (Elt Ideal) arg3.view (Rect.unit (s := S576x4096) ![p, q] S128x128.size inb3).toLoadRect (h3.unread x2)) x =
      at2 (m := 576) (n := 4096) (WW I) ((Rect.unit (s := S576x4096) ![p, q] S128x128.size inb3).emb x) := by
  rw [pay_w128]
  have e3 := readAt_at2 h3 x2 id I.w hx2 p q inb3 x
  have e4 := readAt_at2 h4 x3 id I.ws hx3 g k inb4 (Shape.Idx.first hf)
  have l0 : (x 0).val < 128 := (x 0).isLt
  have l1 : (x 1).val < 128 := (x 1).isLt
  refine Eq.trans ?_ (at2_emb (WW I) p q inb3 x).symm
  unfold WW
  rw [show (p + (x 0).val) / 128 = g by omega, show (q + (x 1).val) / 128 = k by omega]
  exact congrArg₂ _ e3 e4

/-- A 64 by 128 tile of the weight's last rows, dequantised by its scale. -/
theorem wpiece64 {arg3 : Memref sig .tc .vmem S576x4096 .fp8e4m3} (h3 : arg3.IsWhole) {arg4 : Memref sig .tc .smem S5x32 .f32} (h4 : arg4.IsWhole)
    (x2 : Vec Ideal S576x4096 .fp8e4m3) (x3 : Vec Ideal S5x32 .f32) (hx2 : ∀ r d, x2 (ix2 r d) = I.w r.val d.val)
    (hx3 : ∀ r d, x3 (ix2 r d) = I.ws r.val d.val) (g k p q : ℕ) (hp : p = 128 * g) (hq : q = 128 * k) (inb4) (inb3) (hf)
    (x : S64x128.Idx) :
    k0_pay156 (F := Ideal)
        (View.readAt (Elt Ideal) arg4.view (Rect.unit (s := S5x32) ![g, k] S1x1.size inb4).toLoadRect (h4.unread x3) (Shape.Idx.first hf))
        (View.readAt (Elt Ideal) arg3.view (Rect.unit (s := S576x4096) ![p, q] S64x128.size inb3).toLoadRect (h3.unread x2)) x =
      at2 (m := 576) (n := 4096) (WW I) ((Rect.unit (s := S576x4096) ![p, q] S64x128.size inb3).emb x) := by
  rw [pay_w64]
  have e3 := readAt_at2 h3 x2 id I.w hx2 p q inb3 x
  have e4 := readAt_at2 h4 x3 id I.ws hx3 g k inb4 (Shape.Idx.first hf)
  have l0 : (x 0).val < 64 := (x 0).isLt
  have l1 : (x 1).val < 128 := (x 1).isLt
  refine Eq.trans ?_ (at2_emb (WW I) p q inb3 x).symm
  unfold WW
  rw [show (p + (x 0).val) / 128 = g by omega, show (q + (x 1).val) / 128 = k by omega]
  exact congrArg₂ _ e3 e4

/-- A 256 by 128 tile of the tokens, dequantised by their scales. -/
theorem xpiece {arg1 : Memref sig .tc .vmem S256x4096 .fp8e4m3} (h1 : arg1.IsWhole) {arg2 : Memref sig .tc .vmem S256x32 .f32} (h2 : arg2.IsWhole)
    (x0 : Vec Ideal S256x4096 .fp8e4m3) (x1 : Vec Ideal S256x32 .f32) (hx0 : ∀ r d, x0 (ix2 r d) = I.x r.val d.val)
    (hx1 : ∀ r d, x1 (ix2 r d) = I.xs r.val d.val) (k q : ℕ) (hq : q = 128 * k) (inb2) (inb1) (x : S256x128.Idx) :
    k0_pay195 (F := Ideal)
        (View.readAt (Elt Ideal) arg2.view (Rect.unit (s := S256x32) ![0, k] S256x1.size inb2).toLoadRect (h2.unread x1))
        (View.readAt (Elt Ideal) arg1.view (Rect.unit (s := S256x4096) ![0, q] S256x128.size inb1).toLoadRect (h1.unread x0)) x =
      at2 (m := 256) (n := 4096) (XW I) ((Rect.unit (s := S256x4096) ![0, q] S256x128.size inb1).emb x) := by
  rw [pay_x]
  have e1 := readAt_at2 h1 x0 id I.x hx0 0 q inb1 x
  have e2 := readAt_at2 h2 x1 id I.xs hx1 0 k inb2 (ix2 (n0 := 256) (n1 := 1) (x 0) 0)
  have l1 : (x 1).val < 128 := (x 1).isLt
  refine Eq.trans ?_ (at2_emb (XW I) 0 q inb1 x).symm
  unfold XW
  rw [show (q + (x 1).val) / 128 = k by omega]
  exact congrArg₂ _ e1 e2

/-- A load of a tile, at a row and a column. -/
theorem readAt_ix2 {κ : Kind} {sp : Space} {e : EltTy} {m n a b : ℕ} {arg : Memref sig κ sp (⟨2, ![m, n]⟩ : Shape) e}
    (h : arg.IsWhole) (X : (⟨2, ![m, n]⟩ : Shape).Idx → Elt Ideal e) {α : Type} (tr : Elt Ideal e → α) (f : ℕ → ℕ → α) (hX : ∀ r d, tr (X (ix2 r d)) = f r.val d.val)
    (p q : ℕ) (inb) (x : Fin a) (y : Fin b) :
    tr (View.readAt (Elt Ideal) arg.view (Rect.unit (s := (⟨2, ![m, n]⟩ : Shape)) ![p, q] ![a, b] inb).toLoadRect (h.unread X) (ix2 x y)) =
      f (p + x.val) (q + y.val) := readAt_at2 h X tr f hX p q inb (ix2 x y)

/-- A load of the corner of a buffer, at an index. -/
theorem readAt_ix2_zero {κ : Kind} {sp : Space} {e : EltTy} {m n a b : ℕ} {arg : Memref sig κ sp (⟨2, ![m, n]⟩ : Shape) e}
    (h : arg.IsWhole) (X : (⟨2, ![m, n]⟩ : Shape).Idx → Elt Ideal e) {α : Type} (tr : Elt Ideal e → α) (f : ℕ → ℕ → α) (hX : ∀ r d, tr (X (ix2 r d)) = f r.val d.val)
    (inb) (x : Fin a) (y : Fin b) :
    tr (View.readAt (Elt Ideal) arg.view (Rect.unit (s := (⟨2, ![m, n]⟩ : Shape)) ![0, 0] ![a, b] inb).toLoadRect (h.unread X) (ix2 x y)) =
      f x.val y.val := by
  rw [readAt_ix2 h X tr f hX, Nat.zero_add, Nat.zero_add]

/-- The row a load of the positions starts at. -/
theorem off1_eq : ∀ (a : Fin 8) (ρ : Fin 2),
    (Scalar.indexCast (Scalar.addi (Scalar.muli (BitVec.ofNat 32 a.val) 2#32) (BitVec.ofNat 32 ρ.val))).toNat = 2 * a.val + ρ.val := by
  decide

/-- The row of positions a run of the block loads. -/
theorem pos_row {arg6 : Memref sig .tc .vmem S16x128 .i32} (h6 : arg6.IsWhole) (x5 : Vec Ideal S16x128 .i32) (i : grid0.Coords)
    (hx5 : ∀ (ρ : Fin 2) (r : Fin 128) (q : Fin 16), q.val = 2 * (i 0).val + ρ.val → x5 (ix2 q r) = I.pos (128 * ρ.val + r.val))
    (ρ : Fin 2) (inb) (r : Fin 128) :
    View.readAt (Elt Ideal) arg6.view (Rect.unit (s := S16x128) (k0_off1 i (BitVec.ofNat 32 ρ.val)) S1x128.size inb).toLoadRect (h6.unread x5)
      (ix2 (n0 := 1) 0 r) = I.pos (128 * ρ.val + r.val) := by
  rw [Memref.IsWhole.readAt_unread]
  have e := eq_ix2 ((Rect.unit (s := S16x128) (k0_off1 i (BitVec.ofNat 32 ρ.val)) S1x128.size inb).emb (ix2 (n0 := 1) 0 r))
  have e0 : (((Rect.unit (s := S16x128) (k0_off1 i (BitVec.ofNat 32 ρ.val)) S1x128.size inb).emb (ix2 (n0 := 1) 0 r) 0 : Fin _) : ℕ) = 2 * (i 0).val + ρ.val :=
    (ValueKit.rect_emb_unit_val _ _ _ _ _).trans ((Nat.add_zero _).trans (off1_eq (i 0) ρ))
  have e1 : (((Rect.unit (s := S16x128) (k0_off1 i (BitVec.ofNat 32 ρ.val)) S1x128.size inb).emb (ix2 (n0 := 1) 0 r) 1 : Fin _) : ℕ) = r.val :=
    (ValueKit.rect_emb_unit_val _ _ _ _ _).trans (Nat.zero_add _)
  refine (congrArg x5 e).trans ((hx5 ρ _ _ e0).trans ?_)
  exact congrArg (fun z => I.pos (128 * ρ.val + z)) e1

/-- A tile of a matrix stored over a buffer whose columns before it already hold `F1` and whose others hold `F0`. -/
theorem canon_step {m n sz q q' : ℕ} {e : EltTy} (F0 F1 : (⟨2, ![m, n]⟩ : Shape).Idx → Elt Ideal e) (L : List (View.Piece (Elt Ideal) (⟨2, ![m, n]⟩ : Shape) e))
    (hL : ∀ y, View.canon L y = if (y 1).val < q then F1 y else F0 y) (inb)
    (w : (⟨2, ![m, sz]⟩ : Shape).Idx → Elt Ideal e) (hq : q' = q + sz)
    (hw : ∀ x : (⟨2, ![m, sz]⟩ : Shape).Idx, w x = F1 ((Rect.unit (s := (⟨2, ![m, n]⟩ : Shape)) ![0, q] ![m, sz] inb).emb x)) :
    ∀ y, View.canon (⟨Rect.unit (s := (⟨2, ![m, n]⟩ : Shape)) ![0, q] ![m, sz] inb, w⟩ :: L) y = if (y 1).val < q' then F1 y else F0 y := by
  intro y
  subst hq
  by_cases hy : y ∈ (Rect.unit (s := (⟨2, ![m, n]⟩ : Shape)) ![0, q] ![m, sz] inb).set
  · obtain ⟨x, hx⟩ := (Rect.unit (s := (⟨2, ![m, n]⟩ : Shape)) ![0, q] ![m, sz] inb).exists_idx_of_mem hy
    have hx' : y = (Rect.unit (s := (⟨2, ![m, n]⟩ : Shape)) ![0, q] ![m, sz] inb).emb x := hx.symm
    have e1 : (((Rect.unit (s := (⟨2, ![m, n]⟩ : Shape)) ![0, q] ![m, sz] inb).emb x 1 : Fin _) : ℕ) = q + (x 1).val :=
      ValueKit.rect_emb_unit_val _ _ _ _ _
    have l1 : (x 1).val < sz := (x 1).isLt
    rw [← hx'] at e1
    rw [if_pos (show (y 1).val < q + sz by omega), hx']
    exact (View.canon_cons_emb _ w L x).trans (hw x)
  · refine (View.canon_cons_of_not_mem (⟨Rect.unit (s := (⟨2, ![m, n]⟩ : Shape)) ![0, q] ![m, sz] inb, w⟩ : View.Piece (Elt Ideal) _ e) L hy).trans ((hL y).trans ?_)
    by_cases h1 : (y 1).val < q
    · rw [if_pos h1, if_pos (by omega)]
    · have h2 : ¬ (y 1).val < q + sz := by
        intro h2
        refine hy (Rect.mem_set_unit.2 fun a => ?_)
        have h0 : (y 0).val < m := (y 0).isLt
        fin_cases a
        · exact ⟨Nat.zero_le _, by show (y 0).val < 0 + m; omega⟩
        · exact ⟨Nat.le_of_not_lt h1, h2⟩
      rw [if_neg h1, if_neg h2]

end Cert.KernelIdeal.Val

end
-- ==== Proof.Val.DeqA.lean ====
/- What run A of the body loads back of the tokens and the weight it dequantised. -/
module

public import proofs.«01_k».proof.Proof.Body.RunA
public import proofs.«01_k».proof.Proof.Val.Tiles

@[expose] public section

set_option maxRecDepth 16384
set_option maxHeartbeats 4000000

noncomputable section

namespace Cert.KernelIdeal.Body

open Idealize.ShloMosaic Idealize.ShloMosaic.TcCoe Idealize.ShloMosaic.Tactic Cert.KernelIdeal Cert.KernelIdeal.Gen Cert.KernelIdeal.Val Cert.Spec

variable (I : In)

/-- The pieces the dequantised tokens are stored in are tiles of them. -/
theorem A_xw_pieces (c : Dev nD) (arg1 : Memref sig .tc .vmem S256x4096 .fp8e4m3) (harg1 : arg1.IsWhole) (arg2 : Memref sig .tc .vmem S256x32 .f32) (harg2 : arg2.IsWhole) (x0 : Vec Ideal S256x4096 .fp8e4m3) (x1 : Vec Ideal S256x32 .f32) (hx0 : ∀ r d, x0 (ix2 r d) = I.x r.val d.val) (hx1 : ∀ r d, x1 (ix2 r d) = I.xs r.val d.val) : Pieces (at2 (XW I)) (kernelRun0_A.sl.HS1_32 (F := Ideal) c arg1 harg1 arg2 harg2 x0 x1) := by
  unfold kernelRun0_A.sl.HS1_32
  refine Pieces.cons (fun x => xpiece I harg1 harg2 x0 x1 hx0 hx1 31 3968 rfl _ _ x) ?_
  refine Pieces.cons (fun x => xpiece I harg1 harg2 x0 x1 hx0 hx1 30 3840 rfl _ _ x) ?_
  refine Pieces.cons (fun x => xpiece I harg1 harg2 x0 x1 hx0 hx1 29 3712 rfl _ _ x) ?_
  refine Pieces.cons (fun x => xpiece I harg1 harg2 x0 x1 hx0 hx1 28 3584 rfl _ _ x) ?_
  refine Pieces.cons (fun x => xpiece I harg1 harg2 x0 x1 hx0 hx1 27 3456 rfl _ _ x) ?_
  refine Pieces.cons (fun x => xpiece I harg1 harg2 x0 x1 hx0 hx1 26 3328 rfl _ _ x) ?_
  refine Pieces.cons (fun x => xpiece I harg1 harg2 x0 x1 hx0 hx1 25 3200 rfl _ _ x) ?_
  refine Pieces.cons (fun x => xpiece I harg1 harg2 x0 x1 hx0 hx1 24 3072 rfl _ _ x) ?_
  refine Pieces.cons (fun x => xpiece I harg1 harg2 x0 x1 hx0 hx1 23 2944 rfl _ _ x) ?_
  refine Pieces.cons (fun x => xpiece I harg1 harg2 x0 x1 hx0 hx1 22 2816 rfl _ _ x) ?_
  refine Pieces.cons (fun x => xpiece I harg1 harg2 x0 x1 hx0 hx1 21 2688 rfl _ _ x) ?_
  refine Pieces.cons (fun x => xpiece I harg1 harg2 x0 x1 hx0 hx1 20 2560 rfl _ _ x) ?_
  refine Pieces.cons (fun x => xpiece I harg1 harg2 x0 x1 hx0 hx1 19 2432 rfl _ _ x) ?_
  refine Pieces.cons (fun x => xpiece I harg1 harg2 x0 x1 hx0 hx1 18 2304 rfl _ _ x) ?_
  refine Pieces.cons (fun x => xpiece I harg1 harg2 x0 x1 hx0 hx1 17 2176 rfl _ _ x) ?_
  refine Pieces.cons (fun x => xpiece I harg1 harg2 x0 x1 hx0 hx1 16 2048 rfl _ _ x) ?_
  refine Pieces.cons (fun x => xpiece I harg1 harg2 x0 x1 hx0 hx1 15 1920 rfl _ _ x) ?_
  refine Pieces.cons (fun x => xpiece I harg1 harg2 x0 x1 hx0 hx1 14 1792 rfl _ _ x) ?_
  refine Pieces.cons (fun x => xpiece I harg1 harg2 x0 x1 hx0 hx1 13 1664 rfl _ _ x) ?_
  refine Pieces.cons (fun x => xpiece I harg1 harg2 x0 x1 hx0 hx1 12 1536 rfl _ _ x) ?_
  refine Pieces.cons (fun x => xpiece I harg1 harg2 x0 x1 hx0 hx1 11 1408 rfl _ _ x) ?_
  refine Pieces.cons (fun x => xpiece I harg1 harg2 x0 x1 hx0 hx1 10 1280 rfl _ _ x) ?_
  refine Pieces.cons (fun x => xpiece I harg1 harg2 x0 x1 hx0 hx1 9 1152 rfl _ _ x) ?_
  refine Pieces.cons (fun x => xpiece I harg1 harg2 x0 x1 hx0 hx1 8 1024 rfl _ _ x) ?_
  refine Pieces.cons (fun x => xpiece I harg1 harg2 x0 x1 hx0 hx1 7 896 rfl _ _ x) ?_
  refine Pieces.cons (fun x => xpiece I harg1 harg2 x0 x1 hx0 hx1 6 768 rfl _ _ x) ?_
  refine Pieces.cons (fun x => xpiece I harg1 harg2 x0 x1 hx0 hx1 5 640 rfl _ _ x) ?_
  refine Pieces.cons (fun x => xpiece I harg1 harg2 x0 x1 hx0 hx1 4 512 rfl _ _ x) ?_
  refine Pieces.cons (fun x => xpiece I harg1 harg2 x0 x1 hx0 hx1 3 384 rfl _ _ x) ?_
  refine Pieces.cons (fun x => xpiece I harg1 harg2 x0 x1 hx0 hx1 2 256 rfl _ _ x) ?_
  refine Pieces.cons (fun x => xpiece I harg1 harg2 x0 x1 hx0 hx1 1 128 rfl _ _ x) ?_
  refine Pieces.cons (fun x => xpiece I harg1 harg2 x0 x1 hx0 hx1 0 0 rfl _ _ x) ?_
  exact Pieces.nil _

/-- They cover the buffer. -/
theorem A_xw_cover (c : Dev nD) (arg1 : Memref sig .tc .vmem S256x4096 .fp8e4m3) (harg1 : arg1.IsWhole) (arg2 : Memref sig .tc .vmem S256x32 .f32) (harg2 : arg2.IsWhole) (x0 : Vec Ideal S256x4096 .fp8e4m3) (x1 : Vec Ideal S256x32 .f32) : ∀ y, ∃ p ∈ kernelRun0_A.sl.HS1_32 (F := Ideal) c arg1 harg1 arg2 harg2 x0 x1, y ∈ p.1.set :=
  View.cover_of_tiledL _ ![256, 128] (by sl_kernel_rfl)

/-- So the tokens loaded back are the tokens dequantised. -/
theorem A_xw (c : Dev nD) (arg1 : Memref sig .tc .vmem S256x4096 .fp8e4m3) (harg1 : arg1.IsWhole) (arg2 : Memref sig .tc .vmem S256x32 .f32) (harg2 : arg2.IsWhole) (arg17 : Memref sig .tc .vmem S256x4096 .bf16) (x0 : Vec Ideal S256x4096 .fp8e4m3) (x1 : Vec Ideal S256x32 .f32) (hx0 : ∀ r d, x0 (ix2 r d) = I.x r.val d.val) (hx1 : ∀ r d, x1 (ix2 r d) = I.xs r.val d.val) (r : Fin 256) (k : Fin 4096) : kernelRun0_A.sl.v387 (F := Ideal) c arg1 harg1 arg2 harg2 arg17 x0 x1 (ix2 r k) = XW I r.val k.val := by
  unfold kernelRun0_A.sl.v387
  refine (readCov_of_pieces arg17.view (A_xw_pieces I c arg1 harg1 arg2 harg2 x0 x1 hx0 hx1) (A_xw_cover c arg1 harg1 arg2 harg2 x0 x1) _ _).trans ?_
  rw [at2_emb, Nat.zero_add, Nat.zero_add]; rfl

/-- The pieces the dequantised weight is stored in are tiles of it. -/
theorem A_ww_pieces (c : Dev nD) (arg3 : Memref sig .tc .vmem S576x4096 .fp8e4m3) (harg3 : arg3.IsWhole) (arg4 : Memref sig .tc .smem S5x32 .f32) (harg4 : arg4.IsWhole) (x2 : Vec Ideal S576x4096 .fp8e4m3) (x3 : Vec Ideal S5x32 .f32) (hx2 : ∀ r d, x2 (ix2 r d) = I.w r.val d.val) (hx3 : ∀ r d, x3 (ix2 r d) = I.ws r.val d.val) : Pieces (at2 (WW I)) (kernelRun0_A.sl.HS0_160 (F := Ideal) c arg3 harg3 arg4 harg4 x2 x3) := by
  unfold kernelRun0_A.sl.HS0_160
  refine Pieces.cons (fun x => wpiece64 I harg3 harg4 x2 x3 hx2 hx3 4 31 512 3968 rfl rfl _ _ _ x) ?_
  refine Pieces.cons (fun x => wpiece64 I harg3 harg4 x2 x3 hx2 hx3 4 30 512 3840 rfl rfl _ _ _ x) ?_
  refine Pieces.cons (fun x => wpiece64 I harg3 harg4 x2 x3 hx2 hx3 4 29 512 3712 rfl rfl _ _ _ x) ?_
  refine Pieces.cons (fun x => wpiece64 I harg3 harg4 x2 x3 hx2 hx3 4 28 512 3584 rfl rfl _ _ _ x) ?_
  refine Pieces.cons (fun x => wpiece64 I harg3 harg4 x2 x3 hx2 hx3 4 27 512 3456 rfl rfl _ _ _ x) ?_
  refine Pieces.cons (fun x => wpiece64 I harg3 harg4 x2 x3 hx2 hx3 4 26 512 3328 rfl rfl _ _ _ x) ?_
  refine Pieces.cons (fun x => wpiece64 I harg3 harg4 x2 x3 hx2 hx3 4 25 512 3200 rfl rfl _ _ _ x) ?_
  refine Pieces.cons (fun x => wpiece64 I harg3 harg4 x2 x3 hx2 hx3 4 24 512 3072 rfl rfl _ _ _ x) ?_
  refine Pieces.cons (fun x => wpiece64 I harg3 harg4 x2 x3 hx2 hx3 4 23 512 2944 rfl rfl _ _ _ x) ?_
  refine Pieces.cons (fun x => wpiece64 I harg3 harg4 x2 x3 hx2 hx3 4 22 512 2816 rfl rfl _ _ _ x) ?_
  refine Pieces.cons (fun x => wpiece64 I harg3 harg4 x2 x3 hx2 hx3 4 21 512 2688 rfl rfl _ _ _ x) ?_
  refine Pieces.cons (fun x => wpiece64 I harg3 harg4 x2 x3 hx2 hx3 4 20 512 2560 rfl rfl _ _ _ x) ?_
  refine Pieces.cons (fun x => wpiece64 I harg3 harg4 x2 x3 hx2 hx3 4 19 512 2432 rfl rfl _ _ _ x) ?_
  refine Pieces.cons (fun x => wpiece64 I harg3 harg4 x2 x3 hx2 hx3 4 18 512 2304 rfl rfl _ _ _ x) ?_
  refine Pieces.cons (fun x => wpiece64 I harg3 harg4 x2 x3 hx2 hx3 4 17 512 2176 rfl rfl _ _ _ x) ?_
  refine Pieces.cons (fun x => wpiece64 I harg3 harg4 x2 x3 hx2 hx3 4 16 512 2048 rfl rfl _ _ _ x) ?_
  refine Pieces.cons (fun x => wpiece64 I harg3 harg4 x2 x3 hx2 hx3 4 15 512 1920 rfl rfl _ _ _ x) ?_
  refine Pieces.cons (fun x => wpiece64 I harg3 harg4 x2 x3 hx2 hx3 4 14 512 1792 rfl rfl _ _ _ x) ?_
  refine Pieces.cons (fun x => wpiece64 I harg3 harg4 x2 x3 hx2 hx3 4 13 512 1664 rfl rfl _ _ _ x) ?_
  refine Pieces.cons (fun x => wpiece64 I harg3 harg4 x2 x3 hx2 hx3 4 12 512 1536 rfl rfl _ _ _ x) ?_
  refine Pieces.cons (fun x => wpiece64 I harg3 harg4 x2 x3 hx2 hx3 4 11 512 1408 rfl rfl _ _ _ x) ?_
  refine Pieces.cons (fun x => wpiece64 I harg3 harg4 x2 x3 hx2 hx3 4 10 512 1280 rfl rfl _ _ _ x) ?_
  refine Pieces.cons (fun x => wpiece64 I harg3 harg4 x2 x3 hx2 hx3 4 9 512 1152 rfl rfl _ _ _ x) ?_
  refine Pieces.cons (fun x => wpiece64 I harg3 harg4 x2 x3 hx2 hx3 4 8 512 1024 rfl rfl _ _ _ x) ?_
  refine Pieces.cons (fun x => wpiece64 I harg3 harg4 x2 x3 hx2 hx3 4 7 512 896 rfl rfl _ _ _ x) ?_
  refine Pieces.cons (fun x => wpiece64 I harg3 harg4 x2 x3 hx2 hx3 4 6 512 768 rfl rfl _ _ _ x) ?_
  refine Pieces.cons (fun x => wpiece64 I harg3 harg4 x2 x3 hx2 hx3 4 5 512 640 rfl rfl _ _ _ x) ?_
  refine Pieces.cons (fun x => wpiece64 I harg3 harg4 x2 x3 hx2 hx3 4 4 512 512 rfl rfl _ _ _ x) ?_
  refine Pieces.cons (fun x => wpiece64 I harg3 harg4 x2 x3 hx2 hx3 4 3 512 384 rfl rfl _ _ _ x) ?_
  refine Pieces.cons (fun x => wpiece64 I harg3 harg4 x2 x3 hx2 hx3 4 2 512 256 rfl rfl _ _ _ x) ?_
  refine Pieces.cons (fun x => wpiece64 I harg3 harg4 x2 x3 hx2 hx3 4 1 512 128 rfl rfl _ _ _ x) ?_
  refine Pieces.cons (fun x => wpiece64 I harg3 harg4 x2 x3 hx2 hx3 4 0 512 0 rfl rfl _ _ _ x) ?_
  refine Pieces.cons (fun x => wpiece I harg3 harg4 x2 x3 hx2 hx3 3 31 384 3968 rfl rfl _ _ _ x) ?_
  refine Pieces.cons (fun x => wpiece I harg3 harg4 x2 x3 hx2 hx3 3 30 384 3840 rfl rfl _ _ _ x) ?_
  refine Pieces.cons (fun x => wpiece I harg3 harg4 x2 x3 hx2 hx3 3 29 384 3712 rfl rfl _ _ _ x) ?_
  refine Pieces.cons (fun x => wpiece I harg3 harg4 x2 x3 hx2 hx3 3 28 384 3584 rfl rfl _ _ _ x) ?_
  refine Pieces.cons (fun x => wpiece I harg3 harg4 x2 x3 hx2 hx3 3 27 384 3456 rfl rfl _ _ _ x) ?_
  refine Pieces.cons (fun x => wpiece I harg3 harg4 x2 x3 hx2 hx3 3 26 384 3328 rfl rfl _ _ _ x) ?_
  refine Pieces.cons (fun x => wpiece I harg3 harg4 x2 x3 hx2 hx3 3 25 384 3200 rfl rfl _ _ _ x) ?_
  refine Pieces.cons (fun x => wpiece I harg3 harg4 x2 x3 hx2 hx3 3 24 384 3072 rfl rfl _ _ _ x) ?_
  refine Pieces.cons (fun x => wpiece I harg3 harg4 x2 x3 hx2 hx3 3 23 384 2944 rfl rfl _ _ _ x) ?_
  refine Pieces.cons (fun x => wpiece I harg3 harg4 x2 x3 hx2 hx3 3 22 384 2816 rfl rfl _ _ _ x) ?_
  refine Pieces.cons (fun x => wpiece I harg3 harg4 x2 x3 hx2 hx3 3 21 384 2688 rfl rfl _ _ _ x) ?_
  refine Pieces.cons (fun x => wpiece I harg3 harg4 x2 x3 hx2 hx3 3 20 384 2560 rfl rfl _ _ _ x) ?_
  refine Pieces.cons (fun x => wpiece I harg3 harg4 x2 x3 hx2 hx3 3 19 384 2432 rfl rfl _ _ _ x) ?_
  refine Pieces.cons (fun x => wpiece I harg3 harg4 x2 x3 hx2 hx3 3 18 384 2304 rfl rfl _ _ _ x) ?_
  refine Pieces.cons (fun x => wpiece I harg3 harg4 x2 x3 hx2 hx3 3 17 384 2176 rfl rfl _ _ _ x) ?_
  refine Pieces.cons (fun x => wpiece I harg3 harg4 x2 x3 hx2 hx3 3 16 384 2048 rfl rfl _ _ _ x) ?_
  refine Pieces.cons (fun x => wpiece I harg3 harg4 x2 x3 hx2 hx3 3 15 384 1920 rfl rfl _ _ _ x) ?_
  refine Pieces.cons (fun x => wpiece I harg3 harg4 x2 x3 hx2 hx3 3 14 384 1792 rfl rfl _ _ _ x) ?_
  refine Pieces.cons (fun x => wpiece I harg3 harg4 x2 x3 hx2 hx3 3 13 384 1664 rfl rfl _ _ _ x) ?_
  refine Pieces.cons (fun x => wpiece I harg3 harg4 x2 x3 hx2 hx3 3 12 384 1536 rfl rfl _ _ _ x) ?_
  refine Pieces.cons (fun x => wpiece I harg3 harg4 x2 x3 hx2 hx3 3 11 384 1408 rfl rfl _ _ _ x) ?_
  refine Pieces.cons (fun x => wpiece I harg3 harg4 x2 x3 hx2 hx3 3 10 384 1280 rfl rfl _ _ _ x) ?_
  refine Pieces.cons (fun x => wpiece I harg3 harg4 x2 x3 hx2 hx3 3 9 384 1152 rfl rfl _ _ _ x) ?_
  refine Pieces.cons (fun x => wpiece I harg3 harg4 x2 x3 hx2 hx3 3 8 384 1024 rfl rfl _ _ _ x) ?_
  refine Pieces.cons (fun x => wpiece I harg3 harg4 x2 x3 hx2 hx3 3 7 384 896 rfl rfl _ _ _ x) ?_
  refine Pieces.cons (fun x => wpiece I harg3 harg4 x2 x3 hx2 hx3 3 6 384 768 rfl rfl _ _ _ x) ?_
  refine Pieces.cons (fun x => wpiece I harg3 harg4 x2 x3 hx2 hx3 3 5 384 640 rfl rfl _ _ _ x) ?_
  refine Pieces.cons (fun x => wpiece I harg3 harg4 x2 x3 hx2 hx3 3 4 384 512 rfl rfl _ _ _ x) ?_
  refine Pieces.cons (fun x => wpiece I harg3 harg4 x2 x3 hx2 hx3 3 3 384 384 rfl rfl _ _ _ x) ?_
  refine Pieces.cons (fun x => wpiece I harg3 harg4 x2 x3 hx2 hx3 3 2 384 256 rfl rfl _ _ _ x) ?_
  refine Pieces.cons (fun x => wpiece I harg3 harg4 x2 x3 hx2 hx3 3 1 384 128 rfl rfl _ _ _ x) ?_
  refine Pieces.cons (fun x => wpiece I harg3 harg4 x2 x3 hx2 hx3 3 0 384 0 rfl rfl _ _ _ x) ?_
  refine Pieces.cons (fun x => wpiece I harg3 harg4 x2 x3 hx2 hx3 2 31 256 3968 rfl rfl _ _ _ x) ?_
  refine Pieces.cons (fun x => wpiece I harg3 harg4 x2 x3 hx2 hx3 2 30 256 3840 rfl rfl _ _ _ x) ?_
  refine Pieces.cons (fun x => wpiece I harg3 harg4 x2 x3 hx2 hx3 2 29 256 3712 rfl rfl _ _ _ x) ?_
  refine Pieces.cons (fun x => wpiece I harg3 harg4 x2 x3 hx2 hx3 2 28 256 3584 rfl rfl _ _ _ x) ?_
  refine Pieces.cons (fun x => wpiece I harg3 harg4 x2 x3 hx2 hx3 2 27 256 3456 rfl rfl _ _ _ x) ?_
  refine Pieces.cons (fun x => wpiece I harg3 harg4 x2 x3 hx2 hx3 2 26 256 3328 rfl rfl _ _ _ x) ?_
  refine Pieces.cons (fun x => wpiece I harg3 harg4 x2 x3 hx2 hx3 2 25 256 3200 rfl rfl _ _ _ x) ?_
  refine Pieces.cons (fun x => wpiece I harg3 harg4 x2 x3 hx2 hx3 2 24 256 3072 rfl rfl _ _ _ x) ?_
  refine Pieces.cons (fun x => wpiece I harg3 harg4 x2 x3 hx2 hx3 2 23 256 2944 rfl rfl _ _ _ x) ?_
  refine Pieces.cons (fun x => wpiece I harg3 harg4 x2 x3 hx2 hx3 2 22 256 2816 rfl rfl _ _ _ x) ?_
  refine Pieces.cons (fun x => wpiece I harg3 harg4 x2 x3 hx2 hx3 2 21 256 2688 rfl rfl _ _ _ x) ?_
  refine Pieces.cons (fun x => wpiece I harg3 harg4 x2 x3 hx2 hx3 2 20 256 2560 rfl rfl _ _ _ x) ?_
  refine Pieces.cons (fun x => wpiece I harg3 harg4 x2 x3 hx2 hx3 2 19 256 2432 rfl rfl _ _ _ x) ?_
  refine Pieces.cons (fun x => wpiece I harg3 harg4 x2 x3 hx2 hx3 2 18 256 2304 rfl rfl _ _ _ x) ?_
  refine Pieces.cons (fun x => wpiece I harg3 harg4 x2 x3 hx2 hx3 2 17 256 2176 rfl rfl _ _ _ x) ?_
  refine Pieces.cons (fun x => wpiece I harg3 harg4 x2 x3 hx2 hx3 2 16 256 2048 rfl rfl _ _ _ x) ?_
  refine Pieces.cons (fun x => wpiece I harg3 harg4 x2 x3 hx2 hx3 2 15 256 1920 rfl rfl _ _ _ x) ?_
  refine Pieces.cons (fun x => wpiece I harg3 harg4 x2 x3 hx2 hx3 2 14 256 1792 rfl rfl _ _ _ x) ?_
  refine Pieces.cons (fun x => wpiece I harg3 harg4 x2 x3 hx2 hx3 2 13 256 1664 rfl rfl _ _ _ x) ?_
  refine Pieces.cons (fun x => wpiece I harg3 harg4 x2 x3 hx2 hx3 2 12 256 1536 rfl rfl _ _ _ x) ?_
  refine Pieces.cons (fun x => wpiece I harg3 harg4 x2 x3 hx2 hx3 2 11 256 1408 rfl rfl _ _ _ x) ?_
  refine Pieces.cons (fun x => wpiece I harg3 harg4 x2 x3 hx2 hx3 2 10 256 1280 rfl rfl _ _ _ x) ?_
  refine Pieces.cons (fun x => wpiece I harg3 harg4 x2 x3 hx2 hx3 2 9 256 1152 rfl rfl _ _ _ x) ?_
  refine Pieces.cons (fun x => wpiece I harg3 harg4 x2 x3 hx2 hx3 2 8 256 1024 rfl rfl _ _ _ x) ?_
  refine Pieces.cons (fun x => wpiece I harg3 harg4 x2 x3 hx2 hx3 2 7 256 896 rfl rfl _ _ _ x) ?_
  refine Pieces.cons (fun x => wpiece I harg3 harg4 x2 x3 hx2 hx3 2 6 256 768 rfl rfl _ _ _ x) ?_
  refine Pieces.cons (fun x => wpiece I harg3 harg4 x2 x3 hx2 hx3 2 5 256 640 rfl rfl _ _ _ x) ?_
  refine Pieces.cons (fun x => wpiece I harg3 harg4 x2 x3 hx2 hx3 2 4 256 512 rfl rfl _ _ _ x) ?_
  refine Pieces.cons (fun x => wpiece I harg3 harg4 x2 x3 hx2 hx3 2 3 256 384 rfl rfl _ _ _ x) ?_
  refine Pieces.cons (fun x => wpiece I harg3 harg4 x2 x3 hx2 hx3 2 2 256 256 rfl rfl _ _ _ x) ?_
  refine Pieces.cons (fun x => wpiece I harg3 harg4 x2 x3 hx2 hx3 2 1 256 128 rfl rfl _ _ _ x) ?_
  refine Pieces.cons (fun x => wpiece I harg3 harg4 x2 x3 hx2 hx3 2 0 256 0 rfl rfl _ _ _ x) ?_
  refine Pieces.cons (fun x => wpiece I harg3 harg4 x2 x3 hx2 hx3 1 31 128 3968 rfl rfl _ _ _ x) ?_
  refine Pieces.cons (fun x => wpiece I harg3 harg4 x2 x3 hx2 hx3 1 30 128 3840 rfl rfl _ _ _ x) ?_
  refine Pieces.cons (fun x => wpiece I harg3 harg4 x2 x3 hx2 hx3 1 29 128 3712 rfl rfl _ _ _ x) ?_
  refine Pieces.cons (fun x => wpiece I harg3 harg4 x2 x3 hx2 hx3 1 28 128 3584 rfl rfl _ _ _ x) ?_
  refine Pieces.cons (fun x => wpiece I harg3 harg4 x2 x3 hx2 hx3 1 27 128 3456 rfl rfl _ _ _ x) ?_
  refine Pieces.cons (fun x => wpiece I harg3 harg4 x2 x3 hx2 hx3 1 26 128 3328 rfl rfl _ _ _ x) ?_
  refine Pieces.cons (fun x => wpiece I harg3 harg4 x2 x3 hx2 hx3 1 25 128 3200 rfl rfl _ _ _ x) ?_
  refine Pieces.cons (fun x => wpiece I harg3 harg4 x2 x3 hx2 hx3 1 24 128 3072 rfl rfl _ _ _ x) ?_
  refine Pieces.cons (fun x => wpiece I harg3 harg4 x2 x3 hx2 hx3 1 23 128 2944 rfl rfl _ _ _ x) ?_
  refine Pieces.cons (fun x => wpiece I harg3 harg4 x2 x3 hx2 hx3 1 22 128 2816 rfl rfl _ _ _ x) ?_
  refine Pieces.cons (fun x => wpiece I harg3 harg4 x2 x3 hx2 hx3 1 21 128 2688 rfl rfl _ _ _ x) ?_
  refine Pieces.cons (fun x => wpiece I harg3 harg4 x2 x3 hx2 hx3 1 20 128 2560 rfl rfl _ _ _ x) ?_
  refine Pieces.cons (fun x => wpiece I harg3 harg4 x2 x3 hx2 hx3 1 19 128 2432 rfl rfl _ _ _ x) ?_
  refine Pieces.cons (fun x => wpiece I harg3 harg4 x2 x3 hx2 hx3 1 18 128 2304 rfl rfl _ _ _ x) ?_
  refine Pieces.cons (fun x => wpiece I harg3 harg4 x2 x3 hx2 hx3 1 17 128 2176 rfl rfl _ _ _ x) ?_
  refine Pieces.cons (fun x => wpiece I harg3 harg4 x2 x3 hx2 hx3 1 16 128 2048 rfl rfl _ _ _ x) ?_
  refine Pieces.cons (fun x => wpiece I harg3 harg4 x2 x3 hx2 hx3 1 15 128 1920 rfl rfl _ _ _ x) ?_
  refine Pieces.cons (fun x => wpiece I harg3 harg4 x2 x3 hx2 hx3 1 14 128 1792 rfl rfl _ _ _ x) ?_
  refine Pieces.cons (fun x => wpiece I harg3 harg4 x2 x3 hx2 hx3 1 13 128 1664 rfl rfl _ _ _ x) ?_
  refine Pieces.cons (fun x => wpiece I harg3 harg4 x2 x3 hx2 hx3 1 12 128 1536 rfl rfl _ _ _ x) ?_
  refine Pieces.cons (fun x => wpiece I harg3 harg4 x2 x3 hx2 hx3 1 11 128 1408 rfl rfl _ _ _ x) ?_
  refine Pieces.cons (fun x => wpiece I harg3 harg4 x2 x3 hx2 hx3 1 10 128 1280 rfl rfl _ _ _ x) ?_
  refine Pieces.cons (fun x => wpiece I harg3 harg4 x2 x3 hx2 hx3 1 9 128 1152 rfl rfl _ _ _ x) ?_
  refine Pieces.cons (fun x => wpiece I harg3 harg4 x2 x3 hx2 hx3 1 8 128 1024 rfl rfl _ _ _ x) ?_
  refine Pieces.cons (fun x => wpiece I harg3 harg4 x2 x3 hx2 hx3 1 7 128 896 rfl rfl _ _ _ x) ?_
  refine Pieces.cons (fun x => wpiece I harg3 harg4 x2 x3 hx2 hx3 1 6 128 768 rfl rfl _ _ _ x) ?_
  refine Pieces.cons (fun x => wpiece I harg3 harg4 x2 x3 hx2 hx3 1 5 128 640 rfl rfl _ _ _ x) ?_
  refine Pieces.cons (fun x => wpiece I harg3 harg4 x2 x3 hx2 hx3 1 4 128 512 rfl rfl _ _ _ x) ?_
  refine Pieces.cons (fun x => wpiece I harg3 harg4 x2 x3 hx2 hx3 1 3 128 384 rfl rfl _ _ _ x) ?_
  refine Pieces.cons (fun x => wpiece I harg3 harg4 x2 x3 hx2 hx3 1 2 128 256 rfl rfl _ _ _ x) ?_
  refine Pieces.cons (fun x => wpiece I harg3 harg4 x2 x3 hx2 hx3 1 1 128 128 rfl rfl _ _ _ x) ?_
  refine Pieces.cons (fun x => wpiece I harg3 harg4 x2 x3 hx2 hx3 1 0 128 0 rfl rfl _ _ _ x) ?_
  refine Pieces.cons (fun x => wpiece I harg3 harg4 x2 x3 hx2 hx3 0 31 0 3968 rfl rfl _ _ _ x) ?_
  refine Pieces.cons (fun x => wpiece I harg3 harg4 x2 x3 hx2 hx3 0 30 0 3840 rfl rfl _ _ _ x) ?_
  refine Pieces.cons (fun x => wpiece I harg3 harg4 x2 x3 hx2 hx3 0 29 0 3712 rfl rfl _ _ _ x) ?_
  refine Pieces.cons (fun x => wpiece I harg3 harg4 x2 x3 hx2 hx3 0 28 0 3584 rfl rfl _ _ _ x) ?_
  refine Pieces.cons (fun x => wpiece I harg3 harg4 x2 x3 hx2 hx3 0 27 0 3456 rfl rfl _ _ _ x) ?_
  refine Pieces.cons (fun x => wpiece I harg3 harg4 x2 x3 hx2 hx3 0 26 0 3328 rfl rfl _ _ _ x) ?_
  refine Pieces.cons (fun x => wpiece I harg3 harg4 x2 x3 hx2 hx3 0 25 0 3200 rfl rfl _ _ _ x) ?_
  refine Pieces.cons (fun x => wpiece I harg3 harg4 x2 x3 hx2 hx3 0 24 0 3072 rfl rfl _ _ _ x) ?_
  refine Pieces.cons (fun x => wpiece I harg3 harg4 x2 x3 hx2 hx3 0 23 0 2944 rfl rfl _ _ _ x) ?_
  refine Pieces.cons (fun x => wpiece I harg3 harg4 x2 x3 hx2 hx3 0 22 0 2816 rfl rfl _ _ _ x) ?_
  refine Pieces.cons (fun x => wpiece I harg3 harg4 x2 x3 hx2 hx3 0 21 0 2688 rfl rfl _ _ _ x) ?_
  refine Pieces.cons (fun x => wpiece I harg3 harg4 x2 x3 hx2 hx3 0 20 0 2560 rfl rfl _ _ _ x) ?_
  refine Pieces.cons (fun x => wpiece I harg3 harg4 x2 x3 hx2 hx3 0 19 0 2432 rfl rfl _ _ _ x) ?_
  refine Pieces.cons (fun x => wpiece I harg3 harg4 x2 x3 hx2 hx3 0 18 0 2304 rfl rfl _ _ _ x) ?_
  refine Pieces.cons (fun x => wpiece I harg3 harg4 x2 x3 hx2 hx3 0 17 0 2176 rfl rfl _ _ _ x) ?_
  refine Pieces.cons (fun x => wpiece I harg3 harg4 x2 x3 hx2 hx3 0 16 0 2048 rfl rfl _ _ _ x) ?_
  refine Pieces.cons (fun x => wpiece I harg3 harg4 x2 x3 hx2 hx3 0 15 0 1920 rfl rfl _ _ _ x) ?_
  refine Pieces.cons (fun x => wpiece I harg3 harg4 x2 x3 hx2 hx3 0 14 0 1792 rfl rfl _ _ _ x) ?_
  refine Pieces.cons (fun x => wpiece I harg3 harg4 x2 x3 hx2 hx3 0 13 0 1664 rfl rfl _ _ _ x) ?_
  refine Pieces.cons (fun x => wpiece I harg3 harg4 x2 x3 hx2 hx3 0 12 0 1536 rfl rfl _ _ _ x) ?_
  refine Pieces.cons (fun x => wpiece I harg3 harg4 x2 x3 hx2 hx3 0 11 0 1408 rfl rfl _ _ _ x) ?_
  refine Pieces.cons (fun x => wpiece I harg3 harg4 x2 x3 hx2 hx3 0 10 0 1280 rfl rfl _ _ _ x) ?_
  refine Pieces.cons (fun x => wpiece I harg3 harg4 x2 x3 hx2 hx3 0 9 0 1152 rfl rfl _ _ _ x) ?_
  refine Pieces.cons (fun x => wpiece I harg3 harg4 x2 x3 hx2 hx3 0 8 0 1024 rfl rfl _ _ _ x) ?_
  refine Pieces.cons (fun x => wpiece I harg3 harg4 x2 x3 hx2 hx3 0 7 0 896 rfl rfl _ _ _ x) ?_
  refine Pieces.cons (fun x => wpiece I harg3 harg4 x2 x3 hx2 hx3 0 6 0 768 rfl rfl _ _ _ x) ?_
  refine Pieces.cons (fun x => wpiece I harg3 harg4 x2 x3 hx2 hx3 0 5 0 640 rfl rfl _ _ _ x) ?_
  refine Pieces.cons (fun x => wpiece I harg3 harg4 x2 x3 hx2 hx3 0 4 0 512 rfl rfl _ _ _ x) ?_
  refine Pieces.cons (fun x => wpiece I harg3 harg4 x2 x3 hx2 hx3 0 3 0 384 rfl rfl _ _ _ x) ?_
  refine Pieces.cons (fun x => wpiece I harg3 harg4 x2 x3 hx2 hx3 0 2 0 256 rfl rfl _ _ _ x) ?_
  refine Pieces.cons (fun x => wpiece I harg3 harg4 x2 x3 hx2 hx3 0 1 0 128 rfl rfl _ _ _ x) ?_
  refine Pieces.cons (fun x => wpiece I harg3 harg4 x2 x3 hx2 hx3 0 0 0 0 rfl rfl _ _ _ x) ?_
  exact Pieces.nil _

/-- They cover the buffer. -/
theorem A_ww_cover (c : Dev nD) (arg3 : Memref sig .tc .vmem S576x4096 .fp8e4m3) (harg3 : arg3.IsWhole) (arg4 : Memref sig .tc .smem S5x32 .f32) (harg4 : arg4.IsWhole) (x2 : Vec Ideal S576x4096 .fp8e4m3) (x3 : Vec Ideal S5x32 .f32) : ∀ y, ∃ p ∈ kernelRun0_A.sl.HS0_160 (F := Ideal) c arg3 harg3 arg4 harg4 x2 x3, y ∈ p.1.set :=
  View.cover_of_tiledBy _ ![64, 128] (by sl_kernel_rfl)

/-- So the weight's first 512 rows loaded back are the weight dequantised. -/
theorem A_v388 (c : Dev nD) (arg3 : Memref sig .tc .vmem S576x4096 .fp8e4m3) (harg3 : arg3.IsWhole) (arg4 : Memref sig .tc .smem S5x32 .f32) (harg4 : arg4.IsWhole) (arg16 : Memref sig .tc .vmem S576x4096 .bf16) (x2 : Vec Ideal S576x4096 .fp8e4m3) (x3 : Vec Ideal S5x32 .f32) (hx2 : ∀ r d, x2 (ix2 r d) = I.w r.val d.val) (hx3 : ∀ r d, x3 (ix2 r d) = I.ws r.val d.val) (r : Fin 512) (k : Fin 4096) : kernelRun0_A.sl.v388 (F := Ideal) c arg3 harg3 arg4 harg4 arg16 x2 x3 (ix2 r k) = WW I r.val k.val := by
  unfold kernelRun0_A.sl.v388
  refine (readCov_of_pieces arg16.view (A_ww_pieces I c arg3 harg3 arg4 harg4 x2 x3 hx2 hx3) (A_ww_cover c arg3 harg3 arg4 harg4 x2 x3) _ _).trans ?_
  rw [at2_emb, Nat.zero_add, Nat.zero_add]; rfl

/-- So the weight's first 576 rows loaded back are the weight dequantised. -/
theorem A_v1667 (c : Dev nD) (arg3 : Memref sig .tc .vmem S576x4096 .fp8e4m3) (harg3 : arg3.IsWhole) (arg4 : Memref sig .tc .smem S5x32 .f32) (harg4 : arg4.IsWhole) (arg16 : Memref sig .tc .vmem S576x4096 .bf16) (x2 : Vec Ideal S576x4096 .fp8e4m3) (x3 : Vec Ideal S5x32 .f32) (hx2 : ∀ r d, x2 (ix2 r d) = I.w r.val d.val) (hx3 : ∀ r d, x3 (ix2 r d) = I.ws r.val d.val) (r : Fin 576) (k : Fin 4096) : kernelRun0_A.sl.v1667 (F := Ideal) c arg3 harg3 arg4 harg4 arg16 x2 x3 (ix2 r k) = WW I r.val k.val := by
  unfold kernelRun0_A.sl.v1667
  refine (readCov_of_pieces arg16.view (A_ww_pieces I c arg3 harg3 arg4 harg4 x2 x3 hx2 hx3) (A_ww_cover c arg3 harg3 arg4 harg4 x2 x3) _ _).trans ?_
  rw [at2_emb, Nat.zero_add, Nat.zero_add]; rfl

end Cert.KernelIdeal.Body

end
-- ==== Proof.Val.Step.lean ====
/- The values the kernel's body computes from the dequantised tokens and weight, one element at a time: the gradient of the
   norm, the rotary gradient, the gain's rows and the two products. -/
module

public import proofs.«01_k».proof.Proof.Gen.KernelIdeal.Skeleton
public import proofs.«01_k».proof.Proof.Spec

@[expose] public section

set_option maxHeartbeats 1600000

noncomputable section

namespace Cert.KernelIdeal.Val

open Idealize.ShloMosaic Cert.KernelIdeal Cert.KernelIdeal.Gen Cert.Spec

variable (I : In)

/-- The norm's gradient. -/
theorem dc_pay (v387 : FVec Ideal S256x4096 .bf16) (v388 : FVec Ideal S512x4096 .bf16) (v392 : FVec Ideal S256x512 .bf16)
    (v403 : FVec Ideal S1x512 .f32) (h1 : ∀ r o, v387 (ix2 r o) = XW I r.val o.val) (h2 : ∀ r o, v388 (ix2 r o) = WW I r.val o.val)
    (h3 : ∀ r o, v392 (ix2 r o) = I.dc r.val o.val) (h4 : ∀ o, v403 (ix2 0 o) = I.gain o.val) (a : Fin 256) (b : Fin 512) :
    k0_pay240 (F := Ideal) (k0_pay238 (F := Ideal) v387 v388 v392 v403) (k0_pay239 (F := Ideal) v387 v388) (ix2 a b) =
      G I a.val b.val := by
  rw [G, if_pos b.isLt]
  unfold_payloads
  pointwise [h1,h2,h3,h4,dot_S256x4096_S512x4096_S256x512_1_1_0_0_n_n]
  simp only [DC, RSTD, DH, mean, C]

/-- The gain's row of the first run of tokens. -/
theorem dgain0_pay (n : BitVec 32) (w : FVec Ideal S16x512 .f32) (v387 : FVec Ideal S256x4096 .bf16) (v388 : FVec Ideal S512x4096 .bf16)
    (v392 : FVec Ideal S256x512 .bf16)
    (h1 : ∀ r o, v387 (ix2 r o) = XW I r.val o.val) (h2 : ∀ r o, v388 (ix2 r o) = WW I r.val o.val)
    (h3 : ∀ r o, v392 (ix2 r o) = I.dc r.val o.val) (a : Fin 16) (b : Fin 512) :
    k0_pay242 (F := Ideal) n (k0_pay235 (F := Ideal) v387 v388) (k0_pay236 (F := Ideal) v392) (k0_pay237 (F := Ideal) v387 v388) w (ix2 a b) =
      if BitVec.ofNat 32 a.val = Scalar.addi (Scalar.muli n 2#32) 0#32 then DGAIN I 0 b.val else w (ix2 a b) := by
  unfold_payloads
  pointwise [h1,h2,h3,dot_S256x4096_S512x4096_S256x512_1_1_0_0_n_n]
  simp only [DGAIN, GP, RSTD, mean, C, sel_eq, Nat.zero_add] <;> rfl

/-- The gain's row of the second run of tokens. -/
theorem dgain1_pay (n : BitVec 32) (w : FVec Ideal S16x512 .f32) (v387 : FVec Ideal S256x4096 .bf16) (v388 : FVec Ideal S512x4096 .bf16)
    (v392 : FVec Ideal S256x512 .bf16)
    (h1 : ∀ r o, v387 (ix2 r o) = XW I r.val o.val) (h2 : ∀ r o, v388 (ix2 r o) = WW I r.val o.val)
    (h3 : ∀ r o, v392 (ix2 r o) = I.dc r.val o.val) (a : Fin 16) (b : Fin 512) :
    k0_pay328 (F := Ideal) n (k0_pay241 (F := Ideal) (k0_pay235 (F := Ideal) v387 v388) (k0_pay236 (F := Ideal) v392) (k0_pay237 (F := Ideal) v387 v388)) w (ix2 a b) =
      if BitVec.ofNat 32 a.val = Scalar.addi (Scalar.muli n 2#32) 1#32 then DGAIN I 128 b.val else w (ix2 a b) := by
  unfold_payloads
  pointwise [h1,h2,h3,dot_S256x4096_S512x4096_S256x512_1_1_0_0_n_n]
  simp only [DGAIN, GP, RSTD, mean, C, sel_eq, Nat.zero_add] <;> rfl

/-- The product with the weight. -/
theorem dx_pay (g : FVec Ideal S256x576 .bf16) (w : FVec Ideal S576x4096 .bf16) (hg : ∀ r d, g (ix2 r d) = GB (G I) r.val d.val)
    (hw : ∀ r d, w (ix2 r d) = WW I r.val d.val) (a : Fin 256) (b : Fin 4096) :
    k0_pay419 (F := Ideal) g w (ix2 a b) = DX I a.val b.val := by
  unfold_payloads
  pointwise [hg, hw, dot_S256x576_S576x4096_S256x4096_1_0_0_1_n_n]
  simp only [DX] <;> rfl

/-- The product with the tokens, added to what the buffer held. -/
theorem dw_pay (old : FVec Ideal S576x4096 .f32) (g : FVec Ideal S256x576 .bf16) (x : FVec Ideal S256x4096 .bf16)
    (hg : ∀ r d, g (ix2 r d) = GT (G I) r.val d.val) (hx : ∀ r d, x (ix2 r d) = XW I r.val d.val) (a : Fin 576) (b : Fin 4096) :
    k0_pay1 (F := Ideal) (k0_pay421 (F := Ideal) old) g x (ix2 a b) = old (ix2 a b) + DWpart I 0 256 a.val b.val := by
  unfold_payloads
  pointwise [hg, hx, dot_S256x576_S256x4096_S576x4096_0_0_1_1_n_n]
  simp only [DWpart, Nat.zero_add] <;> rfl

/-- The zeros `dw` starts from. -/
theorem zero_pay (y : S576x4096.Idx) : k0_pay420 (F := Ideal) y = 0 := by
  rw [eq_ix2 y]
  unfold_payloads
  pointwise

/-- A lane number shifted right by one is its half. -/
theorem shr_half : ∀ b : Fin 64, IntOp.shrsi ArithUnit.vector (BitVec.ofNat 32 b.val) 1#32 = BitVec.ofNat 32 (b.val / 2) := by decide
/-- A lane number's last bit is its parity. -/
theorem and_even : ∀ b : Fin 64, IntOp.andi (BitVec.ofNat 32 b.val) 1#32 = if b.val % 2 = 0 then 0#32 else 1#32 := by decide

/-- The rotary gradient of the first run of tokens. -/
theorem rope0_pay (x : FVec Ideal S128x64 .bf16) (p : Vec Ideal S1x128 .i32)
    (hx : ∀ r l, x (ix2 r l) = I.dk r.val l.val) (hp : ∀ r, p (ix2 0 r) = I.pos r.val) (a : Fin 128) (b : Fin 64) :
    k0_pay246 (F := Ideal) (k0_pay243 (F := Ideal) x) (k0_pay244 p) k0_pay245 1#32 (ix2 a b) = G I a.val (512 + b.val) := by
  rw [G, if_neg (by omega), Nat.add_sub_cancel_left]
  unfold_payloads
  pointwise [hx, hp]
  have hb : (b.val + 128 - 64) % 128 = b.val + 64 := by omega
  rw [hb, dif_neg (show ¬ (b.val + 64 < 64) by omega), Nat.add_sub_cancel, shr_half, and_even, sel_eq, sel_eq]
  by_cases h : b.val % 2 = 0
  · have h1 : (b.val + 128 - 127) % 128 = b.val + 1 := by omega
    rw [h1, dif_pos (show b.val + 1 < 64 by omega), if_pos h, if_pos rfl, if_neg (by decide), DKR, if_pos h]
    rfl
  · have h1 : (b.val + 128 - 1) % 128 = b.val - 1 := by omega
    rw [h1, dif_pos (show b.val - 1 < 64 by omega), if_neg h, if_neg (by decide), if_pos rfl, DKR, if_neg h]
    rfl

/-- The rotary gradient of the second run of tokens. -/
theorem rope1_pay (x : FVec Ideal S128x64 .bf16) (p : Vec Ideal S1x128 .i32)
    (hx : ∀ r l, x (ix2 r l) = I.dk (128 + r.val) l.val) (hp : ∀ r, p (ix2 0 r) = I.pos (128 + r.val)) (a : Fin 128) (b : Fin 64) :
    k0_pay334 (F := Ideal) (k0_pay329 (F := Ideal) x) k0_pay331 (k0_pay332 p) (k0_pay333 p) (ix2 a b) = G I (128 + a.val) (512 + b.val) := by
  rw [G, if_neg (by omega), Nat.add_sub_cancel_left]
  unfold_payloads
  pointwise [hx, hp]
  have hb : (b.val + 128 - 64) % 128 = b.val + 64 := by omega
  rw [hb, dif_neg (show ¬ (b.val + 64 < 64) by omega), Nat.add_sub_cancel, shr_half, and_even, sel_eq, sel_eq]
  by_cases h : b.val % 2 = 0
  · have h1 : (b.val + 128 - 127) % 128 = b.val + 1 := by omega
    rw [h1, dif_pos (show b.val + 1 < 64 by omega), if_pos h, if_pos rfl, if_neg (by decide), DKR, if_pos h]
    rfl
  · have h1 : (b.val + 128 - 1) % 128 = b.val - 1 := by omega
    rw [h1, dif_pos (show b.val - 1 < 64 by omega), if_neg h, if_neg (by decide), if_pos rfl, DKR, if_neg h]
    rfl

end Cert.KernelIdeal.Val

end
-- ==== Proof.Pay.Code.lean ====
/- The pieces the kernel stores, read one element at a time: the code stored, for the two runs of 128 tokens of a
   block and the five column groups. -/
module

public import proofs.«01_k».proof.Proof.Gen.KernelIdeal.Skeleton
public import proofs.«01_k».proof.Proof.Spec

@[expose] public section

set_option maxHeartbeats 1600000

noncomputable section

namespace Cert.KernelIdeal.Val

open Idealize.ShloMosaic Cert.KernelIdeal Cert.KernelIdeal.Gen Cert.Spec

/-- The code stored for run 0 of the block's tokens and column group 0. -/
theorem code_0_0 (Gf : ℕ → ℕ → EReal) (v : FVec Ideal S256x512 .f32) (hv : ∀ r d, v (ix2 r d) = Gf r.val d.val)
    (a : Fin 128) (b : Fin 128) :
    k0_pay255 (F := Ideal) (k0_pay247 v) (k0_pay251 v) (k0_pay252 v) (ix2 a b) = CODE Gf (0 + a.val) (0 + b.val) := by
  rw [CODE_of Gf (g := 0) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The code stored for run 0 of the block's tokens and column group 1. -/
theorem code_0_1 (Gf : ℕ → ℕ → EReal) (v : FVec Ideal S256x512 .f32) (hv : ∀ r d, v (ix2 r d) = Gf r.val d.val)
    (a : Fin 128) (b : Fin 128) :
    k0_pay272 (F := Ideal) (k0_pay266 v) (k0_pay270 v) k0_pay271  (ix2 a b) = CODE Gf (0 + a.val) (128 + b.val) := by
  rw [CODE_of Gf (g := 1) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The code stored for run 0 of the block's tokens and column group 2. -/
theorem code_0_2 (Gf : ℕ → ℕ → EReal) (v : FVec Ideal S256x512 .f32) (hv : ∀ r d, v (ix2 r d) = Gf r.val d.val)
    (a : Fin 128) (b : Fin 128) :
    k0_pay288 (F := Ideal) (k0_pay283 v) (k0_pay285 v) (ix2 a b) = CODE Gf (0 + a.val) (256 + b.val) := by
  rw [CODE_of Gf (g := 2) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The code stored for run 0 of the block's tokens and column group 3. -/
theorem code_0_3 (Gf : ℕ → ℕ → EReal) (v : FVec Ideal S256x512 .f32) (hv : ∀ r d, v (ix2 r d) = Gf r.val d.val)
    (a : Fin 128) (b : Fin 128) :
    k0_pay304 (F := Ideal) (k0_pay296 v) (k0_pay299 v) (k0_pay300 v) k0_pay301  (ix2 a b) = CODE Gf (0 + a.val) (384 + b.val) := by
  rw [CODE_of Gf (g := 3) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The code stored for run 0 of the block's tokens and column group 4. -/
theorem code_0_4 (Gf : ℕ → ℕ → EReal) (v : FVec Ideal S128x64 .f32) (hv : ∀ r d, v (ix2 r d) = Gf (r.val) (512 + d.val))
    (a : Fin 128) (b : Fin 64) :
    k0_pay317 (F := Ideal) v (k0_pay315 v) (ix2 a b) = CODE Gf (0 + a.val) (512 + b.val) := by
  rw [CODE_of Gf (g := 4) (n := 64) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The code stored for run 1 of the block's tokens and column group 0. -/
theorem code_1_0 (Gf : ℕ → ℕ → EReal) (v : FVec Ideal S256x512 .f32) (hv : ∀ r d, v (ix2 r d) = Gf r.val d.val)
    (a : Fin 128) (b : Fin 128) :
    k0_pay343 (F := Ideal) (k0_pay335 v) (k0_pay339 v) (k0_pay340 v) 0#32 (ix2 a b) = CODE Gf (128 + a.val) (0 + b.val) := by
  rw [CODE_of Gf (g := 0) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The code stored for run 1 of the block's tokens and column group 1. -/
theorem code_1_1 (Gf : ℕ → ℕ → EReal) (v : FVec Ideal S256x512 .f32) (hv : ∀ r d, v (ix2 r d) = Gf r.val d.val)
    (a : Fin 128) (b : Fin 128) :
    k0_pay361 (F := Ideal) (k0_pay360 v) (ix2 a b) = CODE Gf (128 + a.val) (128 + b.val) := by
  rw [CODE_of Gf (g := 1) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The code stored for run 1 of the block's tokens and column group 2. -/
theorem code_1_2 (Gf : ℕ → ℕ → EReal) (v : FVec Ideal S256x512 .f32) (hv : ∀ r d, v (ix2 r d) = Gf r.val d.val)
    (a : Fin 128) (b : Fin 128) :
    k0_pay374 (F := Ideal) (k0_pay368 v) (k0_pay370 v) (k0_pay371 v) (FloatOps.ofBits FTy.f32 0#32) (ix2 a b) = CODE Gf (128 + a.val) (256 + b.val) := by
  rw [CODE_of Gf (g := 2) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The code stored for run 1 of the block's tokens and column group 3. -/
theorem code_1_3 (Gf : ℕ → ℕ → EReal) (v : FVec Ideal S256x512 .f32) (hv : ∀ r d, v (ix2 r d) = Gf r.val d.val)
    (a : Fin 128) (b : Fin 128) :
    k0_pay393 (F := Ideal) (k0_pay385 v) (k0_pay389 v) (k0_pay390 v) (ix2 a b) = CODE Gf (128 + a.val) (384 + b.val) := by
  rw [CODE_of Gf (g := 3) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The code stored for run 1 of the block's tokens and column group 4. -/
theorem code_1_4 (Gf : ℕ → ℕ → EReal) (v : FVec Ideal S128x64 .f32) (hv : ∀ r d, v (ix2 r d) = Gf (128 + r.val) (512 + d.val))
    (a : Fin 128) (b : Fin 64) :
    k0_pay407 (F := Ideal) v (k0_pay406 v) 23#32 (ix2 a b) = CODE Gf (128 + a.val) (512 + b.val) := by
  rw [CODE_of Gf (g := 4) (n := 64) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

end Cert.KernelIdeal.Val

end
-- ==== Proof.Pay.Scale.lean ====
/- The pieces the kernel stores, read one element at a time: the scale stored, for the two runs of 128 tokens of a
   block and the five column groups. -/
module

public import proofs.«01_k».proof.Proof.Gen.KernelIdeal.Skeleton
public import proofs.«01_k».proof.Proof.Spec

@[expose] public section

set_option maxHeartbeats 1600000

noncomputable section

namespace Cert.KernelIdeal.Val

open Idealize.ShloMosaic Cert.KernelIdeal Cert.KernelIdeal.Gen Cert.Spec

/-- The scale stored for run 0 of the block's tokens and column group 0. -/
theorem scale_0_0 (Gf : ℕ → ℕ → EReal) (v : FVec Ideal S256x512 .f32) (hv : ∀ r d, v (ix2 r d) = Gf r.val d.val)
    (a : Fin 128) (b : Fin 1) :
    k0_pay254 (F := Ideal) (k0_pay251 v) (k0_pay252 v) (ix2 a b) = SCALE Gf (0 + a.val) (0 + b.val) := by
  rw [show 0 + b.val = 0 by omega]
  rw [SCALE_of Gf (n := 128) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

/-- The scale stored for run 0 of the block's tokens and column group 1. -/
theorem scale_0_1 (Gf : ℕ → ℕ → EReal) (v : FVec Ideal S256x512 .f32) (hv : ∀ r d, v (ix2 r d) = Gf r.val d.val)
    (a : Fin 128) (b : Fin 1) :
    k0_pay269 (F := Ideal) v (ix2 a b) = SCALE Gf (0 + a.val) (1 + b.val) := by
  rw [show 1 + b.val = 1 by omega]
  rw [SCALE_of Gf (n := 128) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

/-- The scale stored for run 0 of the block's tokens and column group 2. -/
theorem scale_0_2 (Gf : ℕ → ℕ → EReal) (v : FVec Ideal S256x512 .f32) (hv : ∀ r d, v (ix2 r d) = Gf r.val d.val)
    (a : Fin 128) (b : Fin 1) :
    k0_pay287 (F := Ideal) (k0_pay285 v) (ix2 a b) = SCALE Gf (0 + a.val) (2 + b.val) := by
  rw [show 2 + b.val = 2 by omega]
  rw [SCALE_of Gf (n := 128) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

/-- The scale stored for run 0 of the block's tokens and column group 3. -/
theorem scale_0_3 (Gf : ℕ → ℕ → EReal) (v : FVec Ideal S256x512 .f32) (hv : ∀ r d, v (ix2 r d) = Gf r.val d.val)
    (a : Fin 128) (b : Fin 1) :
    k0_pay303 (F := Ideal) (k0_pay299 v) (k0_pay300 v) k0_pay301  (ix2 a b) = SCALE Gf (0 + a.val) (3 + b.val) := by
  rw [show 3 + b.val = 3 by omega]
  rw [SCALE_of Gf (n := 128) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

/-- The scale stored for run 0 of the block's tokens and column group 4. -/
theorem scale_0_4 (Gf : ℕ → ℕ → EReal) (v : FVec Ideal S128x64 .f32) (hv : ∀ r d, v (ix2 r d) = Gf (r.val) (512 + d.val))
    (a : Fin 128) (b : Fin 1) :
    k0_pay316 (F := Ideal) v (ix2 a b) = SCALE Gf (0 + a.val) (4 + b.val) := by
  rw [show 4 + b.val = 4 by omega]
  rw [SCALE_of Gf (n := 64) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

/-- The scale stored for run 1 of the block's tokens and column group 0. -/
theorem scale_1_0 (Gf : ℕ → ℕ → EReal) (v : FVec Ideal S256x512 .f32) (hv : ∀ r d, v (ix2 r d) = Gf r.val d.val)
    (a : Fin 128) (b : Fin 1) :
    k0_pay342 (F := Ideal) (k0_pay339 v) (k0_pay340 v) 0#32 (ix2 a b) = SCALE Gf (128 + a.val) (0 + b.val) := by
  rw [show 0 + b.val = 0 by omega]
  rw [SCALE_of Gf (n := 128) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

/-- The scale stored for run 1 of the block's tokens and column group 1. -/
theorem scale_1_1 (Gf : ℕ → ℕ → EReal) (v : FVec Ideal S256x512 .f32) (hv : ∀ r d, v (ix2 r d) = Gf r.val d.val)
    (a : Fin 128) (b : Fin 1) :
    k0_pay359 (F := Ideal) v (ix2 a b) = SCALE Gf (128 + a.val) (1 + b.val) := by
  rw [show 1 + b.val = 1 by omega]
  rw [SCALE_of Gf (n := 128) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

/-- The scale stored for run 1 of the block's tokens and column group 2. -/
theorem scale_1_2 (Gf : ℕ → ℕ → EReal) (v : FVec Ideal S256x512 .f32) (hv : ∀ r d, v (ix2 r d) = Gf r.val d.val)
    (a : Fin 128) (b : Fin 1) :
    k0_pay373 (F := Ideal) (k0_pay370 v) (k0_pay371 v) (FloatOps.ofBits FTy.f32 0#32) (ix2 a b) = SCALE Gf (128 + a.val) (2 + b.val) := by
  rw [show 2 + b.val = 2 by omega]
  rw [SCALE_of Gf (n := 128) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

/-- The scale stored for run 1 of the block's tokens and column group 3. -/
theorem scale_1_3 (Gf : ℕ → ℕ → EReal) (v : FVec Ideal S256x512 .f32) (hv : ∀ r d, v (ix2 r d) = Gf r.val d.val)
    (a : Fin 128) (b : Fin 1) :
    k0_pay392 (F := Ideal) (k0_pay389 v) (k0_pay390 v) (ix2 a b) = SCALE Gf (128 + a.val) (3 + b.val) := by
  rw [show 3 + b.val = 3 by omega]
  rw [SCALE_of Gf (n := 128) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

/-- The scale stored for run 1 of the block's tokens and column group 4. -/
theorem scale_1_4 (Gf : ℕ → ℕ → EReal) (v : FVec Ideal S128x64 .f32) (hv : ∀ r d, v (ix2 r d) = Gf (128 + r.val) (512 + d.val))
    (a : Fin 128) (b : Fin 1) :
    k0_pay405 (F := Ideal) v (ix2 a b) = SCALE Gf (128 + a.val) (4 + b.val) := by
  rw [show 4 + b.val = 4 by omega]
  rw [SCALE_of Gf (n := 64) rfl]
  unfold_payloads
  pointwise [hv]
  simp only [SCALE, kS, kE, rowA, colA, rmax, mag, clipv, Nat.zero_add, Nat.add_assoc, sel_eq, Nat.reduceMul, Nat.reduceAdd, BitVec.ofNat_eq_ofNat] <;> rfl

end Cert.KernelIdeal.Val

end
-- ==== Proof.Pay.Gb.lean ====
/- The pieces the kernel stores, read one element at a time: the dequantised value kept, for the two runs of 128 tokens of a
   block and the five column groups. -/
module

public import proofs.«01_k».proof.Proof.Gen.KernelIdeal.Skeleton
public import proofs.«01_k».proof.Proof.Spec

@[expose] public section

set_option maxHeartbeats 1600000

noncomputable section

namespace Cert.KernelIdeal.Val

open Idealize.ShloMosaic Cert.KernelIdeal Cert.KernelIdeal.Gen Cert.Spec

/-- The dequantised value kept for run 0 of the block's tokens and column group 0. -/
theorem gb_0_0 (Gf : ℕ → ℕ → EReal) (v : FVec Ideal S256x512 .f32) (hv : ∀ r d, v (ix2 r d) = Gf r.val d.val)
    (a : Fin 128) (b : Fin 128) :
    k0_pay256 (F := Ideal) (k0_pay247 v) (k0_pay251 v) (k0_pay252 v) (ix2 a b) = GB Gf (0 + a.val) (0 + b.val) := by
  rw [GB_of Gf (g := 0) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The dequantised value kept for run 0 of the block's tokens and column group 1. -/
theorem gb_0_1 (Gf : ℕ → ℕ → EReal) (v : FVec Ideal S256x512 .f32) (hv : ∀ r d, v (ix2 r d) = Gf r.val d.val)
    (a : Fin 128) (b : Fin 128) :
    k0_pay273 (F := Ideal) (k0_pay266 v) (k0_pay269 v) (k0_pay270 v) k0_pay271  (ix2 a b) = GB Gf (0 + a.val) (128 + b.val) := by
  rw [GB_of Gf (g := 1) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The dequantised value kept for run 0 of the block's tokens and column group 2. -/
theorem gb_0_2 (Gf : ℕ → ℕ → EReal) (v : FVec Ideal S256x512 .f32) (hv : ∀ r d, v (ix2 r d) = Gf r.val d.val)
    (a : Fin 128) (b : Fin 128) :
    k0_pay289 (F := Ideal) (k0_pay287 (k0_pay285 v)) (k0_pay288 (k0_pay283 v) (k0_pay285 v)) (ix2 a b) = GB Gf (0 + a.val) (256 + b.val) := by
  rw [GB_of Gf (g := 2) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The dequantised value kept for run 0 of the block's tokens and column group 3. -/
theorem gb_0_3 (Gf : ℕ → ℕ → EReal) (v : FVec Ideal S256x512 .f32) (hv : ∀ r d, v (ix2 r d) = Gf r.val d.val)
    (a : Fin 128) (b : Fin 128) :
    k0_pay305 (F := Ideal) (k0_pay296 v) (k0_pay299 v) (k0_pay300 v) k0_pay301  (ix2 a b) = GB Gf (0 + a.val) (384 + b.val) := by
  rw [GB_of Gf (g := 3) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The dequantised value kept for run 0 of the block's tokens and column group 4. -/
theorem gb_0_4 (Gf : ℕ → ℕ → EReal) (v : FVec Ideal S128x64 .f32) (hv : ∀ r d, v (ix2 r d) = Gf (r.val) (512 + d.val))
    (a : Fin 128) (b : Fin 64) :
    k0_pay318 (F := Ideal) v (k0_pay315 v) (k0_pay316 v) (ix2 a b) = GB Gf (0 + a.val) (512 + b.val) := by
  rw [GB_of Gf (g := 4) (n := 64) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The dequantised value kept for run 1 of the block's tokens and column group 0. -/
theorem gb_1_0 (Gf : ℕ → ℕ → EReal) (v : FVec Ideal S256x512 .f32) (hv : ∀ r d, v (ix2 r d) = Gf r.val d.val)
    (a : Fin 128) (b : Fin 128) :
    k0_pay344 (F := Ideal) (k0_pay335 v) (k0_pay339 v) (k0_pay340 v) 0#32 (ix2 a b) = GB Gf (128 + a.val) (0 + b.val) := by
  rw [GB_of Gf (g := 0) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The dequantised value kept for run 1 of the block's tokens and column group 1. -/
theorem gb_1_1 (Gf : ℕ → ℕ → EReal) (v : FVec Ideal S256x512 .f32) (hv : ∀ r d, v (ix2 r d) = Gf r.val d.val)
    (a : Fin 128) (b : Fin 128) :
    k0_pay362 (F := Ideal) (k0_pay359 v) (k0_pay360 v) (ix2 a b) = GB Gf (128 + a.val) (128 + b.val) := by
  rw [GB_of Gf (g := 1) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The dequantised value kept for run 1 of the block's tokens and column group 2. -/
theorem gb_1_2 (Gf : ℕ → ℕ → EReal) (v : FVec Ideal S256x512 .f32) (hv : ∀ r d, v (ix2 r d) = Gf r.val d.val)
    (a : Fin 128) (b : Fin 128) :
    k0_pay377 (F := Ideal) (k0_pay375 (k0_pay368 v) (k0_pay370 v) (k0_pay371 v) (FloatOps.ofBits FTy.f32 0#32)) (k0_pay376 (k0_pay370 v) (k0_pay371 v) (FloatOps.ofBits FTy.f32 0#32)) (ix2 a b) = GB Gf (128 + a.val) (256 + b.val) := by
  rw [GB_of Gf (g := 2) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The dequantised value kept for run 1 of the block's tokens and column group 3. -/
theorem gb_1_3 (Gf : ℕ → ℕ → EReal) (v : FVec Ideal S256x512 .f32) (hv : ∀ r d, v (ix2 r d) = Gf r.val d.val)
    (a : Fin 128) (b : Fin 128) :
    k0_pay394 (F := Ideal) (k0_pay385 v) (k0_pay389 v) (k0_pay390 v) (ix2 a b) = GB Gf (128 + a.val) (384 + b.val) := by
  rw [GB_of Gf (g := 3) (n := 128) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

/-- The dequantised value kept for run 1 of the block's tokens and column group 4. -/
theorem gb_1_4 (Gf : ℕ → ℕ → EReal) (v : FVec Ideal S128x64 .f32) (hv : ∀ r d, v (ix2 r d) = Gf (128 + r.val) (512 + d.val))
    (a : Fin 128) (b : Fin 64) :
    k0_pay408 (F := Ideal) v (k0_pay405 v) (k0_pay406 v) 23#32 (ix2 a b) = GB Gf (128 + a.val) (512 + b.val) := by
  rw [GB_of Gf (g := 4) (n := 64) (by omega) rfl]
  unfold_payloads
  pointwise [hv]
  simp only [codeR, gbR, kI, kS, kE, rowA, colA, rmax, mag, clipv, Nat.zero_add, Nat.add_assoc, sel_eq, Nat.reduceMul, Nat.reduceAdd, BitVec.ofNat_eq_ofNat] <;> rfl

end Cert.KernelIdeal.Val

end
-- ==== Proof.Pay.TCode.lean ====
/- The pieces the kernel stores, read one element at a time: the code stored along the columns, for the two runs of 128 tokens of a
   block and the five column groups. -/
module

public import proofs.«01_k».proof.Proof.Gen.KernelIdeal.Skeleton
public import proofs.«01_k».proof.Proof.Spec

@[expose] public section

set_option maxHeartbeats 1600000

noncomputable section

namespace Cert.KernelIdeal.Val

open Idealize.ShloMosaic Cert.KernelIdeal Cert.KernelIdeal.Gen Cert.Spec

/-- The code stored along the columns for run 0 of the block's tokens and column group 0. -/
theorem tcode_0_0 (Gf : ℕ → ℕ → EReal) (v : FVec Ideal S256x512 .f32) (hv : ∀ r d, v (ix2 r d) = Gf r.val d.val)
    (a : Fin 128) (b : Fin 128) :
    k0_pay263 (F := Ideal) (k0_pay247 v) (k0_pay258 (k0_pay248 v)) (k0_pay259 (k0_pay248 v)) (k0_pay260 (k0_pay248 v)) (ix2 a b) = TCODE Gf (0 + a.val) (0 + b.val) := by
  rw [TCODE_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The code stored along the columns for run 0 of the block's tokens and column group 1. -/
theorem tcode_0_1 (Gf : ℕ → ℕ → EReal) (v : FVec Ideal S256x512 .f32) (hv : ∀ r d, v (ix2 r d) = Gf r.val d.val)
    (a : Fin 128) (b : Fin 128) :
    k0_pay280 (F := Ideal) (k0_pay266 v) (k0_pay276 (k0_pay267 v)) (k0_pay277 (k0_pay267 v)) (ix2 a b) = TCODE Gf (0 + a.val) (128 + b.val) := by
  rw [TCODE_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The code stored along the columns for run 0 of the block's tokens and column group 2. -/
theorem tcode_0_2 (Gf : ℕ → ℕ → EReal) (v : FVec Ideal S256x512 .f32) (hv : ∀ r d, v (ix2 r d) = Gf r.val d.val)
    (a : Fin 128) (b : Fin 128) :
    k0_pay293 (F := Ideal) (k0_pay283 v) (k0_pay292 (k0_pay284 v)) (ix2 a b) = TCODE Gf (0 + a.val) (256 + b.val) := by
  rw [TCODE_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The code stored along the columns for run 0 of the block's tokens and column group 3. -/
theorem tcode_0_3 (Gf : ℕ → ℕ → EReal) (v : FVec Ideal S256x512 .f32) (hv : ∀ r d, v (ix2 r d) = Gf r.val d.val)
    (a : Fin 128) (b : Fin 128) :
    k0_pay310 (F := Ideal) (k0_pay296 v) (k0_pay306 (k0_pay297 v)) (k0_pay307 (k0_pay297 v)) (ix2 a b) = TCODE Gf (0 + a.val) (384 + b.val) := by
  rw [TCODE_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The code stored along the columns for run 0 of the block's tokens and column group 4. -/
theorem tcode_0_4 (Gf : ℕ → ℕ → EReal) (v : FVec Ideal S128x64 .f32) (hv : ∀ r d, v (ix2 r d) = Gf (r.val) (512 + d.val))
    (a : Fin 128) (b : Fin 64) :
    k0_pay325 (F := Ideal) v (k0_pay321 (k0_pay314 v)) (k0_pay322 (k0_pay314 v)) (ix2 a b) = TCODE Gf (0 + a.val) (512 + b.val) := by
  rw [TCODE_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The code stored along the columns for run 1 of the block's tokens and column group 0. -/
theorem tcode_1_0 (Gf : ℕ → ℕ → EReal) (v : FVec Ideal S256x512 .f32) (hv : ∀ r d, v (ix2 r d) = Gf r.val d.val)
    (a : Fin 128) (b : Fin 128) :
    k0_pay351 (F := Ideal) (k0_pay335 v) (k0_pay346 (k0_pay336 v)) (k0_pay347 (k0_pay336 v)) (iota Kind.tc S252x128 32 [0] iota_S252x128_d0_w32) k0_pay348  (ix2 a b) = TCODE Gf (128 + a.val) (0 + b.val) := by
  rw [TCODE_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The code stored along the columns for run 1 of the block's tokens and column group 1. -/
theorem tcode_1_1 (Gf : ℕ → ℕ → EReal) (v : FVec Ideal S256x512 .f32) (hv : ∀ r d, v (ix2 r d) = Gf r.val d.val)
    (a : Fin 128) (b : Fin 128) :
    k0_pay365 (F := Ideal) (k0_pay356 v) (k0_pay363 (k0_pay357 v)) (ix2 a b) = TCODE Gf (128 + a.val) (128 + b.val) := by
  rw [TCODE_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The code stored along the columns for run 1 of the block's tokens and column group 2. -/
theorem tcode_1_2 (Gf : ℕ → ℕ → EReal) (v : FVec Ideal S256x512 .f32) (hv : ∀ r d, v (ix2 r d) = Gf r.val d.val)
    (a : Fin 128) (b : Fin 128) :
    k0_pay382 (F := Ideal) (k0_pay380 (k0_pay368 v) (k0_pay369 v)) (FloatOps.ofBits FTy.f32 1197473792#32) k0_pay381  (ix2 a b) = TCODE Gf (128 + a.val) (256 + b.val) := by
  rw [TCODE_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The code stored along the columns for run 1 of the block's tokens and column group 3. -/
theorem tcode_1_3 (Gf : ℕ → ℕ → EReal) (v : FVec Ideal S256x512 .f32) (hv : ∀ r d, v (ix2 r d) = Gf r.val d.val)
    (a : Fin 128) (b : Fin 128) :
    k0_pay400 (F := Ideal) (k0_pay385 v) (k0_pay396 (k0_pay386 v)) (k0_pay397 (k0_pay386 v)) (FloatOps.ofBits FTy.f32 0#32) (ix2 a b) = TCODE Gf (128 + a.val) (384 + b.val) := by
  rw [TCODE_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The code stored along the columns for run 1 of the block's tokens and column group 4. -/
theorem tcode_1_4 (Gf : ℕ → ℕ → EReal) (v : FVec Ideal S128x64 .f32) (hv : ∀ r d, v (ix2 r d) = Gf (128 + r.val) (512 + d.val))
    (a : Fin 128) (b : Fin 64) :
    k0_pay416 (F := Ideal) v (k0_pay411 (k0_pay403 v)) (k0_pay412 (k0_pay403 v)) k0_pay413  (ix2 a b) = TCODE Gf (128 + a.val) (512 + b.val) := by
  rw [TCODE_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

end Cert.KernelIdeal.Val

end
-- ==== Proof.Pay.Gt.lean ====
/- The pieces the kernel stores, read one element at a time: the value dequantised along the columns and kept, for the two runs of 128 tokens of a
   block and the five column groups. -/
module

public import proofs.«01_k».proof.Proof.Gen.KernelIdeal.Skeleton
public import proofs.«01_k».proof.Proof.Spec

@[expose] public section

set_option maxHeartbeats 1600000

noncomputable section

namespace Cert.KernelIdeal.Val

open Idealize.ShloMosaic Cert.KernelIdeal Cert.KernelIdeal.Gen Cert.Spec

/-- The value dequantised along the columns and kept for run 0 of the block's tokens and column group 0. -/
theorem gt_0_0 (Gf : ℕ → ℕ → EReal) (v : FVec Ideal S256x512 .f32) (hv : ∀ r d, v (ix2 r d) = Gf r.val d.val)
    (a : Fin 128) (b : Fin 128) :
    k0_pay265 (F := Ideal) (k0_pay262 (k0_pay258 (k0_pay248 v)) (k0_pay259 (k0_pay248 v)) (k0_pay260 (k0_pay248 v))) (k0_pay263 (k0_pay247 v) (k0_pay258 (k0_pay248 v)) (k0_pay259 (k0_pay248 v)) (k0_pay260 (k0_pay248 v))) (ix2 a b) = GT Gf (0 + a.val) (0 + b.val) := by
  rw [GT_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The value dequantised along the columns and kept for run 0 of the block's tokens and column group 1. -/
theorem gt_0_1 (Gf : ℕ → ℕ → EReal) (v : FVec Ideal S256x512 .f32) (hv : ∀ r d, v (ix2 r d) = Gf r.val d.val)
    (a : Fin 128) (b : Fin 128) :
    k0_pay282 (F := Ideal) (k0_pay266 v) (k0_pay276 (k0_pay267 v)) (k0_pay277 (k0_pay267 v)) (ix2 a b) = GT Gf (0 + a.val) (128 + b.val) := by
  rw [GT_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The value dequantised along the columns and kept for run 0 of the block's tokens and column group 2. -/
theorem gt_0_2 (Gf : ℕ → ℕ → EReal) (v : FVec Ideal S256x512 .f32) (hv : ∀ r d, v (ix2 r d) = Gf r.val d.val)
    (a : Fin 128) (b : Fin 128) :
    k0_pay295 (F := Ideal) (k0_pay283 v) (k0_pay291 (k0_pay284 v)) (k0_pay292 (k0_pay284 v)) (ix2 a b) = GT Gf (0 + a.val) (256 + b.val) := by
  rw [GT_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The value dequantised along the columns and kept for run 0 of the block's tokens and column group 3. -/
theorem gt_0_3 (Gf : ℕ → ℕ → EReal) (v : FVec Ideal S256x512 .f32) (hv : ∀ r d, v (ix2 r d) = Gf r.val d.val)
    (a : Fin 128) (b : Fin 128) :
    k0_pay313 (F := Ideal) (k0_pay309 (k0_pay306 (k0_pay297 v)) (k0_pay307 (k0_pay297 v))) (k0_pay310 (k0_pay296 v) (k0_pay306 (k0_pay297 v)) (k0_pay307 (k0_pay297 v))) (ix2 a b) = GT Gf (0 + a.val) (384 + b.val) := by
  rw [GT_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The value dequantised along the columns and kept for run 0 of the block's tokens and column group 4. -/
theorem gt_0_4 (Gf : ℕ → ℕ → EReal) (v : FVec Ideal S128x64 .f32) (hv : ∀ r d, v (ix2 r d) = Gf (r.val) (512 + d.val))
    (a : Fin 128) (b : Fin 64) :
    k0_pay327 (F := Ideal) v (k0_pay321 (k0_pay314 v)) (k0_pay322 (k0_pay314 v)) (ix2 a b) = GT Gf (0 + a.val) (512 + b.val) := by
  rw [GT_of Gf (s := 0) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The value dequantised along the columns and kept for run 1 of the block's tokens and column group 0. -/
theorem gt_1_0 (Gf : ℕ → ℕ → EReal) (v : FVec Ideal S256x512 .f32) (hv : ∀ r d, v (ix2 r d) = Gf r.val d.val)
    (a : Fin 128) (b : Fin 128) :
    k0_pay355 (F := Ideal) (k0_pay353 (k0_pay335 v) (k0_pay346 (k0_pay336 v)) (k0_pay347 (k0_pay336 v)) (iota Kind.tc S252x128 32 [0] iota_S252x128_d0_w32) k0_pay348 ) (k0_pay354 (k0_pay346 (k0_pay336 v)) (k0_pay347 (k0_pay336 v)) (iota Kind.tc S252x128 32 [0] iota_S252x128_d0_w32) k0_pay348 ) (ix2 a b) = GT Gf (128 + a.val) (0 + b.val) := by
  rw [GT_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The value dequantised along the columns and kept for run 1 of the block's tokens and column group 1. -/
theorem gt_1_1 (Gf : ℕ → ℕ → EReal) (v : FVec Ideal S256x512 .f32) (hv : ∀ r d, v (ix2 r d) = Gf r.val d.val)
    (a : Fin 128) (b : Fin 128) :
    k0_pay367 (F := Ideal) (k0_pay356 v) (k0_pay363 (k0_pay357 v)) 127#32 (ix2 a b) = GT Gf (128 + a.val) (128 + b.val) := by
  rw [GT_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The value dequantised along the columns and kept for run 1 of the block's tokens and column group 2. -/
theorem gt_1_2 (Gf : ℕ → ℕ → EReal) (v : FVec Ideal S256x512 .f32) (hv : ∀ r d, v (ix2 r d) = Gf r.val d.val)
    (a : Fin 128) (b : Fin 128) :
    k0_pay384 (F := Ideal) (k0_pay379 (k0_pay369 v)) (k0_pay380 (k0_pay368 v) (k0_pay369 v)) (FloatOps.ofBits FTy.f32 1197473792#32) k0_pay381  (ix2 a b) = GT Gf (128 + a.val) (256 + b.val) := by
  rw [GT_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The value dequantised along the columns and kept for run 1 of the block's tokens and column group 3. -/
theorem gt_1_3 (Gf : ℕ → ℕ → EReal) (v : FVec Ideal S256x512 .f32) (hv : ∀ r d, v (ix2 r d) = Gf r.val d.val)
    (a : Fin 128) (b : Fin 128) :
    k0_pay402 (F := Ideal) (k0_pay399 (k0_pay396 (k0_pay386 v)) (k0_pay397 (k0_pay386 v)) (FloatOps.ofBits FTy.f32 0#32)) (k0_pay400 (k0_pay385 v) (k0_pay396 (k0_pay386 v)) (k0_pay397 (k0_pay386 v)) (FloatOps.ofBits FTy.f32 0#32)) (ix2 a b) = GT Gf (128 + a.val) (384 + b.val) := by
  rw [GT_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

/-- The value dequantised along the columns and kept for run 1 of the block's tokens and column group 4. -/
theorem gt_1_4 (Gf : ℕ → ℕ → EReal) (v : FVec Ideal S128x64 .f32) (hv : ∀ r d, v (ix2 r d) = Gf (128 + r.val) (512 + d.val))
    (a : Fin 128) (b : Fin 64) :
    k0_pay418 (F := Ideal) v (k0_pay411 (k0_pay403 v)) (k0_pay412 (k0_pay403 v)) k0_pay413  (ix2 a b) = GT Gf (128 + a.val) (512 + b.val) := by
  rw [GT_of Gf (s := 128) (by omega)]
  unfold_payloads
  pointwise [hv]
  simp only [codeC, gtC, kI, kS, kE, rowA, colA, rmax, mag, clipv, Nat.zero_add, Nat.add_assoc, sel_eq, Nat.reduceMul, Nat.reduceAdd, BitVec.ofNat_eq_ofNat] <;> rfl

end Cert.KernelIdeal.Val

end
-- ==== Proof.Pay.TScale.lean ====
/- The pieces the kernel stores, read one element at a time: the scale row along the columns stored, for the two runs of 128 tokens of a
   block and the five column groups. -/
module

public import proofs.«01_k».proof.Proof.Gen.KernelIdeal.Skeleton
public import proofs.«01_k».proof.Proof.Spec

@[expose] public section

set_option maxHeartbeats 1600000

noncomputable section

namespace Cert.KernelIdeal.Val

open Idealize.ShloMosaic Cert.KernelIdeal Cert.KernelIdeal.Gen Cert.Spec

/-- The scale row along the columns stored for run 0 of the block's tokens and column group 0. -/
theorem ts_0_0 (Gf : ℕ → ℕ → EReal) (n : BitVec 32) (w : FVec Ideal S16x128 .f32) (v : FVec Ideal S256x512 .f32) (hv : ∀ r d, v (ix2 r d) = Gf r.val d.val)
    (a : Fin 16) (b : Fin 128) :
    k0_pay264 (F := Ideal) n (k0_pay258 (k0_pay248 v)) (k0_pay259 (k0_pay248 v)) (k0_pay260 (k0_pay248 v)) w (ix2 a b) = if BitVec.ofNat 32 a.val = n then TSCALE Gf 0 (0 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

/-- The scale row along the columns stored for run 0 of the block's tokens and column group 1. -/
theorem ts_0_1 (Gf : ℕ → ℕ → EReal) (n : BitVec 32) (w : FVec Ideal S16x128 .f32) (v : FVec Ideal S256x512 .f32) (hv : ∀ r d, v (ix2 r d) = Gf r.val d.val)
    (a : Fin 16) (b : Fin 128) :
    k0_pay281 (F := Ideal) n (k0_pay276 (k0_pay267 v)) (k0_pay277 (k0_pay267 v)) w (ix2 a b) = if BitVec.ofNat 32 a.val = n then TSCALE Gf 0 (128 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

/-- The scale row along the columns stored for run 0 of the block's tokens and column group 2. -/
theorem ts_0_2 (Gf : ℕ → ℕ → EReal) (n : BitVec 32) (w : FVec Ideal S16x128 .f32) (v : FVec Ideal S256x512 .f32) (hv : ∀ r d, v (ix2 r d) = Gf r.val d.val)
    (a : Fin 16) (b : Fin 128) :
    k0_pay294 (F := Ideal) n (k0_pay291 (k0_pay284 v)) w (ix2 a b) = if BitVec.ofNat 32 a.val = n then TSCALE Gf 0 (256 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

/-- The scale row along the columns stored for run 0 of the block's tokens and column group 3. -/
theorem ts_0_3 (Gf : ℕ → ℕ → EReal) (n : BitVec 32) (w : FVec Ideal S16x128 .f32) (v : FVec Ideal S256x512 .f32) (hv : ∀ r d, v (ix2 r d) = Gf r.val d.val)
    (a : Fin 16) (b : Fin 128) :
    k0_pay312 (F := Ideal) (k0_pay309 (k0_pay306 (k0_pay297 v)) (k0_pay307 (k0_pay297 v))) (k0_pay311 n) w (ix2 a b) = if BitVec.ofNat 32 a.val = n then TSCALE Gf 0 (384 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

/-- The scale row along the columns stored for run 0 of the block's tokens and column group 4. -/
theorem ts_0_4 (Gf : ℕ → ℕ → EReal) (n : BitVec 32) (w : FVec Ideal S16x64 .f32) (v : FVec Ideal S128x64 .f32) (hv : ∀ r d, v (ix2 r d) = Gf (r.val) (512 + d.val))
    (a : Fin 16) (b : Fin 64) :
    k0_pay326 (F := Ideal) n (k0_pay321 (k0_pay314 v)) (k0_pay322 (k0_pay314 v)) w (ix2 a b) = if BitVec.ofNat 32 a.val = n then TSCALE Gf 0 (512 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

/-- The scale row along the columns stored for run 1 of the block's tokens and column group 0. -/
theorem ts_1_0 (Gf : ℕ → ℕ → EReal) (n : BitVec 32) (w : FVec Ideal S16x128 .f32) (v : FVec Ideal S256x512 .f32) (hv : ∀ r d, v (ix2 r d) = Gf r.val d.val)
    (a : Fin 16) (b : Fin 128) :
    k0_pay352 (F := Ideal) n (k0_pay346 (k0_pay336 v)) (k0_pay347 (k0_pay336 v)) (iota Kind.tc S252x128 32 [0] iota_S252x128_d0_w32) k0_pay348 w (ix2 a b) = if BitVec.ofNat 32 a.val = n then TSCALE Gf 128 (0 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

/-- The scale row along the columns stored for run 1 of the block's tokens and column group 1. -/
theorem ts_1_1 (Gf : ℕ → ℕ → EReal) (n : BitVec 32) (w : FVec Ideal S16x128 .f32) (v : FVec Ideal S256x512 .f32) (hv : ∀ r d, v (ix2 r d) = Gf r.val d.val)
    (a : Fin 16) (b : Fin 128) :
    k0_pay366 (F := Ideal) n (k0_pay363 (k0_pay357 v)) 127#32 w (ix2 a b) = if BitVec.ofNat 32 a.val = n then TSCALE Gf 128 (128 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

/-- The scale row along the columns stored for run 1 of the block's tokens and column group 2. -/
theorem ts_1_2 (Gf : ℕ → ℕ → EReal) (n : BitVec 32) (w : FVec Ideal S16x128 .f32) (v : FVec Ideal S256x512 .f32) (hv : ∀ r d, v (ix2 r d) = Gf r.val d.val)
    (a : Fin 16) (b : Fin 128) :
    k0_pay383 (F := Ideal) n (k0_pay379 (k0_pay369 v)) w (ix2 a b) = if BitVec.ofNat 32 a.val = n then TSCALE Gf 128 (256 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

/-- The scale row along the columns stored for run 1 of the block's tokens and column group 3. -/
theorem ts_1_3 (Gf : ℕ → ℕ → EReal) (n : BitVec 32) (w : FVec Ideal S16x128 .f32) (v : FVec Ideal S256x512 .f32) (hv : ∀ r d, v (ix2 r d) = Gf r.val d.val)
    (a : Fin 16) (b : Fin 128) :
    k0_pay401 (F := Ideal) n (k0_pay396 (k0_pay386 v)) (k0_pay397 (k0_pay386 v)) (FloatOps.ofBits FTy.f32 0#32) w (ix2 a b) = if BitVec.ofNat 32 a.val = n then TSCALE Gf 128 (384 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

/-- The scale row along the columns stored for run 1 of the block's tokens and column group 4. -/
theorem ts_1_4 (Gf : ℕ → ℕ → EReal) (n : BitVec 32) (w : FVec Ideal S16x64 .f32) (v : FVec Ideal S128x64 .f32) (hv : ∀ r d, v (ix2 r d) = Gf (128 + r.val) (512 + d.val))
    (a : Fin 16) (b : Fin 64) :
    k0_pay417 (F := Ideal) n (k0_pay411 (k0_pay403 v)) (k0_pay412 (k0_pay403 v)) k0_pay413 w (ix2 a b) = if BitVec.ofNat 32 a.val = n then TSCALE Gf 128 (512 + b.val) else w (ix2 a b) := by
  unfold_payloads
  pointwise [hv]
  simp only [TSCALE, kS, kE, rowA, colA, rmax, mag, clipv, Nat.zero_add, Nat.add_assoc, sel_eq, Nat.reduceMul, Nat.reduceAdd, BitVec.ofNat_eq_ofNat] <;> rfl

end Cert.KernelIdeal.Val

end
-- ==== Proof.Val.GradA.lean ====
/- The gradient run A of the body computes, and the arrays it stores quantised: each is the function of the specification, tile by tile. -/
module

public import proofs.«01_k».proof.Proof.Body.RunA
public import proofs.«01_k».proof.Proof.Val.Tiles
public import proofs.«01_k».proof.Proof.Val.DeqA
public import proofs.«01_k».proof.Proof.Val.Step
public import proofs.«01_k».proof.Proof.Pay.Code
public import proofs.«01_k».proof.Proof.Pay.Scale
public import proofs.«01_k».proof.Proof.Pay.Gb
public import proofs.«01_k».proof.Proof.Pay.TCode
public import proofs.«01_k».proof.Proof.Pay.Gt
public import proofs.«01_k».proof.Proof.Pay.TScale

@[expose] public section

set_option maxRecDepth 16384
set_option maxHeartbeats 4000000

noncomputable section

namespace Cert.KernelIdeal.Body

open Idealize.ShloMosaic Idealize.ShloMosaic.TcCoe Idealize.ShloMosaic.Tactic Cert.KernelIdeal Cert.KernelIdeal.Gen Cert.KernelIdeal.Val Cert.Spec

variable (I : In)

/-- The norm's gradient the body computes. -/
theorem A_dc (c : Dev nD) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg7 : Memref sig .tc .vmem S256x512 .bf16) (harg7 : arg7.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x6 : Vec Ideal S256x512 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx6 : ∀ r d, x6 (ix2 r d) = I.dc r.val d.val) (r : Fin 256) (k : Fin 512) : kernelRun0_A.sl.r_218 (F := Ideal) c arg1 harg1 arg2 harg2 arg3 harg3 arg4 harg4 arg5 harg5 arg7 harg7 arg16 arg17 x0 x1 x2 x3 x4 x6 (ix2 r k) = G I r.val k.val :=
  dc_pay I _ _ _ _ (fun r k => A_xw I c arg1 harg1 arg2 harg2 arg17 x0 x1 hx0 hx1 r k) (fun r k => A_v388 I c arg3 harg3 arg4 harg4 arg16 x2 x3 hx2 hx3 r k)
    (fun r k => readAt_ix2_zero harg7 x6 id I.dc hx6 _ r k) (fun k => readAt_ix2_zero (m := 1) (a := 1) harg5 x4 id (fun _ => I.gain) (fun r k => by rw [Fin.fin_one_eq_zero r]; exact hx4 k) _ 0 k) r k

/-- The rotary gradient the body computes, run 0 of the block's tokens. -/
theorem A_rope0 (c : Dev nD) (i : grid0.Coords) (arg6 : Memref sig .tc .vmem S16x128 .i32) (harg6 : arg6.IsWhole) (arg8 : Memref sig .tc .vmem S256x64 .bf16) (harg8 : arg8.IsWhole) (x5 : Vec Ideal S16x128 .i32) (x7 : Vec Ideal S256x64 .bf16) (hx5 : ∀ (ρ : Fin 2) (r : Fin 128) (q : Fin 16), q.val = 2 * (i 0).val + ρ.val → x5 (ix2 q r) = I.pos (128 * ρ.val + r.val)) (hx7 : ∀ r d, x7 (ix2 r d) = I.dk r.val d.val) (r : Fin 128) (k : Fin 64) : kernelRun0_A.sl.r_222 (F := Ideal) c i arg6 harg6 arg8 harg8 x5 x7 (ix2 r k) = G I (r.val) (512 + k.val) :=
  rope0_pay I _ _ (fun r k => readAt_ix2_zero harg8 x7 id I.dk hx7 _ r k)
    (fun r => (pos_row I harg6 x5 i hx5 0 _ r).trans (congrArg I.pos (Nat.zero_add _))) r k

/-- The rotary gradient the body computes, run 1 of the block's tokens. -/
theorem A_rope1 (c : Dev nD) (i : grid0.Coords) (arg6 : Memref sig .tc .vmem S16x128 .i32) (harg6 : arg6.IsWhole) (arg8 : Memref sig .tc .vmem S256x64 .bf16) (harg8 : arg8.IsWhole) (x5 : Vec Ideal S16x128 .i32) (x7 : Vec Ideal S256x64 .bf16) (hx5 : ∀ (ρ : Fin 2) (r : Fin 128) (q : Fin 16), q.val = 2 * (i 0).val + ρ.val → x5 (ix2 q r) = I.pos (128 * ρ.val + r.val)) (hx7 : ∀ r d, x7 (ix2 r d) = I.dk r.val d.val) (r : Fin 128) (k : Fin 64) : kernelRun0_A.sl.r_263 (F := Ideal) c i arg6 harg6 arg8 harg8 x5 x7 (ix2 r k) = G I (128 + r.val) (512 + k.val) :=
  rope1_pay I _ _ (fun r k => (readAt_ix2 harg8 x7 id I.dk hx7 128 0 _ r k).trans (congrArg (I.dk (128 + r.val)) (Nat.zero_add _)))
    (fun r => pos_row I harg6 x5 i hx5 1 _ r) r k

/-- The pieces the dequantised values are stored in are tiles of them. -/
theorem A_gb_pieces (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : Pieces (at2 (GB (G I))) (kernelRun0_A.sl.HS2_10 (F := Ideal) c i arg1 harg1 arg2 harg2 arg3 harg3 arg4 harg4 arg5 harg5 arg6 harg6 arg7 harg7 arg8 harg8 arg16 arg17 x0 x1 x2 x3 x4 x5 x6 x7) := by
  unfold kernelRun0_A.sl.HS2_10
  refine Pieces.cons (fun x => piece_of _ 128 512 _ _ (fun u v => gb_1_4 (G I) _ (A_rope1 I c i arg6 harg6 arg8 harg8 x5 x7 hx5 hx7) u v) x) ?_
  refine Pieces.cons (fun x => piece_of _ 128 384 _ _ (fun u v => gb_1_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 256 _ _ (fun u v => gb_1_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 128 _ _ (fun u v => gb_1_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 0 _ _ (fun u v => gb_1_0 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 512 _ _ (fun u v => gb_0_4 (G I) _ (A_rope0 I c i arg6 harg6 arg8 harg8 x5 x7 hx5 hx7) u v) x) ?_
  refine Pieces.cons (fun x => piece_of _ 0 384 _ _ (fun u v => gb_0_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 256 _ _ (fun u v => gb_0_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 128 _ _ (fun u v => gb_0_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 0 _ _ (fun u v => gb_0_0 (G I) _ (A_dc I c arg1 harg1 arg2 harg2 arg3 harg3 arg4 harg4 arg5 harg5 arg7 harg7 arg16 arg17 x0 x1 x2 x3 x4 x6 hx0 hx1 hx2 hx3 hx4 hx6) u v) x) ?_
  exact Pieces.nil _

/-- They cover the buffer. -/
theorem A_gb_cover (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) : ∀ y, ∃ p ∈ (kernelRun0_A.sl.HS2_10 (F := Ideal) c i arg1 harg1 arg2 harg2 arg3 harg3 arg4 harg4 arg5 harg5 arg6 harg6 arg7 harg7 arg8 harg8 arg16 arg17 x0 x1 x2 x3 x4 x5 x6 x7), y ∈ p.1.set :=
  View.cover_of_tiledBy _ ![128, 64] (by sl_kernel_rfl)

/-- The pieces the values dequantised along the columns are stored in are tiles of them. -/
theorem A_gt_pieces (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : Pieces (at2 (GT (G I))) (kernelRun0_A.sl.HS3_10 (F := Ideal) c i arg1 harg1 arg2 harg2 arg3 harg3 arg4 harg4 arg5 harg5 arg6 harg6 arg7 harg7 arg8 harg8 arg16 arg17 x0 x1 x2 x3 x4 x5 x6 x7) := by
  unfold kernelRun0_A.sl.HS3_10
  refine Pieces.cons (fun x => piece_of _ 128 512 _ _ (fun u v => gt_1_4 (G I) _ (A_rope1 I c i arg6 harg6 arg8 harg8 x5 x7 hx5 hx7) u v) x) ?_
  refine Pieces.cons (fun x => piece_of _ 128 384 _ _ (fun u v => gt_1_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 256 _ _ (fun u v => gt_1_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 128 _ _ (fun u v => gt_1_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 0 _ _ (fun u v => gt_1_0 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 512 _ _ (fun u v => gt_0_4 (G I) _ (A_rope0 I c i arg6 harg6 arg8 harg8 x5 x7 hx5 hx7) u v) x) ?_
  refine Pieces.cons (fun x => piece_of _ 0 384 _ _ (fun u v => gt_0_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 256 _ _ (fun u v => gt_0_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 128 _ _ (fun u v => gt_0_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 0 _ _ (fun u v => gt_0_0 (G I) _ (A_dc I c arg1 harg1 arg2 harg2 arg3 harg3 arg4 harg4 arg5 harg5 arg7 harg7 arg16 arg17 x0 x1 x2 x3 x4 x6 hx0 hx1 hx2 hx3 hx4 hx6) u v) x) ?_
  exact Pieces.nil _

/-- They cover the buffer. -/
theorem A_gt_cover (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) : ∀ y, ∃ p ∈ (kernelRun0_A.sl.HS3_10 (F := Ideal) c i arg1 harg1 arg2 harg2 arg3 harg3 arg4 harg4 arg5 harg5 arg6 harg6 arg7 harg7 arg8 harg8 arg16 arg17 x0 x1 x2 x3 x4 x5 x6 x7), y ∈ p.1.set :=
  View.cover_of_tiledBy _ ![128, 64] (by sl_kernel_rfl)

/-- The pieces the codes are stored in are tiles of them. -/
theorem A_code_pieces (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : Pieces (at2 (CODE (G I))) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.1 := by
  unfold kernelRun0_A
  dsimp only
  refine Pieces.cons (fun x => piece_of _ 128 512 _ _ (fun u v => code_1_4 (G I) _ (A_rope1 I c i arg6 harg6 arg8 harg8 x5 x7 hx5 hx7) u v) x) ?_
  refine Pieces.cons (fun x => piece_of _ 128 384 _ _ (fun u v => code_1_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 256 _ _ (fun u v => code_1_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 128 _ _ (fun u v => code_1_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 0 _ _ (fun u v => code_1_0 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 512 _ _ (fun u v => code_0_4 (G I) _ (A_rope0 I c i arg6 harg6 arg8 harg8 x5 x7 hx5 hx7) u v) x) ?_
  refine Pieces.cons (fun x => piece_of _ 0 384 _ _ (fun u v => code_0_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 256 _ _ (fun u v => code_0_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 128 _ _ (fun u v => code_0_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 0 _ _ (fun u v => code_0_0 (G I) _ (A_dc I c arg1 harg1 arg2 harg2 arg3 harg3 arg4 harg4 arg5 harg5 arg7 harg7 arg16 arg17 x0 x1 x2 x3 x4 x6 hx0 hx1 hx2 hx3 hx4 hx6) u v) x) ?_
  exact Pieces.nil _

/-- They cover the buffer. -/
theorem A_code_cover (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) : ∀ y, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.1, y ∈ p.1.set :=
  View.cover_of_tiledBy _ ![128, 64] (by sl_kernel_rfl)

/-- The pieces the scales are stored in are tiles of them. -/
theorem A_scale_pieces (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : Pieces (at2 (SCALE (G I))) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.1 := by
  unfold kernelRun0_A
  dsimp only
  refine Pieces.cons (fun x => piece_of _ 128 4 _ _ (fun u v => scale_1_4 (G I) _ (A_rope1 I c i arg6 harg6 arg8 harg8 x5 x7 hx5 hx7) u v) x) ?_
  refine Pieces.cons (fun x => piece_of _ 128 3 _ _ (fun u v => scale_1_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 2 _ _ (fun u v => scale_1_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 1 _ _ (fun u v => scale_1_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 0 _ _ (fun u v => scale_1_0 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 4 _ _ (fun u v => scale_0_4 (G I) _ (A_rope0 I c i arg6 harg6 arg8 harg8 x5 x7 hx5 hx7) u v) x) ?_
  refine Pieces.cons (fun x => piece_of _ 0 3 _ _ (fun u v => scale_0_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 2 _ _ (fun u v => scale_0_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 1 _ _ (fun u v => scale_0_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 0 _ _ (fun u v => scale_0_0 (G I) _ (A_dc I c arg1 harg1 arg2 harg2 arg3 harg3 arg4 harg4 arg5 harg5 arg7 harg7 arg16 arg17 x0 x1 x2 x3 x4 x6 hx0 hx1 hx2 hx3 hx4 hx6) u v) x) ?_
  exact Pieces.nil _

/-- They cover the buffer. -/
theorem A_scale_cover (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) : ∀ y, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.1, y ∈ p.1.set :=
  View.cover_of_tiledBy _ ![128, 1] (by sl_kernel_rfl)

/-- The pieces the codes along the columns are stored in are tiles of them. -/
theorem A_tcode_pieces (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : Pieces (at2 (TCODE (G I))) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.2.1 := by
  unfold kernelRun0_A
  dsimp only
  refine Pieces.cons (fun x => piece_of _ 128 512 _ _ (fun u v => tcode_1_4 (G I) _ (A_rope1 I c i arg6 harg6 arg8 harg8 x5 x7 hx5 hx7) u v) x) ?_
  refine Pieces.cons (fun x => piece_of _ 128 384 _ _ (fun u v => tcode_1_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 256 _ _ (fun u v => tcode_1_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 128 _ _ (fun u v => tcode_1_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 128 0 _ _ (fun u v => tcode_1_0 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 512 _ _ (fun u v => tcode_0_4 (G I) _ (A_rope0 I c i arg6 harg6 arg8 harg8 x5 x7 hx5 hx7) u v) x) ?_
  refine Pieces.cons (fun x => piece_of _ 0 384 _ _ (fun u v => tcode_0_3 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 256 _ _ (fun u v => tcode_0_2 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 128 _ _ (fun u v => tcode_0_1 (G I) _ (A_dc I c arg1 harg1 arg2 harg2 arg3 harg3 arg4 harg4 arg5 harg5 arg7 harg7 arg16 arg17 x0 x1 x2 x3 x4 x6 hx0 hx1 hx2 hx3 hx4 hx6) u v) x) ?_
  refine Pieces.cons (fun x => piece_of _ 0 0 _ _ (fun u v => tcode_0_0 (G I) _ (A_dc I c arg1 harg1 arg2 harg2 arg3 harg3 arg4 harg4 arg5 harg5 arg7 harg7 arg16 arg17 x0 x1 x2 x3 x4 x6 hx0 hx1 hx2 hx3 hx4 hx6) u v) x) ?_
  exact Pieces.nil _

/-- They cover the buffer. -/
theorem A_tcode_cover (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) : ∀ y, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.2.1, y ∈ p.1.set :=
  View.cover_of_tiledBy _ ![128, 64] (by sl_kernel_rfl)

/-- So they are what the body loads back. -/
theorem A_gb (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (arg17 : Memref sig .tc .vmem S256x4096 .bf16) (arg18 : Memref sig .tc .vmem S256x576 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (r : Fin 256) (k : Fin 576) : kernelRun0_A.sl.v1666 (F := Ideal) c i arg1 harg1 arg2 harg2 arg3 harg3 arg4 harg4 arg5 harg5 arg6 harg6 arg7 harg7 arg8 harg8 arg16 arg17 arg18 x0 x1 x2 x3 x4 x5 x6 x7 (ix2 r k) = GB (G I) r.val k.val := by
  unfold kernelRun0_A.sl.v1666
  refine (readCov_of_pieces arg18.view (A_gb_pieces I c i arg1 harg1 arg2 harg2 arg3 harg3 arg4 harg4 arg5 harg5 arg6 harg6 arg7 harg7 arg8 harg8 arg16 arg17 x0 x1 x2 x3 x4 x5 x6 x7 hx0 hx1 hx2 hx3 hx4 hx5 hx6 hx7) (A_gb_cover c i arg1 harg1 arg2 harg2 arg3 harg3 arg4 harg4 arg5 harg5 arg6 harg6 arg7 harg7 arg8 harg8 arg16 arg17 x0 x1 x2 x3 x4 x5 x6 x7) _ _).trans ?_
  exact (at2_emb _ 0 0 _ _).trans (congrArg₂ _ (Nat.zero_add _) (Nat.zero_add _))

/-- So they are what the body loads back. -/
theorem A_gt (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (arg17 : Memref sig .tc .vmem S256x4096 .bf16) (arg19 : Memref sig .tc .vmem S256x576 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (r : Fin 256) (k : Fin 576) : kernelRun0_A.sl.v1676 (F := Ideal) c i arg1 harg1 arg2 harg2 arg3 harg3 arg4 harg4 arg5 harg5 arg6 harg6 arg7 harg7 arg8 harg8 arg16 arg17 arg19 x0 x1 x2 x3 x4 x5 x6 x7 (ix2 r k) = GT (G I) r.val k.val := by
  unfold kernelRun0_A.sl.v1676
  refine (readCov_of_pieces arg19.view (A_gt_pieces I c i arg1 harg1 arg2 harg2 arg3 harg3 arg4 harg4 arg5 harg5 arg6 harg6 arg7 harg7 arg8 harg8 arg16 arg17 x0 x1 x2 x3 x4 x5 x6 x7 hx0 hx1 hx2 hx3 hx4 hx5 hx6 hx7) (A_gt_cover c i arg1 harg1 arg2 harg2 arg3 harg3 arg4 harg4 arg5 harg5 arg6 harg6 arg7 harg7 arg8 harg8 arg16 arg17 x0 x1 x2 x3 x4 x5 x6 x7) _ _).trans ?_
  exact (at2_emb _ 0 0 _ _).trans (congrArg₂ _ (Nat.zero_add _) (Nat.zero_add _))

end Cert.KernelIdeal.Body

end
-- ==== Proof.Val.Rows.lean ====
/- The rows of the two row arrays a block of tokens writes: the gain's rows and the scales along the columns. Each of the two
   runs of a block replaces one row and leaves the others as they were. -/
module

public import proofs.«01_k».proof.Proof.Val.Tiles

@[expose] public section

noncomputable section

namespace Cert.KernelIdeal.Val

open Idealize.ShloMosaic Idealize.ShloMosaic.TcCoe Cert.KernelIdeal Cert.KernelIdeal.Gen Cert.Spec

/-- The row number of run `ρ` of block `i`, as the body computes it. -/
def rowOf (i : grid0.Coords) (ρ : BitVec 32) : BitVec 32 := Scalar.addi (Scalar.muli (BitVec.ofNat 32 (i 0).val) 2#32) ρ

/-- An array with the row `n` replaced by `f`. -/
def setRow {m n : ℕ} (k : BitVec 32) (f : ℕ → EReal) (X : (⟨2, ![m, n]⟩ : Shape).Idx → EReal) : (⟨2, ![m, n]⟩ : Shape).Idx → EReal :=
  fun y => if BitVec.ofNat 32 (y 0).val = k then f (y 1).val else X y

/-- A store of a whole buffer leaves its payload, whatever was stored before. -/
theorem canon_whole {m n : ℕ} {e : EltTy} (inb) (w : (⟨2, ![m, n]⟩ : Shape).Idx → Elt Ideal e) (L : List (View.Piece (Elt Ideal) (⟨2, ![m, n]⟩ : Shape) e)) :
    View.canon (⟨Rect.unit (s := (⟨2, ![m, n]⟩ : Shape)) ![0, 0] ![m, n] inb, w⟩ :: L) = w :=
  View.canon_cons_unit_zero (funext fun a => by fin_cases a <;> rfl) inb w L

/-- A store of a whole buffer covers it. -/
theorem cover_whole {m n : ℕ} {e : EltTy} (inb) (w : (⟨2, ![m, n]⟩ : Shape).Idx → Elt Ideal e) (L : List (View.Piece (Elt Ideal) (⟨2, ![m, n]⟩ : Shape) e)) :
    ∀ y, ∃ p ∈ (⟨Rect.unit (s := (⟨2, ![m, n]⟩ : Shape)) ![0, 0] ![m, n] inb, w⟩ :: L : List (View.Piece (Elt Ideal) (⟨2, ![m, n]⟩ : Shape) e)), y ∈ p.1.set := fun y =>
  ⟨_, List.mem_cons_self, View.mem_set_unit_zero (S := (⟨2, ![m, n]⟩ : Shape)) (funext fun a => by fin_cases a <;> rfl) inb y⟩

/-- The rectangle that is the whole matrix moves no index. -/
theorem emb_whole {m n : ℕ} (inb) (y : (⟨2, ![m, n]⟩ : Shape).Idx) :
    (Rect.unit (s := (⟨2, ![m, n]⟩ : Shape)) ![0, 0] ![m, n] inb).emb y = y := by
  funext a
  refine Fin.ext ((ValueKit.rect_emb_unit_val _ _ _ _ _).trans ?_)
  fin_cases a <;> exact Nat.zero_add _

/-- A load of a whole buffer reads its contents. -/
theorem readAt_self {κ : Kind} {sp : Space} {e : EltTy} {m n : ℕ} {arg : Memref sig κ sp (⟨2, ![m, n]⟩ : Shape) e}
    (h : arg.IsWhole) (X : (⟨2, ![m, n]⟩ : Shape).Idx → Elt Ideal e) (inb) (y : (⟨2, ![m, n]⟩ : Shape).Idx) :
    View.readAt (Elt Ideal) arg.view (Rect.unit (s := (⟨2, ![m, n]⟩ : Shape)) ![0, 0] ![m, n] inb).toLoadRect (h.unread X) y = X y := by
  refine (Memref.IsWhole.readAt_unread h X (Rect.unit (s := (⟨2, ![m, n]⟩ : Shape)) ![0, 0] ![m, n] inb).toLoadRect y).trans ?_
  exact congrArg X (emb_whole inb y)

/-- A load of a whole buffer after a store of it whole. -/
theorem readCov_whole {κ : Kind} {sp : Space} {e : EltTy} {m n : ℕ} (v : View sig κ sp (⟨2, ![m, n]⟩ : Shape) e) (inb inb')
    (w : (⟨2, ![m, n]⟩ : Shape).Idx → Elt Ideal e) (L : List (View.Piece (Elt Ideal) (⟨2, ![m, n]⟩ : Shape) e)) (y : (⟨2, ![m, n]⟩ : Shape).Idx) :
    v.readCov (⟨Rect.unit (s := (⟨2, ![m, n]⟩ : Shape)) ![0, 0] ![m, n] inb, w⟩ :: L)
      (Rect.unit (s := (⟨2, ![m, n]⟩ : Shape)) ![0, 0] ![m, n] inb').toLoadRect y = w y := by
  refine (congrFun (View.readCov_eq_canon_ld v _ (Rect.unit (s := (⟨2, ![m, n]⟩ : Shape)) ![0, 0] ![m, n] inb') (cover_whole inb w L)) y).trans ?_
  rw [canon_whole]
  exact congrArg w (emb_whole inb' y)

/-- A tile of rows with one row replaced is the tile of the array with that row replaced. -/
theorem row_piece {m n sz q : ℕ} (k : BitVec 32) (f : ℕ → EReal) (X : (⟨2, ![m, n]⟩ : Shape).Idx → EReal) (inb)
    (w wold : (⟨2, ![m, sz]⟩ : Shape).Idx → EReal)
    (hw : ∀ (a : Fin m) (b : Fin sz), w (ix2 a b) = if BitVec.ofNat 32 a.val = k then f (q + b.val) else wold (ix2 a b))
    (hold : ∀ x, wold x = X ((Rect.unit (s := (⟨2, ![m, n]⟩ : Shape)) ![0, q] ![m, sz] inb).emb x)) (x : (⟨2, ![m, sz]⟩ : Shape).Idx) :
    w x = setRow k f X ((Rect.unit (s := (⟨2, ![m, n]⟩ : Shape)) ![0, q] ![m, sz] inb).emb x) := by
  have e0 : (((Rect.unit (s := (⟨2, ![m, n]⟩ : Shape)) ![0, q] ![m, sz] inb).emb x 0 : Fin _) : ℕ) = (x 0).val :=
    (ValueKit.rect_emb_unit_val _ _ _ _ _).trans (Nat.zero_add _)
  have e1 : (((Rect.unit (s := (⟨2, ![m, n]⟩ : Shape)) ![0, q] ![m, sz] inb).emb x 1 : Fin _) : ℕ) = q + (x 1).val :=
    ValueKit.rect_emb_unit_val _ _ _ _ _
  have h1 : w x = if BitVec.ofNat 32 (x 0).val = k then f (q + (x 1).val) else wold x :=
    ((congrArg w (eq_ix2 x)).trans (hw _ _)).trans (by rw [← eq_ix2 x])
  rw [h1, hold, setRow, e0, e1]

/-- A load of a tile of a buffer that holds an array. -/
theorem readAt_emb {κ : Kind} {sp : Space} {e : EltTy} {S : Shape} {arg : Memref sig κ sp S e}
    (h : arg.IsWhole) (X : S.Idx → Elt Ideal e) (B : Rect S) (x : B.shape.Idx) :
    View.readAt (Elt Ideal) arg.view B.toLoadRect (h.unread X) x = X (B.emb x) := Memref.IsWhole.readAt_unread h X _ x

/-- A load, of columns not yet replaced, from a buffer whose first columns are. -/
theorem readCov_later {κ : Kind} {sp : Space} {m n sz q : ℕ} {e : EltTy} (v : View sig κ sp (⟨2, ![m, n]⟩ : Shape) e)
    (F0 F1 : (⟨2, ![m, n]⟩ : Shape).Idx → Elt Ideal e) (L : List (View.Piece (Elt Ideal) (⟨2, ![m, n]⟩ : Shape) e))
    (hcov : ∀ y, ∃ p ∈ L, y ∈ p.1.set)
    (hL : ∀ y, View.canon L y = if (y 1).val < q then F1 y else F0 y) (inb) (x : (⟨2, ![m, sz]⟩ : Shape).Idx) :
    v.readCov L (Rect.unit (s := (⟨2, ![m, n]⟩ : Shape)) ![0, q] ![m, sz] inb).toLoadRect x =
      F0 ((Rect.unit (s := (⟨2, ![m, n]⟩ : Shape)) ![0, q] ![m, sz] inb).emb x) := by
  have e1 : (((Rect.unit (s := (⟨2, ![m, n]⟩ : Shape)) ![0, q] ![m, sz] inb).emb x 1 : Fin _) : ℕ) = q + (x 1).val :=
    ValueKit.rect_emb_unit_val _ _ _ _ _
  refine (congrFun (View.readCov_eq_canon_ld v L (Rect.unit (s := (⟨2, ![m, n]⟩ : Shape)) ![0, q] ![m, sz] inb) hcov) x).trans ?_
  refine (hL _).trans (if_neg ?_)
  intro h
  exact absurd (lt_of_eq_of_lt e1.symm h) (by omega)

/-- A buffer covered stays covered by one more store. -/
theorem cover_cons {S : Shape} {e : EltTy} (p : View.Piece (Elt Ideal) S e) {L : List (View.Piece (Elt Ideal) S e)}
    (h : ∀ y, ∃ p ∈ L, y ∈ p.1.set) : ∀ y, ∃ q ∈ p :: L, y ∈ q.1.set := fun y =>
  let ⟨q, hq, hy⟩ := h y; ⟨q, List.mem_cons_of_mem _ hq, hy⟩

end Cert.KernelIdeal.Val

end
-- ==== Proof.Val.OutA.lean ====
/- What run A of the body leaves in every output buffer, whatever they held. -/
module

public import proofs.«01_k».proof.Proof.Body.RunA
public import proofs.«01_k».proof.Proof.Val.Tiles
public import proofs.«01_k».proof.Proof.Val.GradA
public import proofs.«01_k».proof.Proof.Val.Rows

@[expose] public section

set_option maxRecDepth 16384
set_option maxHeartbeats 4000000

noncomputable section

namespace Cert.KernelIdeal.Body

open Idealize.ShloMosaic Idealize.ShloMosaic.TcCoe Idealize.ShloMosaic.Tactic Cert.KernelIdeal Cert.KernelIdeal.Gen Cert.KernelIdeal.Val Cert.Spec

variable (I : In)

/-- What the first output block is left holding: the product with the weight. -/
theorem A_out8 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (f : arg9.view.ty.Contents (Elt Ideal)) :
    arg9.view.read (Elt Ideal) (arg9.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).1) = at2 (DX I) := by
  unfold kernelRun0_A
  dsimp only
  refine (View.read_writes_eq_canon _ _ _ (cover_whole _ _ _)).trans ((canon_whole _ _ _).trans (funext fun y => ?_))
  exact (congrArg _ (eq_ix2 y)).trans (dx_pay I _ _ (fun r k => A_gb I c i arg1 harg1 arg2 harg2 arg3 harg3 arg4 harg4 arg5 harg5 arg6 harg6 arg7 harg7 arg8 harg8 arg16 arg17 arg18 x0 x1 x2 x3 x4 x5 x6 x7 hx0 hx1 hx2 hx3 hx4 hx5 hx6 hx7 r k) (fun r k => A_v1667 I c arg3 harg3 arg4 harg4 arg16 x2 x3 hx2 hx3 r k) (y 0) (y 1))

/-- What the weight's gradient is left holding: the contribution of the block's tokens. -/
theorem A_out9 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (f : arg10.view.ty.Contents (Elt Ideal)) :
    arg10.view.read (Elt Ideal) (arg10.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.1) = at2 (DWpart I 0 256) := by
  unfold kernelRun0_A
  dsimp only
  refine (View.read_writes_eq_canon _ _ _ (cover_whole _ _ _)).trans ((canon_whole _ _ _).trans (funext fun y => ?_))
  refine (congrArg _ (eq_ix2 y)).trans ((dw_pay I _ _ _ (fun r k => A_gt I c i arg1 harg1 arg2 harg2 arg3 harg3 arg4 harg4 arg5 harg5 arg6 harg6 arg7 harg7 arg8 harg8 arg16 arg17 arg19 x0 x1 x2 x3 x4 x5 x6 x7 hx0 hx1 hx2 hx3 hx4 hx5 hx6 hx7 r k) (fun r k => A_xw I c arg1 harg1 arg2 harg2 arg17 x0 x1 hx0 hx1 r k) (y 0) (y 1)).trans ?_)
  have hz : kernelRun0_A.sl.v1674 (F := Ideal) c arg10 (ix2 (n0 := 576) (n1 := 4096) (y 0) (y 1)) = 0 := by
    unfold kernelRun0_A.sl.v1674 kernelRun0_A.sl.H9_1
    exact (readCov_whole _ _ _ _ _ _).trans (zero_pay _)
  exact (congrArg (· + _) hz).trans (zero_add _)

/-- What the gain's rows are left holding: two rows replaced. -/
theorem A_out10 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (f : arg11.view.ty.Contents (Elt Ideal)) :
    arg11.view.read (Elt Ideal) (arg11.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.1) = setRow (rowOf i 1#32) (DGAIN I 128) (setRow (rowOf i 0#32) (DGAIN I 0) xo10) := by
  unfold kernelRun0_A
  dsimp only
  have h1 : ∀ x, kernelRun0_A.sl.v1052 (F := Ideal) c i arg1 harg1 arg2 harg2 arg3 harg3 arg4 harg4 arg7 harg7 arg11 harg11 arg16 arg17 x0 x1 x2 x3 x6 xo10 x = setRow (rowOf i 0#32) (DGAIN I 0) xo10 x := by
    intro x
    unfold kernelRun0_A.sl.v1052 kernelRun0_A.sl.H10_1
    refine (readCov_whole _ _ _ _ _ _).trans ?_
    refine (row_piece (q := 0) (rowOf i 0#32) (DGAIN I 0) xo10 inb_S16x512_S16x512_0_0 _ _ (fun a b => (dgain0_pay I _ _ _ _ _ (fun r k => A_xw I c arg1 harg1 arg2 harg2 arg17 x0 x1 hx0 hx1 r k) (fun r k => A_v388 I c arg3 harg3 arg4 harg4 arg16 x2 x3 hx2 hx3 r k) (fun r k => readAt_ix2_zero harg7 x6 id I.dc hx6 _ r k) a b).trans (by rw [Nat.zero_add]; rfl)) (fun x => readAt_emb harg11 xo10 (Rect.unit (s := S16x512) ![0, 0] S16x512.size inb_S16x512_S16x512_0_0) x) x).trans ?_
    exact congrArg _ (emb_whole _ x)
  refine (View.read_writes_eq_canon _ _ _ (cover_whole _ _ _)).trans ((canon_whole _ _ _).trans (funext fun y => ?_))
  refine (row_piece (q := 0) (rowOf i 1#32) (DGAIN I 128) (setRow (rowOf i 0#32) (DGAIN I 0) xo10) inb_S16x512_S16x512_0_0 _ _ (fun a b => (dgain1_pay I _ _ _ _ _ (fun r k => A_xw I c arg1 harg1 arg2 harg2 arg17 x0 x1 hx0 hx1 r k) (fun r k => A_v388 I c arg3 harg3 arg4 harg4 arg16 x2 x3 hx2 hx3 r k) (fun r k => readAt_ix2_zero harg7 x6 id I.dc hx6 _ r k) a b).trans (by rw [Nat.zero_add]; rfl)) (fun x => (h1 x).trans (congrArg _ (emb_whole _ x).symm)) y).trans ?_
  exact congrArg _ (emb_whole _ y)

/-- What output block 3 is left holding: the codes. -/
theorem A_out11 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (f : arg12.view.ty.Contents (Elt Ideal)) :
    arg12.view.read (Elt Ideal) (arg12.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.1) = at2 (CODE (G I)) := by
  exact (View.read_writes_eq_canon _ _ _ (A_code_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14)).trans (funext fun y => View.canon_apply_of_pieces _ _ (A_code_pieces I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7) y (A_code_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 y))

/-- What output block 4 is left holding: the scales. -/
theorem A_out12 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (f : arg13.view.ty.Contents (Elt Ideal)) :
    arg13.view.read (Elt Ideal) (arg13.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.1) = at2 (SCALE (G I)) := by
  exact (View.read_writes_eq_canon _ _ _ (A_scale_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14)).trans (funext fun y => View.canon_apply_of_pieces _ _ (A_scale_pieces I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7) y (A_scale_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 y))

/-- What output block 5 is left holding: the codes along the columns. -/
theorem A_out13 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (f : arg14.view.ty.Contents (Elt Ideal)) :
    arg14.view.read (Elt Ideal) (arg14.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.2.1) = at2 (TCODE (G I)) := by
  exact (View.read_writes_eq_canon _ _ _ (A_tcode_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14)).trans (funext fun y => View.canon_apply_of_pieces _ _ (A_tcode_pieces I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7) y (A_tcode_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 y))

/-- The first run's rows of scales along the columns, tile by tile. -/
theorem A_ts0_pieces (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : Pieces (setRow (rowOf i 0#32) (TSCALE (G I) 0) xo14) (kernelRun0_A.sl.H14_5 (F := Ideal) c i arg1 harg1 arg2 harg2 arg3 harg3 arg4 harg4 arg5 harg5 arg6 harg6 arg7 harg7 arg8 harg8 arg15 harg15 arg16 arg17 x0 x1 x2 x3 x4 x5 x6 x7 xo14) := by
  unfold kernelRun0_A.sl.H14_5
  refine Pieces.cons (fun x => row_piece (rowOf i 0#32) (TSCALE (G I) 0) xo14 _ _ _ (fun a b => ts_0_4 (G I) _ _ _ (A_rope0 I c i arg6 harg6 arg8 harg8 x5 x7 hx5 hx7) a b) (fun x => readAt_emb harg15 xo14 (Rect.unit (s := S16x576) ![0, 512] S16x64.size inb_S16x576_S16x64_0_512) x) x) ?_
  refine Pieces.cons (fun x => row_piece (rowOf i 0#32) (TSCALE (G I) 0) xo14 _ _ _ (fun a b => ts_0_3 (G I) _ _ _ (A_dc I c arg1 harg1 arg2 harg2 arg3 harg3 arg4 harg4 arg5 harg5 arg7 harg7 arg16 arg17 x0 x1 x2 x3 x4 x6 hx0 hx1 hx2 hx3 hx4 hx6) a b) (fun x => readAt_emb harg15 xo14 (Rect.unit (s := S16x576) ![0, 384] S16x128.size inb_S16x576_S16x128_0_384) x) x) ?_
  refine Pieces.cons (fun x => row_piece (rowOf i 0#32) (TSCALE (G I) 0) xo14 _ _ _ (fun a b => ts_0_2 (G I) _ _ _ (A_dc I c arg1 harg1 arg2 harg2 arg3 harg3 arg4 harg4 arg5 harg5 arg7 harg7 arg16 arg17 x0 x1 x2 x3 x4 x6 hx0 hx1 hx2 hx3 hx4 hx6) a b) (fun x => readAt_emb harg15 xo14 (Rect.unit (s := S16x576) ![0, 256] S16x128.size inb_S16x576_S16x128_0_256) x) x) ?_
  refine Pieces.cons (fun x => row_piece (rowOf i 0#32) (TSCALE (G I) 0) xo14 _ _ _ (fun a b => ts_0_1 (G I) _ _ _ (A_dc I c arg1 harg1 arg2 harg2 arg3 harg3 arg4 harg4 arg5 harg5 arg7 harg7 arg16 arg17 x0 x1 x2 x3 x4 x6 hx0 hx1 hx2 hx3 hx4 hx6) a b) (fun x => readAt_emb harg15 xo14 (Rect.unit (s := S16x576) ![0, 128] S16x128.size inb_S16x576_S16x128_0_128) x) x) ?_
  refine Pieces.cons (fun x => row_piece (rowOf i 0#32) (TSCALE (G I) 0) xo14 _ _ _ (fun a b => ts_0_0 (G I) _ _ _ (A_dc I c arg1 harg1 arg2 harg2 arg3 harg3 arg4 harg4 arg5 harg5 arg7 harg7 arg16 arg17 x0 x1 x2 x3 x4 x6 hx0 hx1 hx2 hx3 hx4 hx6) a b) (fun x => readAt_emb harg15 xo14 (Rect.unit (s := S16x576) ![0, 0] S16x128.size inb_S16x576_S16x128_0_0) x) x) ?_
  exact Pieces.nil _

/-- They cover the buffer. -/
theorem A_ts0_cover (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) : ∀ y, ∃ p ∈ kernelRun0_A.sl.H14_5 (F := Ideal) c i arg1 harg1 arg2 harg2 arg3 harg3 arg4 harg4 arg5 harg5 arg6 harg6 arg7 harg7 arg8 harg8 arg15 harg15 arg16 arg17 x0 x1 x2 x3 x4 x5 x6 x7 xo14, y ∈ p.1.set :=
  View.cover_of_tiledBy _ ![16, 64] (by sl_kernel_rfl)

/-- The same cover, by the number of stores made. -/
theorem A_tscov_5 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) : ∀ y, ∃ p ∈ kernelRun0_A.sl.H14_5 (F := Ideal) c i arg1 harg1 arg2 harg2 arg3 harg3 arg4 harg4 arg5 harg5 arg6 harg6 arg7 harg7 arg8 harg8 arg15 harg15 arg16 arg17 x0 x1 x2 x3 x4 x5 x6 x7 xo14, y ∈ p.1.set := A_ts0_cover c i arg1 harg1 arg2 harg2 arg3 harg3 arg4 harg4 arg5 harg5 arg6 harg6 arg7 harg7 arg8 harg8 arg15 harg15 arg16 arg17 x0 x1 x2 x3 x4 x5 x6 x7 xo14

/-- After the first run the buffer holds the array with its row replaced. -/
theorem A_ts_5 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (y : S16x576.Idx) :
    View.canon (kernelRun0_A.sl.H14_5 (F := Ideal) c i arg1 harg1 arg2 harg2 arg3 harg3 arg4 harg4 arg5 harg5 arg6 harg6 arg7 harg7 arg8 harg8 arg15 harg15 arg16 arg17 x0 x1 x2 x3 x4 x5 x6 x7 xo14) y = if (y 1).val < 0 then (setRow (rowOf i 1#32) (TSCALE (G I) 128) (setRow (rowOf i 0#32) (TSCALE (G I) 0) xo14)) y else (setRow (rowOf i 0#32) (TSCALE (G I) 0) xo14) y :=
  (View.canon_apply_of_pieces _ _ (A_ts0_pieces I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7) y (A_ts0_cover c i arg1 harg1 arg2 harg2 arg3 harg3 arg4 harg4 arg5 harg5 arg6 harg6 arg7 harg7 arg8 harg8 arg15 harg15 arg16 arg17 x0 x1 x2 x3 x4 x5 x6 x7 xo14 y)).trans (if_neg (Nat.not_lt_zero _)).symm

/-- The second run's row, replaced in the columns before 128. -/
theorem A_ts_6 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : ∀ (y : S16x576.Idx),
    View.canon (kernelRun0_A.sl.H14_6 (F := Ideal) c i arg1 harg1 arg2 harg2 arg3 harg3 arg4 harg4 arg5 harg5 arg6 harg6 arg7 harg7 arg8 harg8 arg15 harg15 arg16 arg17 x0 x1 x2 x3 x4 x5 x6 x7 xo14) y = if (y 1).val < 128 then (setRow (rowOf i 1#32) (TSCALE (G I) 128) (setRow (rowOf i 0#32) (TSCALE (G I) 0) xo14)) y else (setRow (rowOf i 0#32) (TSCALE (G I) 0) xo14) y := by
  unfold kernelRun0_A.sl.H14_6
  refine canon_step (e := .f32) (q := 0) (setRow (rowOf i 0#32) (TSCALE (G I) 0) xo14) (setRow (rowOf i 1#32) (TSCALE (G I) 128) (setRow (rowOf i 0#32) (TSCALE (G I) 0) xo14)) _ (fun y => A_ts_5 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ _ (by rfl) ?_
  refine row_piece (rowOf i 1#32) (TSCALE (G I) 128) (setRow (rowOf i 0#32) (TSCALE (G I) 0) xo14) _ _ _ (fun a b => ts_1_0 (G I) _ _ _ (A_dc I c arg1 harg1 arg2 harg2 arg3 harg3 arg4 harg4 arg5 harg5 arg7 harg7 arg16 arg17 x0 x1 x2 x3 x4 x6 hx0 hx1 hx2 hx3 hx4 hx6) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (A_tscov_5 c i arg1 harg1 arg2 harg2 arg3 harg3 arg4 harg4 arg5 harg5 arg6 harg6 arg7 harg7 arg8 harg8 arg15 harg15 arg16 arg17 x0 x1 x2 x3 x4 x5 x6 x7 xo14) (fun y => A_ts_5 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ x

/-- The stores so far cover the buffer (6 of them). -/
theorem A_tscov_6 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) : ∀ y, ∃ p ∈ (kernelRun0_A.sl.H14_6 (F := Ideal) c i arg1 harg1 arg2 harg2 arg3 harg3 arg4 harg4 arg5 harg5 arg6 harg6 arg7 harg7 arg8 harg8 arg15 harg15 arg16 arg17 x0 x1 x2 x3 x4 x5 x6 x7 xo14), y ∈ p.1.set := by
  unfold kernelRun0_A.sl.H14_6
  exact cover_cons _ (A_tscov_5 c i arg1 harg1 arg2 harg2 arg3 harg3 arg4 harg4 arg5 harg5 arg6 harg6 arg7 harg7 arg8 harg8 arg15 harg15 arg16 arg17 x0 x1 x2 x3 x4 x5 x6 x7 xo14)

/-- The second run's row, replaced in the columns before 256. -/
theorem A_ts_7 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : ∀ (y : S16x576.Idx),
    View.canon (kernelRun0_A.sl.H14_7 (F := Ideal) c i arg1 harg1 arg2 harg2 arg3 harg3 arg4 harg4 arg5 harg5 arg6 harg6 arg7 harg7 arg8 harg8 arg15 harg15 arg16 arg17 x0 x1 x2 x3 x4 x5 x6 x7 xo14) y = if (y 1).val < 256 then (setRow (rowOf i 1#32) (TSCALE (G I) 128) (setRow (rowOf i 0#32) (TSCALE (G I) 0) xo14)) y else (setRow (rowOf i 0#32) (TSCALE (G I) 0) xo14) y := by
  unfold kernelRun0_A.sl.H14_7
  refine canon_step (e := .f32) (q := 128) (setRow (rowOf i 0#32) (TSCALE (G I) 0) xo14) (setRow (rowOf i 1#32) (TSCALE (G I) 128) (setRow (rowOf i 0#32) (TSCALE (G I) 0) xo14)) _ (fun y => A_ts_6 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ _ (by rfl) ?_
  refine row_piece (rowOf i 1#32) (TSCALE (G I) 128) (setRow (rowOf i 0#32) (TSCALE (G I) 0) xo14) _ _ _ (fun a b => ts_1_1 (G I) _ _ _ (A_dc I c arg1 harg1 arg2 harg2 arg3 harg3 arg4 harg4 arg5 harg5 arg7 harg7 arg16 arg17 x0 x1 x2 x3 x4 x6 hx0 hx1 hx2 hx3 hx4 hx6) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (A_tscov_6 c i arg1 harg1 arg2 harg2 arg3 harg3 arg4 harg4 arg5 harg5 arg6 harg6 arg7 harg7 arg8 harg8 arg15 harg15 arg16 arg17 x0 x1 x2 x3 x4 x5 x6 x7 xo14) (fun y => A_ts_6 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ x

/-- The stores so far cover the buffer (7 of them). -/
theorem A_tscov_7 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) : ∀ y, ∃ p ∈ (kernelRun0_A.sl.H14_7 (F := Ideal) c i arg1 harg1 arg2 harg2 arg3 harg3 arg4 harg4 arg5 harg5 arg6 harg6 arg7 harg7 arg8 harg8 arg15 harg15 arg16 arg17 x0 x1 x2 x3 x4 x5 x6 x7 xo14), y ∈ p.1.set := by
  unfold kernelRun0_A.sl.H14_7
  exact cover_cons _ (A_tscov_6 c i arg1 harg1 arg2 harg2 arg3 harg3 arg4 harg4 arg5 harg5 arg6 harg6 arg7 harg7 arg8 harg8 arg15 harg15 arg16 arg17 x0 x1 x2 x3 x4 x5 x6 x7 xo14)

/-- The second run's row, replaced in the columns before 384. -/
theorem A_ts_8 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : ∀ (y : S16x576.Idx),
    View.canon (kernelRun0_A.sl.H14_8 (F := Ideal) c i arg1 harg1 arg2 harg2 arg3 harg3 arg4 harg4 arg5 harg5 arg6 harg6 arg7 harg7 arg8 harg8 arg15 harg15 arg16 arg17 x0 x1 x2 x3 x4 x5 x6 x7 xo14) y = if (y 1).val < 384 then (setRow (rowOf i 1#32) (TSCALE (G I) 128) (setRow (rowOf i 0#32) (TSCALE (G I) 0) xo14)) y else (setRow (rowOf i 0#32) (TSCALE (G I) 0) xo14) y := by
  unfold kernelRun0_A.sl.H14_8
  refine canon_step (e := .f32) (q := 256) (setRow (rowOf i 0#32) (TSCALE (G I) 0) xo14) (setRow (rowOf i 1#32) (TSCALE (G I) 128) (setRow (rowOf i 0#32) (TSCALE (G I) 0) xo14)) _ (fun y => A_ts_7 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ _ (by rfl) ?_
  refine row_piece (rowOf i 1#32) (TSCALE (G I) 128) (setRow (rowOf i 0#32) (TSCALE (G I) 0) xo14) _ _ _ (fun a b => ts_1_2 (G I) _ _ _ (A_dc I c arg1 harg1 arg2 harg2 arg3 harg3 arg4 harg4 arg5 harg5 arg7 harg7 arg16 arg17 x0 x1 x2 x3 x4 x6 hx0 hx1 hx2 hx3 hx4 hx6) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (A_tscov_7 c i arg1 harg1 arg2 harg2 arg3 harg3 arg4 harg4 arg5 harg5 arg6 harg6 arg7 harg7 arg8 harg8 arg15 harg15 arg16 arg17 x0 x1 x2 x3 x4 x5 x6 x7 xo14) (fun y => A_ts_7 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ x

/-- The stores so far cover the buffer (8 of them). -/
theorem A_tscov_8 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) : ∀ y, ∃ p ∈ (kernelRun0_A.sl.H14_8 (F := Ideal) c i arg1 harg1 arg2 harg2 arg3 harg3 arg4 harg4 arg5 harg5 arg6 harg6 arg7 harg7 arg8 harg8 arg15 harg15 arg16 arg17 x0 x1 x2 x3 x4 x5 x6 x7 xo14), y ∈ p.1.set := by
  unfold kernelRun0_A.sl.H14_8
  exact cover_cons _ (A_tscov_7 c i arg1 harg1 arg2 harg2 arg3 harg3 arg4 harg4 arg5 harg5 arg6 harg6 arg7 harg7 arg8 harg8 arg15 harg15 arg16 arg17 x0 x1 x2 x3 x4 x5 x6 x7 xo14)

/-- The second run's row, replaced in the columns before 512. -/
theorem A_ts_9 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : ∀ (y : S16x576.Idx),
    View.canon (kernelRun0_A.sl.H14_9 (F := Ideal) c i arg1 harg1 arg2 harg2 arg3 harg3 arg4 harg4 arg5 harg5 arg6 harg6 arg7 harg7 arg8 harg8 arg15 harg15 arg16 arg17 x0 x1 x2 x3 x4 x5 x6 x7 xo14) y = if (y 1).val < 512 then (setRow (rowOf i 1#32) (TSCALE (G I) 128) (setRow (rowOf i 0#32) (TSCALE (G I) 0) xo14)) y else (setRow (rowOf i 0#32) (TSCALE (G I) 0) xo14) y := by
  unfold kernelRun0_A.sl.H14_9
  refine canon_step (e := .f32) (q := 384) (setRow (rowOf i 0#32) (TSCALE (G I) 0) xo14) (setRow (rowOf i 1#32) (TSCALE (G I) 128) (setRow (rowOf i 0#32) (TSCALE (G I) 0) xo14)) _ (fun y => A_ts_8 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ _ (by rfl) ?_
  refine row_piece (rowOf i 1#32) (TSCALE (G I) 128) (setRow (rowOf i 0#32) (TSCALE (G I) 0) xo14) _ _ _ (fun a b => ts_1_3 (G I) _ _ _ (A_dc I c arg1 harg1 arg2 harg2 arg3 harg3 arg4 harg4 arg5 harg5 arg7 harg7 arg16 arg17 x0 x1 x2 x3 x4 x6 hx0 hx1 hx2 hx3 hx4 hx6) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (A_tscov_8 c i arg1 harg1 arg2 harg2 arg3 harg3 arg4 harg4 arg5 harg5 arg6 harg6 arg7 harg7 arg8 harg8 arg15 harg15 arg16 arg17 x0 x1 x2 x3 x4 x5 x6 x7 xo14) (fun y => A_ts_8 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ x

/-- The stores so far cover the buffer (9 of them). -/
theorem A_tscov_9 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (arg17 : Memref sig .tc .vmem S256x4096 .bf16) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo14 : Vec Ideal S16x576 .f32) : ∀ y, ∃ p ∈ (kernelRun0_A.sl.H14_9 (F := Ideal) c i arg1 harg1 arg2 harg2 arg3 harg3 arg4 harg4 arg5 harg5 arg6 harg6 arg7 harg7 arg8 harg8 arg15 harg15 arg16 arg17 x0 x1 x2 x3 x4 x5 x6 x7 xo14), y ∈ p.1.set := by
  unfold kernelRun0_A.sl.H14_9
  exact cover_cons _ (A_tscov_8 c i arg1 harg1 arg2 harg2 arg3 harg3 arg4 harg4 arg5 harg5 arg6 harg6 arg7 harg7 arg8 harg8 arg15 harg15 arg16 arg17 x0 x1 x2 x3 x4 x5 x6 x7 xo14)

/-- The second run's row, replaced in the columns before 576. -/
theorem A_ts_10 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) : ∀ (y : S16x576.Idx),
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.2.2.1 y = if (y 1).val < 576 then (setRow (rowOf i 1#32) (TSCALE (G I) 128) (setRow (rowOf i 0#32) (TSCALE (G I) 0) xo14)) y else (setRow (rowOf i 0#32) (TSCALE (G I) 0) xo14) y := by
  unfold kernelRun0_A
  dsimp only
  refine canon_step (e := .f32) (q := 512) (setRow (rowOf i 0#32) (TSCALE (G I) 0) xo14) (setRow (rowOf i 1#32) (TSCALE (G I) 128) (setRow (rowOf i 0#32) (TSCALE (G I) 0) xo14)) _ (fun y => A_ts_9 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ _ (by rfl) ?_
  refine row_piece (rowOf i 1#32) (TSCALE (G I) 128) (setRow (rowOf i 0#32) (TSCALE (G I) 0) xo14) _ _ _ (fun a b => ts_1_4 (G I) _ _ _ (A_rope1 I c i arg6 harg6 arg8 harg8 x5 x7 hx5 hx7) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (A_tscov_9 c i arg1 harg1 arg2 harg2 arg3 harg3 arg4 harg4 arg5 harg5 arg6 harg6 arg7 harg7 arg8 harg8 arg15 harg15 arg16 arg17 x0 x1 x2 x3 x4 x5 x6 x7 xo14) (fun y => A_ts_9 I c i arg1 harg1 arg2 harg2 arg3 harg3 arg4 harg4 arg5 harg5 arg6 harg6 arg7 harg7 arg8 harg8 arg15 harg15 arg16 arg17 x0 x1 x2 x3 x4 x5 x6 x7 xo14 hx0 hx1 hx2 hx3 hx4 hx5 hx6 hx7 y) _ x

/-- The stores so far cover the buffer (10 of them). -/
theorem A_tscov_10 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) : ∀ y, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.2.2.1, y ∈ p.1.set := by
  unfold kernelRun0_A
  dsimp only
  exact cover_cons _ (A_tscov_9 c i arg1 harg1 arg2 harg2 arg3 harg3 arg4 harg4 arg5 harg5 arg6 harg6 arg7 harg7 arg8 harg8 arg15 harg15 arg16 arg17 x0 x1 x2 x3 x4 x5 x6 x7 xo14)

/-- What the rows of scales along the columns are left holding: two rows replaced. -/
theorem A_out14 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (f : arg15.view.ty.Contents (Elt Ideal)) :
    arg15.view.read (Elt Ideal) (arg15.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.2.2.1) = (setRow (rowOf i 1#32) (TSCALE (G I) 128) (setRow (rowOf i 0#32) (TSCALE (G I) 0) xo14)) := by
  refine (View.read_writes_eq_canon _ _ _ (A_tscov_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14)).trans (funext fun y => ?_)
  have l : (y 1).val < 576 := (y 1).isLt
  exact (A_ts_10 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7 y).trans (if_pos l)

/-- What the scratch is left holding: the weight dequantised. -/
theorem A_scratch (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (f : arg16.view.ty.Contents (Elt Ideal)) :
    arg16.view.read (Elt Ideal) (arg16.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.2.2.2.1) = at2 (WW I) :=
  (View.read_writes_eq_canon _ _ _ (A_ww_cover c arg3 harg3 arg4 harg4 x2 x3)).trans (funext fun y => View.canon_apply_of_pieces _ _ (A_ww_pieces I c arg3 harg3 arg4 harg4 x2 x3 hx2 hx3) y (A_ww_cover c arg3 harg3 arg4 harg4 x2 x3 y))

end Cert.KernelIdeal.Body

end
-- ==== Proof.Val.StepA.lean ====
/- The body at the first point, its outputs read: from the inputs' blocks it leaves each output buffer at the step's mathematics. -/
module

public import proofs.«01_k».proof.Proof.Val.OutA

@[expose] public section

set_option maxRecDepth 16384

noncomputable section

namespace Cert.KernelIdeal.Body

open Cert.KernelIdeal Cert.KernelIdeal.Gen Cert.KernelIdeal.Val Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (I : In)

set_option maxHeartbeats 3200000 in
/-- At the first point, whatever the output buffers and the scratch held, the two row arrays apart. -/
theorem stepA (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : cond0_0 i) (hc1 : cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo10 : Vec Ideal S16x512 .f32) (xo14 : Vec Ideal S16x576 .f32) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xo10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (at2 (DX I)) ∗ owns (c : Thread nD τ) arg10 fullShare (at2 (DWpart I 0 256)) ∗ owns (c : Thread nD τ) arg11 fullShare (setRow (rowOf i 1#32) (DGAIN I 128) (setRow (rowOf i 0#32) (DGAIN I 0) xo10)) ∗ owns (c : Thread nD τ) arg12 fullShare (at2 (CODE (G I))) ∗ owns (c : Thread nD τ) arg13 fullShare (at2 (SCALE (G I))) ∗ owns (c : Thread nD τ) arg14 fullShare (at2 (TCODE (G I))) ∗ owns (c : Thread nD τ) arg15 fullShare (setRow (rowOf i 1#32) (TSCALE (G I) 128) (setRow (rowOf i 0#32) (TSCALE (G I) 0) xo14)) ∗ owns (c : Thread nD τ) arg16 fullShare (at2 (WW I)) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := Ideal)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, HS0, HS1, HS2, HS3, Hk⟩
  iapply ((kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14).2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, ⟨%f8, H8⟩, ⟨%f9, H9⟩, ⟨%f10, H10⟩, ⟨%f11, H11⟩, ⟨%f12, H12⟩, ⟨%f13, H13⟩, ⟨%f14, H14⟩, ⟨%fs, HS0⟩, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact A_out8 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7 f8
  isplitl [H9]
  · unfold owns; iexists _; isplitr
    swap; · iexact H9
    ipureintro; exact A_out9 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7 f9
  isplitl [H10]
  · unfold owns; iexists _; isplitr
    swap; · iexact H10
    ipureintro; exact A_out10 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7 f10
  isplitl [H11]
  · unfold owns; iexists _; isplitr
    swap; · iexact H11
    ipureintro; exact A_out11 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7 f11
  isplitl [H12]
  · unfold owns; iexists _; isplitr
    swap; · iexact H12
    ipureintro; exact A_out12 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7 f12
  isplitl [H13]
  · unfold owns; iexists _; isplitr
    swap; · iexact H13
    ipureintro; exact A_out13 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7 f13
  isplitl [H14]
  · unfold owns; iexists _; isplitr
    swap; · iexact H14
    ipureintro; exact A_out14 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7 f14
  isplitl [HS0]
  · unfold owns; iexists _; isplitr
    swap; · iexact HS0
    ipureintro; exact A_scratch I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo10 xo14 hx0 hx1 hx2 hx3 hx4 hx5 hx6 hx7 fs
  isplitl [HS1]; · iexact HS1
  isplitl [HS2]; · iexact HS2
  iexact HS3

end Cert.KernelIdeal.Body

end
-- ==== Proof.Body.RunB.lean ====
/- The run of the idealized kernel's body at every later point: the scratch `arg16` holds `xs0`, the dequantised weights, and `dw` holds the sum so far. -/
module

public import proofs.«01_k».proof.Proof.Body.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3872000 in
/-- The stores the body makes into each output buffer (latest first), with the proof that the body runs and leaves each output buffer with those stores made into it, at every later point: the scratch `arg16` holds `xs0`, the dequantised weights, and `dw` holds the sum so far. The windows written one row at a time, `dgain` and `tscales`, are given with the contents they had before. -/
noncomputable def kernelRun0_B (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i)
    (x0 : Vec F S256x4096 .fp8e4m3) (x1 : Vec F S256x32 .f32) (x2 : Vec F S576x4096 .fp8e4m3) (x3 : Vec F S5x32 .f32) (x4 : Vec F S1x512 .f32) (x5 : Vec F S16x128 .i32) (x6 : Vec F S256x512 .bf16) (x7 : Vec F S256x64 .bf16) (xo9 : Vec F S576x4096 .f32) (xo10 : Vec F S16x512 .f32) (xo14 : Vec F S16x576 .f32) (xs0 : Vec F S576x4096 .bf16) :
    Σ' (L8 : List (View.Piece (Elt F) S256x4096 .bf16)), Σ' (L9 : List (View.Piece (Elt F) S576x4096 .f32)), Σ' (L10 : List (View.Piece (Elt F) S16x512 .f32)), Σ' (L11 : List (View.Piece (Elt F) S256x576 .fp8e5m2)), Σ' (L12 : List (View.Piece (Elt F) S256x5 .f32)), Σ' (L13 : List (View.Piece (Elt F) S256x576 .fp8e5m2)), { L14 : List (View.Piece (Elt F) S16x576 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ owns (c : Thread nD τ) arg11 fullShare xo10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ owns (c : Thread nD τ) arg16 fullShare xs0 ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xs0 ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, fun E K => ?run⟩
  case run =>
    simp only [cc0__body_eq_skeleton]; unfold cc0__body_skel
    simp only [k0_part85_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg15.eq_unread hf14; obtain rfl := harg16.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _; isplitr; · ipureintro; exact harg16.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.Val.DeqB.lean ====
/- What run B of the body loads back of the tokens it dequantised. -/
module

public import proofs.«01_k».proof.Proof.Body.RunB
public import proofs.«01_k».proof.Proof.Val.Tiles

@[expose] public section

set_option maxRecDepth 16384
set_option maxHeartbeats 4000000

noncomputable section

namespace Cert.KernelIdeal.Body

open Idealize.ShloMosaic Idealize.ShloMosaic.TcCoe Idealize.ShloMosaic.Tactic Cert.KernelIdeal Cert.KernelIdeal.Gen Cert.KernelIdeal.Val Cert.Spec

variable (I : In)

/-- The pieces the dequantised tokens are stored in are tiles of them. -/
theorem B_xw_pieces (c : Dev nD) (arg1 : Memref sig .tc .vmem S256x4096 .fp8e4m3) (harg1 : arg1.IsWhole) (arg2 : Memref sig .tc .vmem S256x32 .f32) (harg2 : arg2.IsWhole) (x0 : Vec Ideal S256x4096 .fp8e4m3) (x1 : Vec Ideal S256x32 .f32) (hx0 : ∀ r d, x0 (ix2 r d) = I.x r.val d.val) (hx1 : ∀ r d, x1 (ix2 r d) = I.xs r.val d.val) : Pieces (at2 (XW I)) (kernelRun0_B.sl.HS1_32 (F := Ideal) c arg1 harg1 arg2 harg2 x0 x1) := by
  unfold kernelRun0_B.sl.HS1_32
  refine Pieces.cons (fun x => xpiece I harg1 harg2 x0 x1 hx0 hx1 31 3968 rfl _ _ x) ?_
  refine Pieces.cons (fun x => xpiece I harg1 harg2 x0 x1 hx0 hx1 30 3840 rfl _ _ x) ?_
  refine Pieces.cons (fun x => xpiece I harg1 harg2 x0 x1 hx0 hx1 29 3712 rfl _ _ x) ?_
  refine Pieces.cons (fun x => xpiece I harg1 harg2 x0 x1 hx0 hx1 28 3584 rfl _ _ x) ?_
  refine Pieces.cons (fun x => xpiece I harg1 harg2 x0 x1 hx0 hx1 27 3456 rfl _ _ x) ?_
  refine Pieces.cons (fun x => xpiece I harg1 harg2 x0 x1 hx0 hx1 26 3328 rfl _ _ x) ?_
  refine Pieces.cons (fun x => xpiece I harg1 harg2 x0 x1 hx0 hx1 25 3200 rfl _ _ x) ?_
  refine Pieces.cons (fun x => xpiece I harg1 harg2 x0 x1 hx0 hx1 24 3072 rfl _ _ x) ?_
  refine Pieces.cons (fun x => xpiece I harg1 harg2 x0 x1 hx0 hx1 23 2944 rfl _ _ x) ?_
  refine Pieces.cons (fun x => xpiece I harg1 harg2 x0 x1 hx0 hx1 22 2816 rfl _ _ x) ?_
  refine Pieces.cons (fun x => xpiece I harg1 harg2 x0 x1 hx0 hx1 21 2688 rfl _ _ x) ?_
  refine Pieces.cons (fun x => xpiece I harg1 harg2 x0 x1 hx0 hx1 20 2560 rfl _ _ x) ?_
  refine Pieces.cons (fun x => xpiece I harg1 harg2 x0 x1 hx0 hx1 19 2432 rfl _ _ x) ?_
  refine Pieces.cons (fun x => xpiece I harg1 harg2 x0 x1 hx0 hx1 18 2304 rfl _ _ x) ?_
  refine Pieces.cons (fun x => xpiece I harg1 harg2 x0 x1 hx0 hx1 17 2176 rfl _ _ x) ?_
  refine Pieces.cons (fun x => xpiece I harg1 harg2 x0 x1 hx0 hx1 16 2048 rfl _ _ x) ?_
  refine Pieces.cons (fun x => xpiece I harg1 harg2 x0 x1 hx0 hx1 15 1920 rfl _ _ x) ?_
  refine Pieces.cons (fun x => xpiece I harg1 harg2 x0 x1 hx0 hx1 14 1792 rfl _ _ x) ?_
  refine Pieces.cons (fun x => xpiece I harg1 harg2 x0 x1 hx0 hx1 13 1664 rfl _ _ x) ?_
  refine Pieces.cons (fun x => xpiece I harg1 harg2 x0 x1 hx0 hx1 12 1536 rfl _ _ x) ?_
  refine Pieces.cons (fun x => xpiece I harg1 harg2 x0 x1 hx0 hx1 11 1408 rfl _ _ x) ?_
  refine Pieces.cons (fun x => xpiece I harg1 harg2 x0 x1 hx0 hx1 10 1280 rfl _ _ x) ?_
  refine Pieces.cons (fun x => xpiece I harg1 harg2 x0 x1 hx0 hx1 9 1152 rfl _ _ x) ?_
  refine Pieces.cons (fun x => xpiece I harg1 harg2 x0 x1 hx0 hx1 8 1024 rfl _ _ x) ?_
  refine Pieces.cons (fun x => xpiece I harg1 harg2 x0 x1 hx0 hx1 7 896 rfl _ _ x) ?_
  refine Pieces.cons (fun x => xpiece I harg1 harg2 x0 x1 hx0 hx1 6 768 rfl _ _ x) ?_
  refine Pieces.cons (fun x => xpiece I harg1 harg2 x0 x1 hx0 hx1 5 640 rfl _ _ x) ?_
  refine Pieces.cons (fun x => xpiece I harg1 harg2 x0 x1 hx0 hx1 4 512 rfl _ _ x) ?_
  refine Pieces.cons (fun x => xpiece I harg1 harg2 x0 x1 hx0 hx1 3 384 rfl _ _ x) ?_
  refine Pieces.cons (fun x => xpiece I harg1 harg2 x0 x1 hx0 hx1 2 256 rfl _ _ x) ?_
  refine Pieces.cons (fun x => xpiece I harg1 harg2 x0 x1 hx0 hx1 1 128 rfl _ _ x) ?_
  refine Pieces.cons (fun x => xpiece I harg1 harg2 x0 x1 hx0 hx1 0 0 rfl _ _ x) ?_
  exact Pieces.nil _

/-- They cover the buffer. -/
theorem B_xw_cover (c : Dev nD) (arg1 : Memref sig .tc .vmem S256x4096 .fp8e4m3) (harg1 : arg1.IsWhole) (arg2 : Memref sig .tc .vmem S256x32 .f32) (harg2 : arg2.IsWhole) (x0 : Vec Ideal S256x4096 .fp8e4m3) (x1 : Vec Ideal S256x32 .f32) : ∀ y, ∃ p ∈ kernelRun0_B.sl.HS1_32 (F := Ideal) c arg1 harg1 arg2 harg2 x0 x1, y ∈ p.1.set :=
  View.cover_of_tiledL _ ![256, 128] (by sl_kernel_rfl)

/-- So the tokens loaded back are the tokens dequantised. -/
theorem B_xw (c : Dev nD) (arg1 : Memref sig .tc .vmem S256x4096 .fp8e4m3) (harg1 : arg1.IsWhole) (arg2 : Memref sig .tc .vmem S256x32 .f32) (harg2 : arg2.IsWhole) (arg17 : Memref sig .tc .vmem S256x4096 .bf16) (x0 : Vec Ideal S256x4096 .fp8e4m3) (x1 : Vec Ideal S256x32 .f32) (hx0 : ∀ r d, x0 (ix2 r d) = I.x r.val d.val) (hx1 : ∀ r d, x1 (ix2 r d) = I.xs r.val d.val) (r : Fin 256) (k : Fin 4096) : kernelRun0_B.sl.v387 (F := Ideal) c arg1 harg1 arg2 harg2 arg17 x0 x1 (ix2 r k) = XW I r.val k.val := by
  unfold kernelRun0_B.sl.v387
  refine (readCov_of_pieces arg17.view (B_xw_pieces I c arg1 harg1 arg2 harg2 x0 x1 hx0 hx1) (B_xw_cover c arg1 harg1 arg2 harg2 x0 x1) _ _).trans ?_
  rw [at2_emb, Nat.zero_add, Nat.zero_add]; rfl

end Cert.KernelIdeal.Body

end
-- ==== Proof.Val.GradB.lean ====
/- The gradient run B of the body computes, and the arrays it stores quantised: each is the function of the specification, tile by tile. -/
module

public import proofs.«01_k».proof.Proof.Body.RunB
public import proofs.«01_k».proof.Proof.Val.Tiles
public import proofs.«01_k».proof.Proof.Val.DeqB
public import proofs.«01_k».proof.Proof.Val.Step
public import proofs.«01_k».proof.Proof.Pay.Code
public import proofs.«01_k».proof.Proof.Pay.Scale
public import proofs.«01_k».proof.Proof.Pay.Gb
public import proofs.«01_k».proof.Proof.Pay.TCode
public import proofs.«01_k».proof.Proof.Pay.Gt
public import proofs.«01_k».proof.Proof.Pay.TScale

@[expose] public section

set_option maxRecDepth 16384
set_option maxHeartbeats 4000000

noncomputable section

namespace Cert.KernelIdeal.Body

open Idealize.ShloMosaic Idealize.ShloMosaic.TcCoe Idealize.ShloMosaic.Tactic Cert.KernelIdeal Cert.KernelIdeal.Gen Cert.KernelIdeal.Val Cert.Spec

variable (I : In)

/-- The norm's gradient the body computes. -/
theorem B_dc (c : Dev nD) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg7 : Memref sig .tc .vmem S256x512 .bf16) (harg7 : arg7.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x6 : Vec Ideal S256x512 .bf16) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx6 : ∀ r d, x6 (ix2 r d) = I.dc r.val d.val) (hxs0 : ∀ r d, xs0 (ix2 r d) = WW I r.val d.val) (r : Fin 256) (k : Fin 512) : kernelRun0_B.sl.r_14 (F := Ideal) c arg1 harg1 arg2 harg2 arg5 harg5 arg7 harg7 arg16 harg16 arg17 x0 x1 x4 x6 xs0 (ix2 r k) = G I r.val k.val :=
  dc_pay I _ _ _ _ (fun r k => B_xw I c arg1 harg1 arg2 harg2 arg17 x0 x1 hx0 hx1 r k) (fun r k => readAt_ix2_zero harg16 xs0 id (WW I) hxs0 _ r k)
    (fun r k => readAt_ix2_zero harg7 x6 id I.dc hx6 _ r k) (fun k => readAt_ix2_zero (m := 1) (a := 1) harg5 x4 id (fun _ => I.gain) (fun r k => by rw [Fin.fin_one_eq_zero r]; exact hx4 k) _ 0 k) r k

/-- The rotary gradient the body computes, run 0 of the block's tokens. -/
theorem B_rope0 (c : Dev nD) (i : grid0.Coords) (arg6 : Memref sig .tc .vmem S16x128 .i32) (harg6 : arg6.IsWhole) (arg8 : Memref sig .tc .vmem S256x64 .bf16) (harg8 : arg8.IsWhole) (x5 : Vec Ideal S16x128 .i32) (x7 : Vec Ideal S256x64 .bf16) (hx5 : ∀ (ρ : Fin 2) (r : Fin 128) (q : Fin 16), q.val = 2 * (i 0).val + ρ.val → x5 (ix2 q r) = I.pos (128 * ρ.val + r.val)) (hx7 : ∀ r d, x7 (ix2 r d) = I.dk r.val d.val) (r : Fin 128) (k : Fin 64) : kernelRun0_B.sl.r_18 (F := Ideal) c i arg6 harg6 arg8 harg8 x5 x7 (ix2 r k) = G I (r.val) (512 + k.val) :=
  rope0_pay I _ _ (fun r k => readAt_ix2_zero harg8 x7 id I.dk hx7 _ r k)
    (fun r => (pos_row I harg6 x5 i hx5 0 _ r).trans (congrArg I.pos (Nat.zero_add _))) r k

/-- The rotary gradient the body computes, run 1 of the block's tokens. -/
theorem B_rope1 (c : Dev nD) (i : grid0.Coords) (arg6 : Memref sig .tc .vmem S16x128 .i32) (harg6 : arg6.IsWhole) (arg8 : Memref sig .tc .vmem S256x64 .bf16) (harg8 : arg8.IsWhole) (x5 : Vec Ideal S16x128 .i32) (x7 : Vec Ideal S256x64 .bf16) (hx5 : ∀ (ρ : Fin 2) (r : Fin 128) (q : Fin 16), q.val = 2 * (i 0).val + ρ.val → x5 (ix2 q r) = I.pos (128 * ρ.val + r.val)) (hx7 : ∀ r d, x7 (ix2 r d) = I.dk r.val d.val) (r : Fin 128) (k : Fin 64) : kernelRun0_B.sl.r_59 (F := Ideal) c i arg6 harg6 arg8 harg8 x5 x7 (ix2 r k) = G I (128 + r.val) (512 + k.val) :=
  rope1_pay I _ _ (fun r k => (readAt_ix2 harg8 x7 id I.dk hx7 128 0 _ r k).trans (congrArg (I.dk (128 + r.val)) (Nat.zero_add _)))
    (fun r => pos_row I harg6 x5 i hx5 1 _ r) r k

/-- The pieces the dequantised values are stored in are tiles of them. -/
theorem B_gb_pieces (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : Pieces (at2 (GB (G I))) (kernelRun0_B.sl.HS2_10 (F := Ideal) c i arg1 harg1 arg2 harg2 arg5 harg5 arg6 harg6 arg7 harg7 arg8 harg8 arg16 harg16 arg17 x0 x1 x4 x5 x6 x7 xs0) := by
  unfold kernelRun0_B.sl.HS2_10
  refine Pieces.cons (fun x => piece_of _ 128 512 _ _ (fun u v => gb_1_4 (G I) _ (B_rope1 I c i arg6 harg6 arg8 harg8 x5 x7 hx5 hx7) u v) x) ?_
  refine Pieces.cons (fun x => piece_of _ 128 384 _ _ (fun u v => gb_1_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 256 _ _ (fun u v => gb_1_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 128 _ _ (fun u v => gb_1_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 0 _ _ (fun u v => gb_1_0 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 512 _ _ (fun u v => gb_0_4 (G I) _ (B_rope0 I c i arg6 harg6 arg8 harg8 x5 x7 hx5 hx7) u v) x) ?_
  refine Pieces.cons (fun x => piece_of _ 0 384 _ _ (fun u v => gb_0_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 256 _ _ (fun u v => gb_0_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 128 _ _ (fun u v => gb_0_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 0 _ _ (fun u v => gb_0_0 (G I) _ (B_dc I c arg1 harg1 arg2 harg2 arg5 harg5 arg7 harg7 arg16 harg16 arg17 x0 x1 x4 x6 xs0 hx0 hx1 hx4 hx6 hxs0) u v) x) ?_
  exact Pieces.nil _

/-- They cover the buffer. -/
theorem B_gb_cover (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xs0 : Vec Ideal S576x4096 .bf16) : ∀ y, ∃ p ∈ (kernelRun0_B.sl.HS2_10 (F := Ideal) c i arg1 harg1 arg2 harg2 arg5 harg5 arg6 harg6 arg7 harg7 arg8 harg8 arg16 harg16 arg17 x0 x1 x4 x5 x6 x7 xs0), y ∈ p.1.set :=
  View.cover_of_tiledBy _ ![128, 64] (by sl_kernel_rfl)

/-- The pieces the values dequantised along the columns are stored in are tiles of them. -/
theorem B_gt_pieces (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : Pieces (at2 (GT (G I))) (kernelRun0_B.sl.HS3_10 (F := Ideal) c i arg1 harg1 arg2 harg2 arg5 harg5 arg6 harg6 arg7 harg7 arg8 harg8 arg16 harg16 arg17 x0 x1 x4 x5 x6 x7 xs0) := by
  unfold kernelRun0_B.sl.HS3_10
  refine Pieces.cons (fun x => piece_of _ 128 512 _ _ (fun u v => gt_1_4 (G I) _ (B_rope1 I c i arg6 harg6 arg8 harg8 x5 x7 hx5 hx7) u v) x) ?_
  refine Pieces.cons (fun x => piece_of _ 128 384 _ _ (fun u v => gt_1_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 256 _ _ (fun u v => gt_1_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 128 _ _ (fun u v => gt_1_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 0 _ _ (fun u v => gt_1_0 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 512 _ _ (fun u v => gt_0_4 (G I) _ (B_rope0 I c i arg6 harg6 arg8 harg8 x5 x7 hx5 hx7) u v) x) ?_
  refine Pieces.cons (fun x => piece_of _ 0 384 _ _ (fun u v => gt_0_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 256 _ _ (fun u v => gt_0_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 128 _ _ (fun u v => gt_0_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 0 _ _ (fun u v => gt_0_0 (G I) _ (B_dc I c arg1 harg1 arg2 harg2 arg5 harg5 arg7 harg7 arg16 harg16 arg17 x0 x1 x4 x6 xs0 hx0 hx1 hx4 hx6 hxs0) u v) x) ?_
  exact Pieces.nil _

/-- They cover the buffer. -/
theorem B_gt_cover (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xs0 : Vec Ideal S576x4096 .bf16) : ∀ y, ∃ p ∈ (kernelRun0_B.sl.HS3_10 (F := Ideal) c i arg1 harg1 arg2 harg2 arg5 harg5 arg6 harg6 arg7 harg7 arg8 harg8 arg16 harg16 arg17 x0 x1 x4 x5 x6 x7 xs0), y ∈ p.1.set :=
  View.cover_of_tiledBy _ ![128, 64] (by sl_kernel_rfl)

/-- The pieces the codes are stored in are tiles of them. -/
theorem B_code_pieces (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : Pieces (at2 (CODE (G I))) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.1 := by
  unfold kernelRun0_B
  dsimp only
  refine Pieces.cons (fun x => piece_of _ 128 512 _ _ (fun u v => code_1_4 (G I) _ (B_rope1 I c i arg6 harg6 arg8 harg8 x5 x7 hx5 hx7) u v) x) ?_
  refine Pieces.cons (fun x => piece_of _ 128 384 _ _ (fun u v => code_1_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 256 _ _ (fun u v => code_1_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 128 _ _ (fun u v => code_1_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 0 _ _ (fun u v => code_1_0 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 512 _ _ (fun u v => code_0_4 (G I) _ (B_rope0 I c i arg6 harg6 arg8 harg8 x5 x7 hx5 hx7) u v) x) ?_
  refine Pieces.cons (fun x => piece_of _ 0 384 _ _ (fun u v => code_0_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 256 _ _ (fun u v => code_0_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 128 _ _ (fun u v => code_0_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 0 _ _ (fun u v => code_0_0 (G I) _ (B_dc I c arg1 harg1 arg2 harg2 arg5 harg5 arg7 harg7 arg16 harg16 arg17 x0 x1 x4 x6 xs0 hx0 hx1 hx4 hx6 hxs0) u v) x) ?_
  exact Pieces.nil _

/-- They cover the buffer. -/
theorem B_code_cover (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) : ∀ y, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.1, y ∈ p.1.set :=
  View.cover_of_tiledBy _ ![128, 64] (by sl_kernel_rfl)

/-- The pieces the scales are stored in are tiles of them. -/
theorem B_scale_pieces (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : Pieces (at2 (SCALE (G I))) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.1 := by
  unfold kernelRun0_B
  dsimp only
  refine Pieces.cons (fun x => piece_of _ 128 4 _ _ (fun u v => scale_1_4 (G I) _ (B_rope1 I c i arg6 harg6 arg8 harg8 x5 x7 hx5 hx7) u v) x) ?_
  refine Pieces.cons (fun x => piece_of _ 128 3 _ _ (fun u v => scale_1_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 2 _ _ (fun u v => scale_1_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 1 _ _ (fun u v => scale_1_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 0 _ _ (fun u v => scale_1_0 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 4 _ _ (fun u v => scale_0_4 (G I) _ (B_rope0 I c i arg6 harg6 arg8 harg8 x5 x7 hx5 hx7) u v) x) ?_
  refine Pieces.cons (fun x => piece_of _ 0 3 _ _ (fun u v => scale_0_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 2 _ _ (fun u v => scale_0_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 1 _ _ (fun u v => scale_0_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 0 _ _ (fun u v => scale_0_0 (G I) _ (B_dc I c arg1 harg1 arg2 harg2 arg5 harg5 arg7 harg7 arg16 harg16 arg17 x0 x1 x4 x6 xs0 hx0 hx1 hx4 hx6 hxs0) u v) x) ?_
  exact Pieces.nil _

/-- They cover the buffer. -/
theorem B_scale_cover (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) : ∀ y, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.1, y ∈ p.1.set :=
  View.cover_of_tiledBy _ ![128, 1] (by sl_kernel_rfl)

/-- The pieces the codes along the columns are stored in are tiles of them. -/
theorem B_tcode_pieces (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : Pieces (at2 (TCODE (G I))) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.2.1 := by
  unfold kernelRun0_B
  dsimp only
  refine Pieces.cons (fun x => piece_of _ 128 512 _ _ (fun u v => tcode_1_4 (G I) _ (B_rope1 I c i arg6 harg6 arg8 harg8 x5 x7 hx5 hx7) u v) x) ?_
  refine Pieces.cons (fun x => piece_of _ 128 384 _ _ (fun u v => tcode_1_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 256 _ _ (fun u v => tcode_1_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 128 _ _ (fun u v => tcode_1_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 128 0 _ _ (fun u v => tcode_1_0 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 512 _ _ (fun u v => tcode_0_4 (G I) _ (B_rope0 I c i arg6 harg6 arg8 harg8 x5 x7 hx5 hx7) u v) x) ?_
  refine Pieces.cons (fun x => piece_of _ 0 384 _ _ (fun u v => tcode_0_3 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 256 _ _ (fun u v => tcode_0_2 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 128 _ _ (fun u v => tcode_0_1 (G I) _ (B_dc I c arg1 harg1 arg2 harg2 arg5 harg5 arg7 harg7 arg16 harg16 arg17 x0 x1 x4 x6 xs0 hx0 hx1 hx4 hx6 hxs0) u v) x) ?_
  refine Pieces.cons (fun x => piece_of _ 0 0 _ _ (fun u v => tcode_0_0 (G I) _ (B_dc I c arg1 harg1 arg2 harg2 arg5 harg5 arg7 harg7 arg16 harg16 arg17 x0 x1 x4 x6 xs0 hx0 hx1 hx4 hx6 hxs0) u v) x) ?_
  exact Pieces.nil _

/-- They cover the buffer. -/
theorem B_tcode_cover (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) : ∀ y, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.2.1, y ∈ p.1.set :=
  View.cover_of_tiledBy _ ![128, 64] (by sl_kernel_rfl)

/-- So they are what the body loads back. -/
theorem B_gb (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (harg16 : arg16.IsWhole) (arg17 : Memref sig .tc .vmem S256x4096 .bf16) (arg18 : Memref sig .tc .vmem S256x576 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (r : Fin 256) (k : Fin 576) : kernelRun0_B.sl.v1666 (F := Ideal) c i arg1 harg1 arg2 harg2 arg5 harg5 arg6 harg6 arg7 harg7 arg8 harg8 arg16 harg16 arg17 arg18 x0 x1 x4 x5 x6 x7 xs0 (ix2 r k) = GB (G I) r.val k.val := by
  unfold kernelRun0_B.sl.v1666
  refine (readCov_of_pieces arg18.view (B_gb_pieces I c i arg1 harg1 arg2 harg2 arg5 harg5 arg6 harg6 arg7 harg7 arg8 harg8 arg16 harg16 arg17 x0 x1 x4 x5 x6 x7 xs0 hx0 hx1 hx4 hx5 hx6 hx7 hxs0) (B_gb_cover c i arg1 harg1 arg2 harg2 arg5 harg5 arg6 harg6 arg7 harg7 arg8 harg8 arg16 harg16 arg17 x0 x1 x4 x5 x6 x7 xs0) _ _).trans ?_
  exact (at2_emb _ 0 0 _ _).trans (congrArg₂ _ (Nat.zero_add _) (Nat.zero_add _))

/-- So they are what the body loads back. -/
theorem B_gt (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg16 : Memref sig .tc .vmem S576x4096 .bf16) (harg16 : arg16.IsWhole) (arg17 : Memref sig .tc .vmem S256x4096 .bf16) (arg19 : Memref sig .tc .vmem S256x576 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (r : Fin 256) (k : Fin 576) : kernelRun0_B.sl.v1676 (F := Ideal) c i arg1 harg1 arg2 harg2 arg5 harg5 arg6 harg6 arg7 harg7 arg8 harg8 arg16 harg16 arg17 arg19 x0 x1 x4 x5 x6 x7 xs0 (ix2 r k) = GT (G I) r.val k.val := by
  unfold kernelRun0_B.sl.v1676
  refine (readCov_of_pieces arg19.view (B_gt_pieces I c i arg1 harg1 arg2 harg2 arg5 harg5 arg6 harg6 arg7 harg7 arg8 harg8 arg16 harg16 arg17 x0 x1 x4 x5 x6 x7 xs0 hx0 hx1 hx4 hx5 hx6 hx7 hxs0) (B_gt_cover c i arg1 harg1 arg2 harg2 arg5 harg5 arg6 harg6 arg7 harg7 arg8 harg8 arg16 harg16 arg17 x0 x1 x4 x5 x6 x7 xs0) _ _).trans ?_
  exact (at2_emb _ 0 0 _ _).trans (congrArg₂ _ (Nat.zero_add _) (Nat.zero_add _))

end Cert.KernelIdeal.Body

end
-- ==== Proof.Val.OutB.lean ====
/- What run B of the body leaves in every output buffer, whatever they held. -/
module

public import proofs.«01_k».proof.Proof.Body.RunB
public import proofs.«01_k».proof.Proof.Val.Tiles
public import proofs.«01_k».proof.Proof.Val.GradB
public import proofs.«01_k».proof.Proof.Val.Rows

@[expose] public section

set_option maxRecDepth 16384
set_option maxHeartbeats 4000000

noncomputable section

namespace Cert.KernelIdeal.Body

open Idealize.ShloMosaic Idealize.ShloMosaic.TcCoe Idealize.ShloMosaic.Tactic Cert.KernelIdeal Cert.KernelIdeal.Gen Cert.KernelIdeal.Val Cert.Spec

variable (I : In)

/-- What the first output block is left holding: the product with the weight. -/
theorem B_out8 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (f : arg9.view.ty.Contents (Elt Ideal)) :
    arg9.view.read (Elt Ideal) (arg9.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).1) = at2 (DX I) := by
  unfold kernelRun0_B
  dsimp only
  refine (View.read_writes_eq_canon _ _ _ (cover_whole _ _ _)).trans ((canon_whole _ _ _).trans (funext fun y => ?_))
  exact (congrArg _ (eq_ix2 y)).trans (dx_pay I _ _ (fun r k => B_gb I c i arg1 harg1 arg2 harg2 arg5 harg5 arg6 harg6 arg7 harg7 arg8 harg8 arg16 harg16 arg17 arg18 x0 x1 x4 x5 x6 x7 xs0 hx0 hx1 hx4 hx5 hx6 hx7 hxs0 r k) (fun r k => readAt_ix2_zero harg16 xs0 id (WW I) hxs0 _ r k) (y 0) (y 1))

/-- What the weight's gradient is left holding: what it held, and the contribution of the block's tokens. -/
theorem B_out9 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (f : arg10.view.ty.Contents (Elt Ideal)) :
    arg10.view.read (Elt Ideal) (arg10.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.1) = fun y => xo9 y + at2 (m := 576) (n := 4096) (DWpart I 0 256) y := by
  unfold kernelRun0_B
  dsimp only
  refine (View.read_writes_eq_canon _ _ _ (cover_whole _ _ _)).trans ((canon_whole _ _ _).trans (funext fun y => ?_))
  refine (congrArg _ (eq_ix2 y)).trans ((dw_pay I _ _ _ (fun r k => B_gt I c i arg1 harg1 arg2 harg2 arg5 harg5 arg6 harg6 arg7 harg7 arg8 harg8 arg16 harg16 arg17 arg19 x0 x1 x4 x5 x6 x7 xs0 hx0 hx1 hx4 hx5 hx6 hx7 hxs0 r k) (fun r k => B_xw I c arg1 harg1 arg2 harg2 arg17 x0 x1 hx0 hx1 r k) (y 0) (y 1)).trans ?_)
  have hz := readAt_self harg10 xo9 inb_S576x4096_S576x4096_0_0 y
  refine congrArg (· + _) (Eq.trans ?_ hz)
  exact congrArg _ (eq_ix2 y).symm

/-- What the gain's rows are left holding: two rows replaced. -/
theorem B_out10 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (f : arg11.view.ty.Contents (Elt Ideal)) :
    arg11.view.read (Elt Ideal) (arg11.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.1) = setRow (rowOf i 1#32) (DGAIN I 128) (setRow (rowOf i 0#32) (DGAIN I 0) xo10) := by
  unfold kernelRun0_B
  dsimp only
  have h1 : ∀ x, kernelRun0_B.sl.v1052 (F := Ideal) c i arg1 harg1 arg2 harg2 arg7 harg7 arg11 harg11 arg16 harg16 arg17 x0 x1 x6 xo10 xs0 x = setRow (rowOf i 0#32) (DGAIN I 0) xo10 x := by
    intro x
    unfold kernelRun0_B.sl.v1052 kernelRun0_B.sl.H10_1
    refine (readCov_whole _ _ _ _ _ _).trans ?_
    refine (row_piece (q := 0) (rowOf i 0#32) (DGAIN I 0) xo10 inb_S16x512_S16x512_0_0 _ _ (fun a b => (dgain0_pay I _ _ _ _ _ (fun r k => B_xw I c arg1 harg1 arg2 harg2 arg17 x0 x1 hx0 hx1 r k) (fun r k => readAt_ix2_zero harg16 xs0 id (WW I) hxs0 _ r k) (fun r k => readAt_ix2_zero harg7 x6 id I.dc hx6 _ r k) a b).trans (by rw [Nat.zero_add]; rfl)) (fun x => readAt_emb harg11 xo10 (Rect.unit (s := S16x512) ![0, 0] S16x512.size inb_S16x512_S16x512_0_0) x) x).trans ?_
    exact congrArg _ (emb_whole _ x)
  refine (View.read_writes_eq_canon _ _ _ (cover_whole _ _ _)).trans ((canon_whole _ _ _).trans (funext fun y => ?_))
  refine (row_piece (q := 0) (rowOf i 1#32) (DGAIN I 128) (setRow (rowOf i 0#32) (DGAIN I 0) xo10) inb_S16x512_S16x512_0_0 _ _ (fun a b => (dgain1_pay I _ _ _ _ _ (fun r k => B_xw I c arg1 harg1 arg2 harg2 arg17 x0 x1 hx0 hx1 r k) (fun r k => readAt_ix2_zero harg16 xs0 id (WW I) hxs0 _ r k) (fun r k => readAt_ix2_zero harg7 x6 id I.dc hx6 _ r k) a b).trans (by rw [Nat.zero_add]; rfl)) (fun x => (h1 x).trans (congrArg _ (emb_whole _ x).symm)) y).trans ?_
  exact congrArg _ (emb_whole _ y)

/-- What output block 3 is left holding: the codes. -/
theorem B_out11 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (f : arg12.view.ty.Contents (Elt Ideal)) :
    arg12.view.read (Elt Ideal) (arg12.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.1) = at2 (CODE (G I)) := by
  exact (View.read_writes_eq_canon _ _ _ (B_code_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0)).trans (funext fun y => View.canon_apply_of_pieces _ _ (B_code_pieces I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0) y (B_code_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 y))

/-- What output block 4 is left holding: the scales. -/
theorem B_out12 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (f : arg13.view.ty.Contents (Elt Ideal)) :
    arg13.view.read (Elt Ideal) (arg13.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.1) = at2 (SCALE (G I)) := by
  exact (View.read_writes_eq_canon _ _ _ (B_scale_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0)).trans (funext fun y => View.canon_apply_of_pieces _ _ (B_scale_pieces I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0) y (B_scale_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 y))

/-- What output block 5 is left holding: the codes along the columns. -/
theorem B_out13 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (f : arg14.view.ty.Contents (Elt Ideal)) :
    arg14.view.read (Elt Ideal) (arg14.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.2.1) = at2 (TCODE (G I)) := by
  exact (View.read_writes_eq_canon _ _ _ (B_tcode_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0)).trans (funext fun y => View.canon_apply_of_pieces _ _ (B_tcode_pieces I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0) y (B_tcode_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 y))

/-- The first run's rows of scales along the columns, tile by tile. -/
theorem B_ts0_pieces (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : Pieces (setRow (rowOf i 0#32) (TSCALE (G I) 0) xo14) (kernelRun0_B.sl.H14_5 (F := Ideal) c i arg1 harg1 arg2 harg2 arg5 harg5 arg6 harg6 arg7 harg7 arg8 harg8 arg15 harg15 arg16 harg16 arg17 x0 x1 x4 x5 x6 x7 xo14 xs0) := by
  unfold kernelRun0_B.sl.H14_5
  refine Pieces.cons (fun x => row_piece (rowOf i 0#32) (TSCALE (G I) 0) xo14 _ _ _ (fun a b => ts_0_4 (G I) _ _ _ (B_rope0 I c i arg6 harg6 arg8 harg8 x5 x7 hx5 hx7) a b) (fun x => readAt_emb harg15 xo14 (Rect.unit (s := S16x576) ![0, 512] S16x64.size inb_S16x576_S16x64_0_512) x) x) ?_
  refine Pieces.cons (fun x => row_piece (rowOf i 0#32) (TSCALE (G I) 0) xo14 _ _ _ (fun a b => ts_0_3 (G I) _ _ _ (B_dc I c arg1 harg1 arg2 harg2 arg5 harg5 arg7 harg7 arg16 harg16 arg17 x0 x1 x4 x6 xs0 hx0 hx1 hx4 hx6 hxs0) a b) (fun x => readAt_emb harg15 xo14 (Rect.unit (s := S16x576) ![0, 384] S16x128.size inb_S16x576_S16x128_0_384) x) x) ?_
  refine Pieces.cons (fun x => row_piece (rowOf i 0#32) (TSCALE (G I) 0) xo14 _ _ _ (fun a b => ts_0_2 (G I) _ _ _ (B_dc I c arg1 harg1 arg2 harg2 arg5 harg5 arg7 harg7 arg16 harg16 arg17 x0 x1 x4 x6 xs0 hx0 hx1 hx4 hx6 hxs0) a b) (fun x => readAt_emb harg15 xo14 (Rect.unit (s := S16x576) ![0, 256] S16x128.size inb_S16x576_S16x128_0_256) x) x) ?_
  refine Pieces.cons (fun x => row_piece (rowOf i 0#32) (TSCALE (G I) 0) xo14 _ _ _ (fun a b => ts_0_1 (G I) _ _ _ (B_dc I c arg1 harg1 arg2 harg2 arg5 harg5 arg7 harg7 arg16 harg16 arg17 x0 x1 x4 x6 xs0 hx0 hx1 hx4 hx6 hxs0) a b) (fun x => readAt_emb harg15 xo14 (Rect.unit (s := S16x576) ![0, 128] S16x128.size inb_S16x576_S16x128_0_128) x) x) ?_
  refine Pieces.cons (fun x => row_piece (rowOf i 0#32) (TSCALE (G I) 0) xo14 _ _ _ (fun a b => ts_0_0 (G I) _ _ _ (B_dc I c arg1 harg1 arg2 harg2 arg5 harg5 arg7 harg7 arg16 harg16 arg17 x0 x1 x4 x6 xs0 hx0 hx1 hx4 hx6 hxs0) a b) (fun x => readAt_emb harg15 xo14 (Rect.unit (s := S16x576) ![0, 0] S16x128.size inb_S16x576_S16x128_0_0) x) x) ?_
  exact Pieces.nil _

/-- They cover the buffer. -/
theorem B_ts0_cover (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) : ∀ y, ∃ p ∈ kernelRun0_B.sl.H14_5 (F := Ideal) c i arg1 harg1 arg2 harg2 arg5 harg5 arg6 harg6 arg7 harg7 arg8 harg8 arg15 harg15 arg16 harg16 arg17 x0 x1 x4 x5 x6 x7 xo14 xs0, y ∈ p.1.set :=
  View.cover_of_tiledBy _ ![16, 64] (by sl_kernel_rfl)

/-- The same cover, by the number of stores made. -/
theorem B_tscov_5 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) : ∀ y, ∃ p ∈ kernelRun0_B.sl.H14_5 (F := Ideal) c i arg1 harg1 arg2 harg2 arg5 harg5 arg6 harg6 arg7 harg7 arg8 harg8 arg15 harg15 arg16 harg16 arg17 x0 x1 x4 x5 x6 x7 xo14 xs0, y ∈ p.1.set := B_ts0_cover c i arg1 harg1 arg2 harg2 arg5 harg5 arg6 harg6 arg7 harg7 arg8 harg8 arg15 harg15 arg16 harg16 arg17 x0 x1 x4 x5 x6 x7 xo14 xs0

/-- After the first run the buffer holds the array with its row replaced. -/
theorem B_ts_5 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (y : S16x576.Idx) :
    View.canon (kernelRun0_B.sl.H14_5 (F := Ideal) c i arg1 harg1 arg2 harg2 arg5 harg5 arg6 harg6 arg7 harg7 arg8 harg8 arg15 harg15 arg16 harg16 arg17 x0 x1 x4 x5 x6 x7 xo14 xs0) y = if (y 1).val < 0 then (setRow (rowOf i 1#32) (TSCALE (G I) 128) (setRow (rowOf i 0#32) (TSCALE (G I) 0) xo14)) y else (setRow (rowOf i 0#32) (TSCALE (G I) 0) xo14) y :=
  (View.canon_apply_of_pieces _ _ (B_ts0_pieces I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0) y (B_ts0_cover c i arg1 harg1 arg2 harg2 arg5 harg5 arg6 harg6 arg7 harg7 arg8 harg8 arg15 harg15 arg16 harg16 arg17 x0 x1 x4 x5 x6 x7 xo14 xs0 y)).trans (if_neg (Nat.not_lt_zero _)).symm

/-- The second run's row, replaced in the columns before 128. -/
theorem B_ts_6 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : ∀ (y : S16x576.Idx),
    View.canon (kernelRun0_B.sl.H14_6 (F := Ideal) c i arg1 harg1 arg2 harg2 arg5 harg5 arg6 harg6 arg7 harg7 arg8 harg8 arg15 harg15 arg16 harg16 arg17 x0 x1 x4 x5 x6 x7 xo14 xs0) y = if (y 1).val < 128 then (setRow (rowOf i 1#32) (TSCALE (G I) 128) (setRow (rowOf i 0#32) (TSCALE (G I) 0) xo14)) y else (setRow (rowOf i 0#32) (TSCALE (G I) 0) xo14) y := by
  unfold kernelRun0_B.sl.H14_6
  refine canon_step (e := .f32) (q := 0) (setRow (rowOf i 0#32) (TSCALE (G I) 0) xo14) (setRow (rowOf i 1#32) (TSCALE (G I) 128) (setRow (rowOf i 0#32) (TSCALE (G I) 0) xo14)) _ (fun y => B_ts_5 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ _ (by rfl) ?_
  refine row_piece (rowOf i 1#32) (TSCALE (G I) 128) (setRow (rowOf i 0#32) (TSCALE (G I) 0) xo14) _ _ _ (fun a b => ts_1_0 (G I) _ _ _ (B_dc I c arg1 harg1 arg2 harg2 arg5 harg5 arg7 harg7 arg16 harg16 arg17 x0 x1 x4 x6 xs0 hx0 hx1 hx4 hx6 hxs0) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (B_tscov_5 c i arg1 harg1 arg2 harg2 arg5 harg5 arg6 harg6 arg7 harg7 arg8 harg8 arg15 harg15 arg16 harg16 arg17 x0 x1 x4 x5 x6 x7 xo14 xs0) (fun y => B_ts_5 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ x

/-- The stores so far cover the buffer (6 of them). -/
theorem B_tscov_6 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) : ∀ y, ∃ p ∈ (kernelRun0_B.sl.H14_6 (F := Ideal) c i arg1 harg1 arg2 harg2 arg5 harg5 arg6 harg6 arg7 harg7 arg8 harg8 arg15 harg15 arg16 harg16 arg17 x0 x1 x4 x5 x6 x7 xo14 xs0), y ∈ p.1.set := by
  unfold kernelRun0_B.sl.H14_6
  exact cover_cons _ (B_tscov_5 c i arg1 harg1 arg2 harg2 arg5 harg5 arg6 harg6 arg7 harg7 arg8 harg8 arg15 harg15 arg16 harg16 arg17 x0 x1 x4 x5 x6 x7 xo14 xs0)

/-- The second run's row, replaced in the columns before 256. -/
theorem B_ts_7 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : ∀ (y : S16x576.Idx),
    View.canon (kernelRun0_B.sl.H14_7 (F := Ideal) c i arg1 harg1 arg2 harg2 arg5 harg5 arg6 harg6 arg7 harg7 arg8 harg8 arg15 harg15 arg16 harg16 arg17 x0 x1 x4 x5 x6 x7 xo14 xs0) y = if (y 1).val < 256 then (setRow (rowOf i 1#32) (TSCALE (G I) 128) (setRow (rowOf i 0#32) (TSCALE (G I) 0) xo14)) y else (setRow (rowOf i 0#32) (TSCALE (G I) 0) xo14) y := by
  unfold kernelRun0_B.sl.H14_7
  refine canon_step (e := .f32) (q := 128) (setRow (rowOf i 0#32) (TSCALE (G I) 0) xo14) (setRow (rowOf i 1#32) (TSCALE (G I) 128) (setRow (rowOf i 0#32) (TSCALE (G I) 0) xo14)) _ (fun y => B_ts_6 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ _ (by rfl) ?_
  refine row_piece (rowOf i 1#32) (TSCALE (G I) 128) (setRow (rowOf i 0#32) (TSCALE (G I) 0) xo14) _ _ _ (fun a b => ts_1_1 (G I) _ _ _ (B_dc I c arg1 harg1 arg2 harg2 arg5 harg5 arg7 harg7 arg16 harg16 arg17 x0 x1 x4 x6 xs0 hx0 hx1 hx4 hx6 hxs0) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (B_tscov_6 c i arg1 harg1 arg2 harg2 arg5 harg5 arg6 harg6 arg7 harg7 arg8 harg8 arg15 harg15 arg16 harg16 arg17 x0 x1 x4 x5 x6 x7 xo14 xs0) (fun y => B_ts_6 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ x

/-- The stores so far cover the buffer (7 of them). -/
theorem B_tscov_7 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) : ∀ y, ∃ p ∈ (kernelRun0_B.sl.H14_7 (F := Ideal) c i arg1 harg1 arg2 harg2 arg5 harg5 arg6 harg6 arg7 harg7 arg8 harg8 arg15 harg15 arg16 harg16 arg17 x0 x1 x4 x5 x6 x7 xo14 xs0), y ∈ p.1.set := by
  unfold kernelRun0_B.sl.H14_7
  exact cover_cons _ (B_tscov_6 c i arg1 harg1 arg2 harg2 arg5 harg5 arg6 harg6 arg7 harg7 arg8 harg8 arg15 harg15 arg16 harg16 arg17 x0 x1 x4 x5 x6 x7 xo14 xs0)

/-- The second run's row, replaced in the columns before 384. -/
theorem B_ts_8 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : ∀ (y : S16x576.Idx),
    View.canon (kernelRun0_B.sl.H14_8 (F := Ideal) c i arg1 harg1 arg2 harg2 arg5 harg5 arg6 harg6 arg7 harg7 arg8 harg8 arg15 harg15 arg16 harg16 arg17 x0 x1 x4 x5 x6 x7 xo14 xs0) y = if (y 1).val < 384 then (setRow (rowOf i 1#32) (TSCALE (G I) 128) (setRow (rowOf i 0#32) (TSCALE (G I) 0) xo14)) y else (setRow (rowOf i 0#32) (TSCALE (G I) 0) xo14) y := by
  unfold kernelRun0_B.sl.H14_8
  refine canon_step (e := .f32) (q := 256) (setRow (rowOf i 0#32) (TSCALE (G I) 0) xo14) (setRow (rowOf i 1#32) (TSCALE (G I) 128) (setRow (rowOf i 0#32) (TSCALE (G I) 0) xo14)) _ (fun y => B_ts_7 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ _ (by rfl) ?_
  refine row_piece (rowOf i 1#32) (TSCALE (G I) 128) (setRow (rowOf i 0#32) (TSCALE (G I) 0) xo14) _ _ _ (fun a b => ts_1_2 (G I) _ _ _ (B_dc I c arg1 harg1 arg2 harg2 arg5 harg5 arg7 harg7 arg16 harg16 arg17 x0 x1 x4 x6 xs0 hx0 hx1 hx4 hx6 hxs0) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (B_tscov_7 c i arg1 harg1 arg2 harg2 arg5 harg5 arg6 harg6 arg7 harg7 arg8 harg8 arg15 harg15 arg16 harg16 arg17 x0 x1 x4 x5 x6 x7 xo14 xs0) (fun y => B_ts_7 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ x

/-- The stores so far cover the buffer (8 of them). -/
theorem B_tscov_8 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) : ∀ y, ∃ p ∈ (kernelRun0_B.sl.H14_8 (F := Ideal) c i arg1 harg1 arg2 harg2 arg5 harg5 arg6 harg6 arg7 harg7 arg8 harg8 arg15 harg15 arg16 harg16 arg17 x0 x1 x4 x5 x6 x7 xo14 xs0), y ∈ p.1.set := by
  unfold kernelRun0_B.sl.H14_8
  exact cover_cons _ (B_tscov_7 c i arg1 harg1 arg2 harg2 arg5 harg5 arg6 harg6 arg7 harg7 arg8 harg8 arg15 harg15 arg16 harg16 arg17 x0 x1 x4 x5 x6 x7 xo14 xs0)

/-- The second run's row, replaced in the columns before 512. -/
theorem B_ts_9 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) (hx0 : ∀ r d, x0 (ix2 r d) = I.x r.val d.val) (hx1 : ∀ r d, x1 (ix2 r d) = I.xs r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : ∀ (y : S16x576.Idx),
    View.canon (kernelRun0_B.sl.H14_9 (F := Ideal) c i arg1 harg1 arg2 harg2 arg5 harg5 arg6 harg6 arg7 harg7 arg8 harg8 arg15 harg15 arg16 harg16 arg17 x0 x1 x4 x5 x6 x7 xo14 xs0) y = if (y 1).val < 512 then (setRow (rowOf i 1#32) (TSCALE (G I) 128) (setRow (rowOf i 0#32) (TSCALE (G I) 0) xo14)) y else (setRow (rowOf i 0#32) (TSCALE (G I) 0) xo14) y := by
  unfold kernelRun0_B.sl.H14_9
  refine canon_step (e := .f32) (q := 384) (setRow (rowOf i 0#32) (TSCALE (G I) 0) xo14) (setRow (rowOf i 1#32) (TSCALE (G I) 128) (setRow (rowOf i 0#32) (TSCALE (G I) 0) xo14)) _ (fun y => B_ts_8 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ _ (by rfl) ?_
  refine row_piece (rowOf i 1#32) (TSCALE (G I) 128) (setRow (rowOf i 0#32) (TSCALE (G I) 0) xo14) _ _ _ (fun a b => ts_1_3 (G I) _ _ _ (B_dc I c arg1 harg1 arg2 harg2 arg5 harg5 arg7 harg7 arg16 harg16 arg17 x0 x1 x4 x6 xs0 hx0 hx1 hx4 hx6 hxs0) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (B_tscov_8 c i arg1 harg1 arg2 harg2 arg5 harg5 arg6 harg6 arg7 harg7 arg8 harg8 arg15 harg15 arg16 harg16 arg17 x0 x1 x4 x5 x6 x7 xo14 xs0) (fun y => B_ts_8 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ x

/-- The stores so far cover the buffer (9 of them). -/
theorem B_tscov_9 (c : Dev nD) (i : grid0.Coords) (arg1 : Memref sig .tc .vmem S256x4096 .fp8e4m3) (harg1 : arg1.IsWhole) (arg2 : Memref sig .tc .vmem S256x32 .f32) (harg2 : arg2.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (x0 : Vec Ideal S256x4096 .fp8e4m3) (x1 : Vec Ideal S256x32 .f32) (x4 : Vec Ideal S1x512 .f32) (x5 : Vec Ideal S16x128 .i32) (x6 : Vec Ideal S256x512 .bf16) (x7 : Vec Ideal S256x64 .bf16) (xo14 : Vec Ideal S16x576 .f32) (xs0 : Vec Ideal S576x4096 .bf16) : ∀ y, ∃ p ∈ (kernelRun0_B.sl.H14_9 (F := Ideal) c i arg1 harg1 arg2 harg2 arg5 harg5 arg6 harg6 arg7 harg7 arg8 harg8 arg15 harg15 arg16 harg16 arg17 x0 x1 x4 x5 x6 x7 xo14 xs0), y ∈ p.1.set := by
  unfold kernelRun0_B.sl.H14_9
  exact cover_cons _ (B_tscov_8 c i arg1 harg1 arg2 harg2 arg5 harg5 arg6 harg6 arg7 harg7 arg8 harg8 arg15 harg15 arg16 harg16 arg17 x0 x1 x4 x5 x6 x7 xo14 xs0)

/-- The second run's row, replaced in the columns before 576. -/
theorem B_ts_10 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) : ∀ (y : S16x576.Idx),
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.2.2.1 y = if (y 1).val < 576 then (setRow (rowOf i 1#32) (TSCALE (G I) 128) (setRow (rowOf i 0#32) (TSCALE (G I) 0) xo14)) y else (setRow (rowOf i 0#32) (TSCALE (G I) 0) xo14) y := by
  unfold kernelRun0_B
  dsimp only
  refine canon_step (e := .f32) (q := 512) (setRow (rowOf i 0#32) (TSCALE (G I) 0) xo14) (setRow (rowOf i 1#32) (TSCALE (G I) 128) (setRow (rowOf i 0#32) (TSCALE (G I) 0) xo14)) _ (fun y => B_ts_9 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ _ (by rfl) ?_
  refine row_piece (rowOf i 1#32) (TSCALE (G I) 128) (setRow (rowOf i 0#32) (TSCALE (G I) 0) xo14) _ _ _ (fun a b => ts_1_4 (G I) _ _ _ (B_rope1 I c i arg6 harg6 arg8 harg8 x5 x7 hx5 hx7) a b) ?_
  exact fun x => readCov_later (e := .f32) arg15.view (setRow (rowOf i 0#32) (TSCALE (G I) 0) xo14) (setRow (rowOf i 1#32) (TSCALE (G I) 128) (setRow (rowOf i 0#32) (TSCALE (G I) 0) xo14)) _ (B_tscov_9 c i arg1 harg1 arg2 harg2 arg5 harg5 arg6 harg6 arg7 harg7 arg8 harg8 arg15 harg15 arg16 harg16 arg17 x0 x1 x4 x5 x6 x7 xo14 xs0) (fun y => B_ts_9 I c i arg1 harg1 arg2 harg2 arg5 harg5 arg6 harg6 arg7 harg7 arg8 harg8 arg15 harg15 arg16 harg16 arg17 x0 x1 x4 x5 x6 x7 xo14 xs0 hx0 hx1 hx4 hx5 hx6 hx7 hxs0 y) _ x

/-- The stores so far cover the buffer (10 of them). -/
theorem B_tscov_10 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) : ∀ y, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.2.2.1, y ∈ p.1.set := by
  unfold kernelRun0_B
  dsimp only
  exact cover_cons _ (B_tscov_9 c i arg1 harg1 arg2 harg2 arg5 harg5 arg6 harg6 arg7 harg7 arg8 harg8 arg15 harg15 arg16 harg16 arg17 x0 x1 x4 x5 x6 x7 xo14 xs0)

/-- What the rows of scales along the columns are left holding: two rows replaced. -/
theorem B_out14 (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (f : arg15.view.ty.Contents (Elt Ideal)) :
    arg15.view.read (Elt Ideal) (arg15.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.2.2.1) = (setRow (rowOf i 1#32) (TSCALE (G I) 128) (setRow (rowOf i 0#32) (TSCALE (G I) 0) xo14)) := by
  refine (View.read_writes_eq_canon _ _ _ (B_tscov_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0)).trans (funext fun y => ?_)
  have l : (y 1).val < 576 := (y 1).isLt
  exact (B_ts_10 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0 y).trans (if_pos l)

end Cert.KernelIdeal.Body

end
-- ==== Proof.Val.StepB.lean ====
/- The body at a later point, its outputs read: from the inputs' blocks it leaves each output buffer at the step's mathematics. -/
module

public import proofs.«01_k».proof.Proof.Val.OutB

@[expose] public section

set_option maxRecDepth 16384

noncomputable section

namespace Cert.KernelIdeal.Body

open Cert.KernelIdeal Cert.KernelIdeal.Gen Cert.KernelIdeal.Val Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (I : In)

set_option maxHeartbeats 3200000 in
/-- At a later point, the scratch `arg16` holding the weights dequantised. -/
theorem stepB (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S576x4096 .fp8e4m3) (harg3 : arg3.IsWhole) (arg4 : Memref sig .tc .smem S5x32 .f32) (harg4 : arg4.IsWhole) (arg5 : Memref sig .tc .vmem S1x512 .f32) (harg5 : arg5.IsWhole) (arg6 : Memref sig .tc .vmem S16x128 .i32) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x4096 .bf16) (harg9 : arg9.IsWhole) (arg10 : Memref sig .tc .vmem S576x4096 .f32) (harg10 : arg10.IsWhole) (arg11 : Memref sig .tc .vmem S16x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S256x576 .fp8e5m2) (harg14 : arg14.IsWhole) (arg15 : Memref sig .tc .vmem S16x576 .f32) (harg15 : arg15.IsWhole) (arg16 : Memref sig .tc .vmem S576x4096 .bf16) (harg16 : arg16.IsWhole) (arg17 : Memref sig .tc .vmem S256x4096 .bf16) (harg17 : arg17.IsWhole) (arg18 : Memref sig .tc .vmem S256x576 .bf16) (harg18 : arg18.IsWhole) (arg19 : Memref sig .tc .vmem S256x576 .bf16) (harg19 : arg19.IsWhole) (hc0 : ¬cond0_0 i) (hc1 : ¬cond0_1 i) (x0 : Vec Ideal S256x4096 .fp8e4m3) (x1 : Vec Ideal S256x32 .f32) (x2 : Vec Ideal S576x4096 .fp8e4m3) (x3 : Vec Ideal S5x32 .f32) (x4 : Vec Ideal S1x512 .f32) (x5 : Vec Ideal S16x128 .i32) (x6 : Vec Ideal S256x512 .bf16) (x7 : Vec Ideal S256x64 .bf16) (xo9 : Vec Ideal S576x4096 .f32) (xo10 : Vec Ideal S16x512 .f32) (xo14 : Vec Ideal S16x576 .f32) (xs0 : Vec Ideal S576x4096 .bf16) (hx0 : ∀ r d, x0 (ix2 r d) = I.x r.val d.val) (hx1 : ∀ r d, x1 (ix2 r d) = I.xs r.val d.val) (hx2 : ∀ r d, x2 (ix2 r d) = I.w r.val d.val) (hx3 : ∀ r d, x3 (ix2 r d) = I.ws r.val d.val) (hx4 : ∀ d, x4 (ix2 (n0 := 1) 0 d) = I.gain d.val) (hx5 : ∀ (ρ : Fin 2) (r : Fin 128) (q : Fin 16), q.val = 2 * (i 0).val + ρ.val → x5 (ix2 q r) = I.pos (128 * ρ.val + r.val)) (hx6 : ∀ r d, x6 (ix2 r d) = I.dc r.val d.val) (hx7 : ∀ r d, x7 (ix2 r d) = I.dk r.val d.val) (hxs0 : ∀ r d, xs0 (ix2 r d) = WW I r.val d.val) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ owns (c : Thread nD τ) arg11 fullShare xo10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ owns (c : Thread nD τ) arg16 fullShare xs0 ∗ (∃ d, owns (c : Thread nD τ) arg17 fullShare d) ∗ (∃ d, owns (c : Thread nD τ) arg18 fullShare d) ∗ (∃ d, owns (c : Thread nD τ) arg19 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (at2 (DX I)) ∗ owns (c : Thread nD τ) arg10 fullShare (fun y => xo9 y + at2 (m := 576) (n := 4096) (DWpart I 0 256) y) ∗ owns (c : Thread nD τ) arg11 fullShare (setRow (rowOf i 1#32) (DGAIN I 128) (setRow (rowOf i 0#32) (DGAIN I 0) xo10)) ∗ owns (c : Thread nD τ) arg12 fullShare (at2 (CODE (G I))) ∗ owns (c : Thread nD τ) arg13 fullShare (at2 (SCALE (G I))) ∗ owns (c : Thread nD τ) arg14 fullShare (at2 (TCODE (G I))) ∗ owns (c : Thread nD τ) arg15 fullShare (setRow (rowOf i 1#32) (TSCALE (G I) 128) (setRow (rowOf i 0#32) (TSCALE (G I) 0) xo14)) ∗ owns (c : Thread nD τ) arg16 fullShare xs0 ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := Ideal)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, HS0, HS1, HS2, HS3, Hk⟩
  iapply ((kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0).2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, ⟨%f8, H8⟩, ⟨%f9, H9⟩, ⟨%f10, H10⟩, ⟨%f11, H11⟩, ⟨%f12, H12⟩, ⟨%f13, H13⟩, ⟨%f14, H14⟩, HS0, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact B_out8 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0 f8
  isplitl [H9]
  · unfold owns; iexists _; isplitr
    swap; · iexact H9
    ipureintro; exact B_out9 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0 f9
  isplitl [H10]
  · unfold owns; iexists _; isplitr
    swap; · iexact H10
    ipureintro; exact B_out10 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0 f10
  isplitl [H11]
  · unfold owns; iexists _; isplitr
    swap; · iexact H11
    ipureintro; exact B_out11 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0 f11
  isplitl [H12]
  · unfold owns; iexists _; isplitr
    swap; · iexact H12
    ipureintro; exact B_out12 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0 f12
  isplitl [H13]
  · unfold owns; iexists _; isplitr
    swap; · iexact H13
    ipureintro; exact B_out13 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0 f13
  isplitl [H14]
  · unfold owns; iexists _; isplitr
    swap; · iexact H14
    ipureintro; exact B_out14 I c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo9 xo10 xo14 xs0 hx0 hx1 hx2 hx3 hx4 hx5 hx6 hx7 hxs0 f14
  isplitl [HS0]; · iexact HS0
  isplitl [HS1]; · iexact HS1
  isplitl [HS2]; · iexact HS2
  iexact HS3

end Cert.KernelIdeal.Body

end
-- ==== Proof.Val.Args.lean ====
/- The argument arrays as functions of natural indices: what both programs are given. -/
module

public import proofs.«01_k».proof.Proof.Spec
public import Idealize.ShloMosaic.Lib.ValueIdx

@[expose] public section

noncomputable section

namespace Cert.Spec

open Idealize.ShloMosaic

/-- An array of two batches of 1024 tokens, token by token. -/
def tok {n : ℕ} (a : (⟨3, ![2, 1024, n]⟩ : Shape).Idx → EReal) (r o : ℕ) : EReal :=
  if h : r < 2048 ∧ o < n then a (ix3 ⟨r / 1024, by omega⟩ ⟨r % 1024, by omega⟩ ⟨o, h.2⟩) else 0

/-- A matrix, by natural indices. -/
def mat {m n : ℕ} (a : (⟨2, ![m, n]⟩ : Shape).Idx → EReal) (r o : ℕ) : EReal :=
  if h : r < m ∧ o < n then a (ix2 ⟨r, h.1⟩ ⟨o, h.2⟩) else 0

/-- A vector, by natural indices. -/
def vec {n : ℕ} (a : (⟨1, ![n]⟩ : Shape).Idx → EReal) (o : ℕ) : EReal :=
  if h : o < n then a (ix1 ⟨o, h⟩) else 0

/-- The positions, token by token. -/
def posOf (a : (⟨2, ![2, 1024]⟩ : Shape).Idx → BitVec 32) (r : ℕ) : BitVec 32 :=
  if h : r < 2048 then a (ix2 ⟨r / 1024, by omega⟩ ⟨r % 1024, by omega⟩) else 0

/-- An array of tokens at token `r` is the array at its batch entry and place. -/
theorem tok_of {n : ℕ} (a : (⟨3, ![2, 1024, n]⟩ : Shape).Idx → EReal) {r o : ℕ} (b : Fin 2) (s : Fin 1024) (k : Fin n)
    (hr : r = 1024 * b.val + s.val) (ho : o = k.val) : tok a r o = a (ix3 b s k) := by
  subst hr ho
  have h : 1024 * b.val + s.val < 2048 ∧ k.val < n := ⟨by omega, k.isLt⟩
  have e0 : (⟨(1024 * b.val + s.val) / 1024, by omega⟩ : Fin 2) = b := Fin.ext (by show (1024 * b.val + s.val) / 1024 = b.val; omega)
  have e1 : (⟨(1024 * b.val + s.val) % 1024, by omega⟩ : Fin 1024) = s := Fin.ext (by show (1024 * b.val + s.val) % 1024 = s.val; omega)
  rw [tok, dif_pos h, e0, e1]

/-- A matrix inside its bounds. -/
theorem mat_of {m n : ℕ} (a : (⟨2, ![m, n]⟩ : Shape).Idx → EReal) (r : Fin m) (o : Fin n) : mat a r.val o.val = a (ix2 r o) := by
  rw [mat, dif_pos ⟨r.isLt, o.isLt⟩]

/-- A vector inside its bounds. -/
theorem vec_of {n : ℕ} (a : (⟨1, ![n]⟩ : Shape).Idx → EReal) (o : Fin n) : vec a o.val = a (ix1 o) := by
  rw [vec, dif_pos o.isLt]

/-- The position of token `r`, at its batch entry and place. -/
theorem posOf_of (a : (⟨2, ![2, 1024]⟩ : Shape).Idx → BitVec 32) {r : ℕ} (b : Fin 2) (s : Fin 1024)
    (hr : r = 1024 * b.val + s.val) : posOf a r = a (ix2 b s) := by
  subst hr
  have h : 1024 * b.val + s.val < 2048 := by omega
  have e0 : (⟨(1024 * b.val + s.val) / 1024, by omega⟩ : Fin 2) = b := Fin.ext (by show (1024 * b.val + s.val) / 1024 = b.val; omega)
  have e1 : (⟨(1024 * b.val + s.val) % 1024, by omega⟩ : Fin 1024) = s := Fin.ext (by show (1024 * b.val + s.val) % 1024 = s.val; omega)
  rw [posOf, dif_pos h, e0, e1]

/-- The arguments: codes and scales of the tokens, codes and scales of the weight, gain, positions, the two gradients. -/
def inOf (a0 : (⟨3, ![2, 1024, 4096]⟩ : Shape).Idx → EReal) (a1 : (⟨3, ![2, 1024, 32]⟩ : Shape).Idx → EReal)
    (a2 : (⟨2, ![576, 4096]⟩ : Shape).Idx → EReal) (a3 : (⟨2, ![5, 32]⟩ : Shape).Idx → EReal) (a4 : (⟨1, ![512]⟩ : Shape).Idx → EReal)
    (a5 : (⟨2, ![2, 1024]⟩ : Shape).Idx → BitVec 32) (a6 : (⟨3, ![2, 1024, 512]⟩ : Shape).Idx → EReal)
    (a7 : (⟨3, ![2, 1024, 64]⟩ : Shape).Idx → EReal) : In where
  x := tok a0
  xs := tok a1
  w := mat a2
  ws := mat a3
  gain := vec a4
  pos := posOf a5
  dc := tok a6
  dk := tok a7

end Cert.Spec

end
-- ==== Proof.Val.Blocks.lean ====
/- What the pipeline stages at a point, read at an index: the tokens' windows hold 256 tokens from token `256 t` on, the others
   their whole arrays. -/
module

public import proofs.«01_k».proof.Proof.Val.Args
public import proofs.«01_k».proof.Proof.Val.Rows
public import proofs.«01_k».proof.Proof.Body.Runs
public import Idealize.ShloMosaic.Lib.Pipeline.ValueKit
public import Idealize.ShloMosaic.Lib.Claim

@[expose] public section

set_option maxRecDepth 16384

noncomputable section

namespace Cert.KernelIdeal.Run

open Cert.KernelIdeal Cert.KernelIdeal.Gen Cert.KernelIdeal.Body Cert.KernelIdeal.Val Cert.Spec
open Idealize.ShloMosaic Idealize.ShloMosaic.TcCoe

variable (m : (ℓ : Loc nD τ sig) → Buf (Elt Ideal) ℓ) (c : Dev nD)

/-- The arguments core `c` is launched with. -/
def inp : In :=
  inOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The arguments as the block of point `t` sees them: from token `256 t` on. -/
def inpAt (t : Fin cfg0.N) : In := (inp m c).shift (256 * t.val)

/-- The block of the tokens' codes at point `t`. -/
theorem ix0_0 : ∀ t : Fin cfg0.N, win0_0.index t = ![t.val, 0] := (by decide +kernel : ∀ t : Fin grid0.N, _)
/-- The block of the tokens' scales at point `t`. -/
theorem ix0_1 : ∀ t : Fin cfg0.N, win0_1.index t = ![t.val, 0] := (by decide +kernel : ∀ t : Fin grid0.N, _)
/-- The weight's codes are one block. -/
theorem ix0_2 : ∀ t : Fin cfg0.N, win0_2.index t = ![0, 0] := (by decide +kernel : ∀ t : Fin grid0.N, _)
/-- The weight's scales are one block. -/
theorem ix0_3 : ∀ t : Fin cfg0.N, win0_3.index t = ![0, 0] := (by decide +kernel : ∀ t : Fin grid0.N, _)
/-- The gain is one block. -/
theorem ix0_4 : ∀ t : Fin cfg0.N, win0_4.index t = ![0, 0] := (by decide +kernel : ∀ t : Fin grid0.N, _)
/-- The positions are one block. -/
theorem ix0_5 : ∀ t : Fin cfg0.N, win0_5.index t = ![0, 0] := (by decide +kernel : ∀ t : Fin grid0.N, _)
/-- The block of the latent gradient at point `t`. -/
theorem ix0_6 : ∀ t : Fin cfg0.N, win0_6.index t = ![t.val, 0] := (by decide +kernel : ∀ t : Fin grid0.N, _)
/-- The block of the rotary gradient at point `t`. -/
theorem ix0_7 : ∀ t : Fin cfg0.N, win0_7.index t = ![t.val, 0] := (by decide +kernel : ∀ t : Fin grid0.N, _)

/-- There are eight points. -/
theorem lt8 (t : Fin cfg0.N) : t.val < 8 := lt_of_lt_of_eq t.isLt (show cfg0.N = 8 from N_0)

/-- Tokens flattened: row `q` of the flattened array is token `q`. -/
theorem cast_tok {n : ℕ} (X : (⟨3, ![2, 1024, n]⟩ : Shape).Idx → EReal) (h : (⟨3, ![2, 1024, n]⟩ : Shape).ShapeCasts (⟨2, ![2048, n]⟩ : Shape))
    (y : (⟨2, ![2048, n]⟩ : Shape).Idx) : shapeCast (⟨2, ![2048, n]⟩ : Shape) X h y = tok X (y 0).val (y 1).val := by
  have h0 : (y 0).val < 2048 := (y 0).isLt
  have hd := Nat.div_add_mod (y 0).val 1024
  let b : Fin 2 := ⟨(y 0).val / 1024, by omega⟩
  let s : Fin 1024 := ⟨(y 0).val % 1024, by omega⟩
  let k : Fin n := ⟨(y 1).val, (y 1).isLt⟩
  rw [tok_of X b s k hd.symm rfl]
  refine shapeCast_apply X h y (ix3 b s k) ?_
  rw [Shape.rowMajor_val_three, Shape.rowMajor_val_two]
  show (((y 0).val / 1024) * 1024 + (y 0).val % 1024) * n + (y 1).val = (y 0).val * n + (y 1).val
  rw [Nat.div_add_mod']

/-- The positions, laid out in 16 rows of 128: row `q` holds the run of 128 tokens from token `128 q` on. -/
theorem cast_pos (X : (⟨2, ![2, 1024]⟩ : Shape).Idx → BitVec 32) (h : (⟨2, ![2, 1024]⟩ : Shape).ShapeCasts (⟨2, ![16, 128]⟩ : Shape))
    (y : (⟨2, ![16, 128]⟩ : Shape).Idx) : shapeCast (⟨2, ![16, 128]⟩ : Shape) X h y = posOf X (128 * (y 0).val + (y 1).val) := by
  have h0 : (y 0).val < 16 := (y 0).isLt
  have h1 : (y 1).val < 128 := (y 1).isLt
  have hd := Nat.div_add_mod (128 * (y 0).val + (y 1).val) 1024
  let b : Fin 2 := ⟨(128 * (y 0).val + (y 1).val) / 1024, by omega⟩
  let s : Fin 1024 := ⟨(128 * (y 0).val + (y 1).val) % 1024, by omega⟩
  rw [posOf_of X b s hd.symm]
  refine shapeCast_apply X h y (ix2 b s) ?_
  rw [Shape.rowMajor_val_two, Shape.rowMajor_val_two]
  show ((128 * (y 0).val + (y 1).val) / 1024) * 1024 + (128 * (y 0).val + (y 1).val) % 1024 = (y 0).val * 128 + (y 1).val
  omega

/-- The gain as one row. -/
theorem cast_gain (X : (⟨1, ![512]⟩ : Shape).Idx → EReal) (h : (⟨1, ![512]⟩ : Shape).ShapeCasts (⟨2, ![1, 512]⟩ : Shape))
    (y : (⟨2, ![1, 512]⟩ : Shape).Idx) : shapeCast (⟨2, ![1, 512]⟩ : Shape) X h y = vec X (y 1).val := by
  have h0 : (y 0).val < 1 := (y 0).isLt
  let k : Fin 512 := ⟨(y 1).val, (y 1).isLt⟩
  refine Eq.trans ?_ (vec_of X k).symm
  refine shapeCast_apply X h y (ix1 k) ?_
  rw [Shape.rowMajor_val_one, Shape.rowMajor_val_two]
  show (y 1).val = (y 0).val * 512 + (y 1).val
  omega

/-- The tokens' codes, as point `t` sees them. -/
theorem blk0 (t : Fin cfg0.N) (r : Fin 256) (d : Fin 4096) :
    (iblk m c 0 t : Vec Ideal S256x4096 .fp8e4m3) (ix2 r d) = (inpAt m c t).x r.val d.val := by
  unfold iblk
  rw [View.read_apply, cast_eq]
  blk_simp
  entry_read
  refine (cast_tok _ _ _).trans ?_
  show tok _ _ _ = tok _ (256 * t.val + r.val) d.val
  congr 1
  · blk_simp [ix0_0]
    simp
    omega
  · blk_simp [ix0_0]

/-- The tokens' scales, as point `t` sees them. -/
theorem blk1 (t : Fin cfg0.N) (r : Fin 256) (d : Fin 32) :
    (iblk m c 1 t : Vec Ideal S256x32 .f32) (ix2 r d) = (inpAt m c t).xs r.val d.val := by
  unfold iblk
  rw [View.read_apply, cast_eq]
  blk_simp
  entry_read
  refine (cast_tok _ _ _).trans ?_
  show tok _ _ _ = tok _ (256 * t.val + r.val) d.val
  congr 1
  · blk_simp [ix0_1]
    simp
    omega
  · blk_simp [ix0_1]

/-- The incoming latent gradient, as point `t` sees it. -/
theorem blk6 (t : Fin cfg0.N) (r : Fin 256) (d : Fin 512) :
    (iblk m c 6 t : Vec Ideal S256x512 .bf16) (ix2 r d) = (inpAt m c t).dc r.val d.val := by
  unfold iblk
  rw [View.read_apply, cast_eq]
  blk_simp
  entry_read
  refine (cast_tok _ _ _).trans ?_
  show tok _ _ _ = tok _ (256 * t.val + r.val) d.val
  congr 1
  · blk_simp [ix0_6]
    simp
    omega
  · blk_simp [ix0_6]

/-- The incoming rotary gradient, as point `t` sees it. -/
theorem blk7 (t : Fin cfg0.N) (r : Fin 256) (d : Fin 64) :
    (iblk m c 7 t : Vec Ideal S256x64 .bf16) (ix2 r d) = (inpAt m c t).dk r.val d.val := by
  unfold iblk
  rw [View.read_apply, cast_eq]
  blk_simp
  entry_read
  refine (cast_tok _ _ _).trans ?_
  show tok _ _ _ = tok _ (256 * t.val + r.val) d.val
  congr 1
  · blk_simp [ix0_7]
    simp
    omega
  · blk_simp [ix0_7]

/-- The weight's codes, as any point sees them. -/
theorem blk2 (t : Fin cfg0.N) (r : Fin 576) (d : Fin 4096) :
    (iblk m c 2 t : Vec Ideal S576x4096 .fp8e4m3) (ix2 r d) = (inpAt m c t).w r.val d.val := by
  unfold iblk
  rw [View.read_apply, cast_eq]
  blk_simp
  entry_read
  refine Eq.trans ?_ (mat_of (m ((c : Thread nD τ).loc main_arg2)) r d).symm
  refine congrArg (m ((c : Thread nD τ).loc main_arg2)) ?_
  blk_ext [ix0_2]

/-- The weight's scales, as any point sees them. -/
theorem blk3 (t : Fin cfg0.N) (r : Fin 5) (d : Fin 32) :
    (iblk m c 3 t : Vec Ideal S5x32 .f32) (ix2 r d) = (inpAt m c t).ws r.val d.val := by
  unfold iblk
  rw [View.read_apply, cast_eq]
  blk_simp
  entry_read
  refine Eq.trans ?_ (mat_of (m ((c : Thread nD τ).loc main_arg3)) r d).symm
  refine congrArg (m ((c : Thread nD τ).loc main_arg3)) ?_
  blk_ext [ix0_3]

/-- The gain, as any point sees it. -/
theorem blk4 (t : Fin cfg0.N) (d : Fin 512) :
    (iblk m c 4 t : Vec Ideal S1x512 .f32) (ix2 (n0 := 1) 0 d) = (inpAt m c t).gain d.val := by
  unfold iblk
  rw [View.read_apply, cast_eq]
  blk_simp
  entry_read
  refine (cast_gain _ _ _).trans ?_
  show vec _ _ = vec _ d.val
  congr 1
  blk_simp [ix0_4]

/-- A point's number is its grid coordinate. -/
theorem coord0 : ∀ t : Fin cfg0.N, (grid0.coords t 0).val = t.val := (by decide +kernel : ∀ t : Fin grid0.N, _)

/-- The positions, of which point `t` reads its own two rows. -/
theorem blk5 (t : Fin cfg0.N) (ρ : Fin 2) (r : Fin 128) (q : Fin 16) (hq : q.val = 2 * (grid0.coords t 0).val + ρ.val) :
    (iblk m c 5 t : Vec Ideal S16x128 .i32) (ix2 q r) = (inpAt m c t).pos (128 * ρ.val + r.val) := by
  rw [coord0] at hq
  unfold iblk
  rw [View.read_apply, cast_eq]
  blk_simp
  entry_read
  refine (cast_pos _ _ _).trans ?_
  show posOf _ _ = posOf _ (256 * t.val + (128 * ρ.val + r.val))
  congr 1
  blk_simp [ix0_5]
  omega

end Cert.KernelIdeal.Run

end
-- ==== Proof.Val.Dats.lean ====
/- The idealized kernel's run: what each point leaves in each staging buffer, and the state in which every run ends. -/
module

public import proofs.«01_k».proof.Proof.Val.StepA
public import proofs.«01_k».proof.Proof.Val.StepB
public import proofs.«01_k».proof.Proof.Val.Blocks

@[expose] public section

set_option maxRecDepth 16384

noncomputable section

namespace Cert.KernelIdeal.Run

open Cert.KernelIdeal Cert.KernelIdeal.Gen Cert.KernelIdeal.Body Cert.KernelIdeal.Val Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

local notation "𝕄" => MT nD τ sig Unit (Elt Ideal) ℕ (UR sig nD τ) ℕ

variable (m : (ℓ : Loc nD τ sig) → Buf (Elt Ideal) ℓ) (ρ : Dev nD → PrngReg)

/-- The invariant before point `n`: before the first the scratch holds anything; afterwards the first scratch buffer holds the
    weights dequantised. -/
def PhiS (c : Dev nD) : ℕ → sProp 𝕄
  | 0 => Pipeline.ΦA spec0 c
  | _ + 1 => iprop(iprop(owns (c : Thread nD τ) scM0_0 fullShare (at2 (WW (inp m c))) ∗ (∃ d, owns (c : Thread nD τ) scM0_1 fullShare d)
      ∗ (∃ d, owns (c : Thread nD τ) scM0_2 fullShare d) ∗ (∃ d, owns (c : Thread nD τ) scM0_3 fullShare d)) ∗ ∃ r, prngReg c r)

/-- The sum of the weight gradient after point `t`, the buffer having held `Y` before it. -/
def dwNext (c : Dev nD) (t : Fin cfg0.N) (Y : (⟨2, ![576, 4096]⟩ : Shape).Idx → EReal) : (⟨2, ![576, 4096]⟩ : Shape).Idx → EReal :=
  if t.val = 0 then at2 (m := 576) (n := 4096) (DWpart (inpAt m c t) 0 256)
  else fun y => Y y + at2 (m := 576) (n := 4096) (DWpart (inpAt m c t) 0 256) y

/-- The gain gradient's rows after point `t`: two more of them set. -/
def dgNext (c : Dev nD) (t : Fin cfg0.N) (Y : (⟨2, ![16, 512]⟩ : Shape).Idx → EReal) : (⟨2, ![16, 512]⟩ : Shape).Idx → EReal :=
  setRow (rowOf (grid0.coords t) 1#32) (DGAIN (inpAt m c t) 128) (setRow (rowOf (grid0.coords t) 0#32) (DGAIN (inpAt m c t) 0) Y)

/-- The transposed quantiser's scales after point `t`: two more rows of them set. -/
def tsNext (c : Dev nD) (t : Fin cfg0.N) (Y : (⟨2, ![16, 576]⟩ : Shape).Idx → EReal) : (⟨2, ![16, 576]⟩ : Shape).Idx → EReal :=
  setRow (rowOf (grid0.coords t) 1#32) (TSCALE (G (inpAt m c t)) 128) (setRow (rowOf (grid0.coords t) 0#32) (TSCALE (G (inpAt m c t)) 0) Y)

/-- The proof data: each input buffer is left as found, each output buffer at the step's mathematics. -/
def rdats (c : Dev nD) : RDat τ (Elt Ideal) Unit ℕ (UR sig nD τ) ℕ cfg0 c where
  A w := V m c (Pipeline.arrRef spec0 w)
  after w t := match w with
    | ⟨8, _⟩ => fun _ X => X = at2 (m := 256) (n := 4096) (DX (inpAt m c t))
    | ⟨9, _⟩ => fun Y X => X = dwNext m c t Y
    | ⟨10, _⟩ => fun Y X => X = dgNext m c t Y
    | ⟨11, _⟩ => fun _ X => X = at2 (m := 256) (n := 576) (CODE (G (inpAt m c t)))
    | ⟨12, _⟩ => fun _ X => X = at2 (m := 256) (n := 5) (SCALE (G (inpAt m c t)))
    | ⟨13, _⟩ => fun _ X => X = at2 (m := 256) (n := 576) (TCODE (G (inpAt m c t)))
    | ⟨14, _⟩ => fun Y X => X = tsNext m c t Y
    | _ => fun Y X => X = Y
  Φ t := PhiS m c t.val
  q _ := fullShare
  owed _ := 0

/-- The arrays the region starts from are those the host left. -/
theorem A_eq (c : Dev nD) (w : Fin cfg0.W) : (rdats m c).A w = V m c (Pipeline.arrRef spec0 w) := by
  dsimp only [rdats]

/-- Input 0's staging buffer holds its block at every point. -/
theorem finds0 (c : Dev nD) (t : Fin cfg0.N) (Y) (h : (rdats m c).Finds 0 t Y) : Y = iblk m c 0 t := by
  obtain ⟨d, rfl⟩ := RDat.finds_in_eq_fetched (rdats m c) 0 rfl (fun _ _ _ => rfl) (fun _ _ _ h => h) t Y h
  unfold RDat.fetched RDat.blockOf iblk; rw [A_eq]; try rfl
/-- Input 1's staging buffer holds its block at every point. -/
theorem finds1 (c : Dev nD) (t : Fin cfg0.N) (Y) (h : (rdats m c).Finds 1 t Y) : Y = iblk m c 1 t := by
  obtain ⟨d, rfl⟩ := RDat.finds_in_eq_fetched (rdats m c) 1 rfl (fun _ _ _ => rfl) (fun _ _ _ h => h) t Y h
  unfold RDat.fetched RDat.blockOf iblk; rw [A_eq]; try rfl
/-- Input 2's staging buffer holds its block at every point. -/
theorem finds2 (c : Dev nD) (t : Fin cfg0.N) (Y) (h : (rdats m c).Finds 2 t Y) : Y = iblk m c 2 t := by
  obtain ⟨d, rfl⟩ := RDat.finds_in_eq_fetched (rdats m c) 2 rfl (fun _ _ _ => rfl) (fun _ _ _ h => h) t Y h
  unfold RDat.fetched RDat.blockOf iblk; rw [A_eq]; try rfl
/-- Input 3's staging buffer holds its block at every point. -/
theorem finds3 (c : Dev nD) (t : Fin cfg0.N) (Y) (h : (rdats m c).Finds 3 t Y) : Y = iblk m c 3 t := by
  obtain ⟨d, rfl⟩ := RDat.finds_in_eq_fetched (rdats m c) 3 rfl (fun _ _ _ => rfl) (fun _ _ _ h => h) t Y h
  unfold RDat.fetched RDat.blockOf iblk; rw [A_eq]; try rfl
/-- Input 4's staging buffer holds its block at every point. -/
theorem finds4 (c : Dev nD) (t : Fin cfg0.N) (Y) (h : (rdats m c).Finds 4 t Y) : Y = iblk m c 4 t := by
  obtain ⟨d, rfl⟩ := RDat.finds_in_eq_fetched (rdats m c) 4 rfl (fun _ _ _ => rfl) (fun _ _ _ h => h) t Y h
  unfold RDat.fetched RDat.blockOf iblk; rw [A_eq]; try rfl
/-- Input 5's staging buffer holds its block at every point. -/
theorem finds5 (c : Dev nD) (t : Fin cfg0.N) (Y) (h : (rdats m c).Finds 5 t Y) : Y = iblk m c 5 t := by
  obtain ⟨d, rfl⟩ := RDat.finds_in_eq_fetched (rdats m c) 5 rfl (fun _ _ _ => rfl) (fun _ _ _ h => h) t Y h
  unfold RDat.fetched RDat.blockOf iblk; rw [A_eq]; try rfl
/-- Input 6's staging buffer holds its block at every point. -/
theorem finds6 (c : Dev nD) (t : Fin cfg0.N) (Y) (h : (rdats m c).Finds 6 t Y) : Y = iblk m c 6 t := by
  obtain ⟨d, rfl⟩ := RDat.finds_in_eq_fetched (rdats m c) 6 rfl (fun _ _ _ => rfl) (fun _ _ _ h => h) t Y h
  unfold RDat.fetched RDat.blockOf iblk; rw [A_eq]; try rfl
/-- Input 7's staging buffer holds its block at every point. -/
theorem finds7 (c : Dev nD) (t : Fin cfg0.N) (Y) (h : (rdats m c).Finds 7 t Y) : Y = iblk m c 7 t := by
  obtain ⟨d, rfl⟩ := RDat.finds_in_eq_fetched (rdats m c) 7 rfl (fun _ _ _ => rfl) (fun _ _ _ h => h) t Y h
  unfold RDat.fetched RDat.blockOf iblk; rw [A_eq]; try rfl

/-- What the body is called with at point `t`, the output buffers at `Y8` … `Y14`. -/
def bodyPre (c : Dev nD) (t : Fin cfg0.N) (Y8 : S256x4096.Idx → Elt Ideal .bf16) (Y9 : S576x4096.Idx → Elt Ideal .f32) (Y10 : S16x512.Idx → Elt Ideal .f32) (Y11 : S256x576.Idx → Elt Ideal .fp8e5m2) (Y12 : S256x5.Idx → Elt Ideal .f32) (Y13 : S256x576.Idx → Elt Ideal .fp8e5m2) (Y14 : S16x576.Idx → Elt Ideal .f32) : sProp 𝕄 :=
  iprop(PhiS m c t.val ∗ (rdats m c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)

/-- What it returns. -/
def bodyPost (c : Dev nD) (t : Fin cfg0.N) (Y9 : S576x4096.Idx → Elt Ideal .f32) (Y10 : S16x512.Idx → Elt Ideal .f32) (Y14 : S16x576.Idx → Elt Ideal .f32) : sProp 𝕄 :=
  iprop(PhiS m c (t.val + 1) ∗ (rdats m c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (at2 (m := 256) (n := 4096) (DX (inpAt m c t))) ∗ owns (c : Thread nD τ) (ms0_9 t) fullShare (dwNext m c t Y9) ∗ owns (c : Thread nD τ) (ms0_10 t) fullShare (dgNext m c t Y10) ∗ owns (c : Thread nD τ) (ms0_11 t) fullShare (at2 (m := 256) (n := 576) (CODE (G (inpAt m c t)))) ∗ owns (c : Thread nD τ) (ms0_12 t) fullShare (at2 (m := 256) (n := 5) (SCALE (G (inpAt m c t)))) ∗ owns (c : Thread nD τ) (ms0_13 t) fullShare (at2 (m := 256) (n := 576) (TCODE (G (inpAt m c t)))) ∗ owns (c : Thread nD τ) (ms0_14 t) fullShare (tsNext m c t Y14))

set_option maxHeartbeats 12800000 in
/-- The body at any point: the first point's run or a later one's. -/
theorem sound_body (c : Dev nD) (t : Fin cfg0.N) (Y8 : S256x4096.Idx → Elt Ideal .bf16) (Y9 : S576x4096.Idx → Elt Ideal .f32) (Y10 : S16x512.Idx → Elt Ideal .f32) (Y11 : S256x576.Idx → Elt Ideal .fp8e5m2) (Y12 : S256x5.Idx → Elt Ideal .f32) (Y13 : S256x576.Idx → Elt Ideal .fp8e5m2) (Y14 : S16x576.Idx → Elt Ideal .f32) :
    bodyPre m c t Y8 Y9 Y10 Y11 Y12 Y13 Y14 ⊢ wp frame (wpE (defs₀ (F := Ideal)) Variants.none c none) Set.univ (bodyAt0 t) (fun _ => bodyPost m c t Y9 Y10 Y14) := by
  unfold bodyPre bodyPost bodyAt0 dgNext tsNext
  have hN : t.val < 8 := lt8 t
  by_cases hz : t.val = 0
  · rw [show PhiS m c t.val = Pipeline.ΦA spec0 c from by rw [hz]; rfl, PhiA0_eq,
      show dwNext m c t Y9 = at2 (m := 576) (n := 4096) (DWpart (inpAt m c t) 0 256) from if_pos hz]
    unfold PhiS
    iintro ⟨⟨⟨HS0, HS1, HS2, HS3⟩, Hg⟩, Ho, H0, H1, H2, H3, H4, H5, H6, H7, H8, H9, H10, H11, H12, H13, H14⟩
    iapply (stepA (inpAt m c t) c (grid0.coords t) _ _ _ _ _ _ _ _ _ _ _ _ _ _ _ _ _ _ _ _ _ _ _ _ _ _ _ _ _ _ _ _ _ _ _ _ _ _ ((hcond0_0 t).mpr (by omega)) ((hcond0_1 t).mpr (by omega)) (iblk m c 0 t) (iblk m c 1 t) (iblk m c 2 t) (iblk m c 3 t) (iblk m c 4 t) (iblk m c 5 t) (iblk m c 6 t) (iblk m c 7 t) Y10 Y14 (blk0 m c t) (blk1 m c t) (blk2 m c t) (blk3 m c t) (blk4 m c t) (blk5 m c t) (blk6 m c t) (blk7 m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    isplitl [H12]; · iexists _; iexact H12
    isplitl [H13]; · iexists _; iexact H13
    isplitl [H14]; · iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · obtain ⟨n, hn⟩ := Nat.exists_eq_succ_of_ne_zero hz
    rw [show PhiS m c t.val = PhiS m c (n + 1) from by rw [hn],
      show dwNext m c t Y9 = fun y => Y9 y + at2 (m := 576) (n := 4096) (DWpart (inpAt m c t) 0 256) y from if_neg hz]
    unfold PhiS
    iintro ⟨⟨⟨HS0, HS1, HS2, HS3⟩, Hg⟩, Ho, H0, H1, H2, H3, H4, H5, H6, H7, H8, H9, H10, H11, H12, H13, H14⟩
    iapply (stepB (inpAt m c t) c (grid0.coords t) _ _ _ _ _ _ _ _ _ _ _ _ _ _ _ _ _ _ _ _ _ _ _ _ _ _ _ _ _ _ _ _ _ _ _ _ _ _ (fun h => by have := (hcond0_0 t).mp h; omega) (fun h => by have := (hcond0_1 t).mp h; omega) (iblk m c 0 t) (iblk m c 1 t) (iblk m c 2 t) (iblk m c 3 t) (iblk m c 4 t) (iblk m c 5 t) (iblk m c 6 t) (iblk m c 7 t) Y9 Y10 Y14 (at2 (WW (inp m c))) (blk0 m c t) (blk1 m c t) (blk2 m c t) (blk3 m c t) (blk4 m c t) (blk5 m c t) (blk6 m c t) (blk7 m c t) (fun _ _ => rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexists _; iexact H11
    isplitl [H12]; · iexists _; iexact H12
    isplitl [H13]; · iexists _; iexact H13
    isplitl [H14]; · iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The library's body obligation, at every point. -/
theorem body_obligation (c : Dev nD) : (rdats m c).BodyObligation (defs₀ (F := Ideal)) Variants.none () Set.univ := fun t Y hY => by
  rw [bigSep_W0, bigSep_W0, show defs₀ (F := Ideal) .tc cfg0.body (cfg0.bodyArgs t (cfg0.slots t)) = bodyAt0 t from by unfold defs₀; rw [Defs.onTc_tc]]
  have e0 : Y 0 = iblk m c 0 t := finds0 m c t _ (hY 0)
  have e1 : Y 1 = iblk m c 1 t := finds1 m c t _ (hY 1)
  have e2 : Y 2 = iblk m c 2 t := finds2 m c t _ (hY 2)
  have e3 : Y 3 = iblk m c 3 t := finds3 m c t _ (hY 3)
  have e4 : Y 4 = iblk m c 4 t := finds4 m c t _ (hY 4)
  have e5 : Y 5 = iblk m c 5 t := finds5 m c t _ (hY 5)
  have e6 : Y 6 = iblk m c 6 t := finds6 m c t _ (hY 6)
  have e7 : Y 7 = iblk m c 7 t := finds7 m c t _ (hY 7)
  refine triple_restated (sound_body m c t (Y 8) (Y 9) (Y 10) (Y 11) (Y 12) (Y 13) (Y 14)) rfl ?_ fun _ => ?_
  · unfold bodyPre
    rw [← e0, ← e1, ← e2, ← e3, ← e4, ← e5, ← e6, ← e7]
    exact .rfl
  · unfold bodyPost
    rw [show (rdats m c).Φ t.succ = PhiS m c (t.val + 1) from rfl,
      show (rdats m c).owesAt () t.succ = (rdats m c).owesAt () t.castSucc from rfl]
    rw [← e0, ← e1, ← e2, ← e3, ← e4, ← e5, ← e6, ← e7]
    iintro ⟨HP, Ho, H0, H1, H2, H3, H4, H5, H6, H7, H8, H9, H10, H11, H12, H13, H14⟩
    isplitl [HP]; · iexact HP
    isplitl [Ho]; · iexact Ho
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; rfl
    isplitl [H10]
    · iexists _; isplitr
      swap; · iexact H10
      ipureintro; rfl
    isplitl [H11]
    · iexists _; isplitr
      swap; · iexact H11
      ipureintro; rfl
    isplitl [H12]
    · iexists _; isplitr
      swap; · iexact H12
      ipureintro; rfl
    isplitl [H13]
    · iexists _; isplitr
      swap; · iexact H13
      ipureintro; rfl
    iexists _; isplitr
    swap; · iexact H14
    ipureintro; rfl

/-- What the launch hands the region is the invariant before the first point. -/
theorem hin (c : Dev nD) : Pipeline.ΦA spec0 c ⊢ (rdats m c).Φ 0 := Idealize.SL.BI.Entails.refl _

/-- After the last point the invariant gives it back: the scratch's contents are forgotten. -/
theorem hout (c : Dev nD) : (rdats m c).Φ (Fin.last cfg0.N) ⊢ Pipeline.ΦA spec0 c := by
  rw [show (rdats m c).Φ (Fin.last cfg0.N) = PhiS m c (7 + 1) from congrArg (PhiS m c) (show cfg0.N = 8 from N_0), PhiA0_eq]
  unfold PhiS
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

set_option backward.isDefEq.respectTransparency.types false in
/-- Every run ends, each windowed array at contents the body may have left block by block, every other buffer as the region found
    it, every semaphore counter at zero. -/
theorem run_main : θ_run defs (onTc (τ := τ) (main (F := Ideal))) (s₀ m ρ)
    (fun r => RDat.FramePost (cfgs 0) (rdats m) (V m) r ∧ r.2.sem = fun _ => 0) :=
  RDat.θ_run_frame_track (Q' := _) cfgs (0 : Fin 1) launch0 defs₀ Variants.none (rdats m) m ρ main
    (hbody := body_obligation m) (hshare := fun c w => by unfold RDat.share; split <;> rfl) (howed := fun _ _ => rfl) (V := V m) (hmain := hmain m Variants.none)
    (hA := A_eq m) (hin := hin m) (hout := hout m)

end Cert.KernelIdeal.Run

end
-- ==== Proof.Val.Shift.lean ====
/- The step's functions of a block's arguments are the same functions of the whole arguments, at the block's tokens. -/
module

public import proofs.«01_k».proof.Proof.Val.Args

@[expose] public section

noncomputable section

namespace Cert.Spec

open Idealize.ShloMosaic

variable (I : In) (s : ℕ)

/-- The gradient of the tokens from `s` on. -/
theorem G_shift (r d : ℕ) : G (I.shift s) r d = G I (s + r) d := rfl

/-- The same, as a function. -/
theorem G_shift_eq : G (I.shift s) = fun r d => G I (s + r) d := rfl

/-- A row block's largest magnitude, from token `s` on. -/
theorem rowA_shift (n r base : ℕ) : rowA (G (I.shift s)) n r base = rowA (G I) n (s + r) base := by
  unfold rowA; simp only [G_shift]

/-- A row block's code, from token `s` on. -/
theorem codeR_shift (n r base d : ℕ) : codeR (G (I.shift s)) n r base d = codeR (G I) n (s + r) base d := by
  unfold codeR; rw [rowA_shift, G_shift]

/-- The dequantised row codes, from token `s` on. -/
theorem GB_shift (r d : ℕ) : GB (G (I.shift s)) r d = GB (G I) (s + r) d := by
  unfold GB gbR; rw [codeR_shift, rowA_shift]

/-- The weight does not depend on the token. -/
theorem WW_shift (d o : ℕ) : WW (I.shift s) d o = WW I d o := rfl
/-- The dequantised tokens, from token `s` on. -/
theorem XW_shift (r o : ℕ) : XW (I.shift s) r o = XW I (s + r) o := rfl

/-- The input gradient, from token `s` on. -/
theorem DX_shift (r o : ℕ) : DX (I.shift s) r o = DX I (s + r) o := by
  unfold DX; simp only [GB_shift, WW_shift]
/-- The row codes, from token `s` on. -/
theorem CODE_shift (r d : ℕ) : CODE (G (I.shift s)) r d = CODE (G I) (s + r) d := by
  unfold CODE; rw [codeR_shift]
/-- The row scales, from token `s` on. -/
theorem SCALE_shift (r g : ℕ) : SCALE (G (I.shift s)) r g = SCALE (G I) (s + r) g := by
  unfold SCALE; rw [rowA_shift]

/-- A column run's largest magnitude, from token `s` on. -/
theorem colA_shift (b d : ℕ) : colA (G (I.shift s)) b d = colA (G I) (s + b) d := by
  unfold colA
  congr 1
  funext j
  rw [G_shift, Nat.add_assoc]

/-- The column scales, from token `s` on. -/
theorem TSCALE_shift (b d : ℕ) : TSCALE (G (I.shift s)) b d = TSCALE (G I) (s + b) d := by
  unfold TSCALE; rw [colA_shift]

/-- A column run's code, from token `s` on. -/
theorem codeC_shift (b r d : ℕ) : codeC (G (I.shift s)) b r d = codeC (G I) (s + b) (s + r) d := by
  unfold codeC; rw [colA_shift, G_shift]

/-- The run of 128 tokens that holds token `r` of the block at token `256 t`. -/
theorem run_shift (t r : ℕ) : 128 * ((256 * t + r) / 128) = 256 * t + 128 * (r / 128) := by omega

/-- The column codes, from a block's first token on. -/
theorem TCODE_shift (t r d : ℕ) : TCODE (G (I.shift (256 * t))) r d = TCODE (G I) (256 * t + r) d := by
  unfold TCODE; rw [codeC_shift, run_shift]

/-- The dequantised column codes, from a block's first token on. -/
theorem GT_shift (t r d : ℕ) : GT (G (I.shift (256 * t))) r d = GT (G I) (256 * t + r) d := by
  unfold GT gtC; rw [codeC_shift, colA_shift, run_shift]

/-- The gain's gradient, from token `s` on. -/
theorem DGAIN_shift (b d : ℕ) : DGAIN (I.shift s) b d = DGAIN I (s + b) d := by
  unfold DGAIN
  refine Finset.sum_congr rfl fun j _ => ?_
  show GP I (s + (b + j.val)) d = GP I (s + b + j.val) d
  rw [Nat.add_assoc]

/-- The weight's gradient over one more block of tokens. -/
theorem DWpart_step (t d o : ℕ) :
    DWpart I 0 (256 * t + 256) d o = DWpart I 0 (256 * t) d o + DWpart (I.shift (256 * t)) 0 256 d o := by
  unfold DWpart
  rw [Fin.sum_univ_eq_sum_range (fun k => GT (G I) (0 + k) d * XW I (0 + k) o), Fin.sum_univ_eq_sum_range (fun k => GT (G I) (0 + k) d * XW I (0 + k) o),
    Fin.sum_univ_eq_sum_range (fun k => GT (G (I.shift (256 * t))) (0 + k) d * XW (I.shift (256 * t)) (0 + k) o), Finset.sum_range_add]
  congr 1
  refine Finset.sum_congr rfl fun k _ => ?_
  rw [Nat.zero_add, Nat.zero_add, GT_shift, XW_shift]

/-- No token contributes nothing. -/
theorem DWpart_zero (d o : ℕ) : DWpart I 0 0 d o = 0 := by unfold DWpart; simp

end Cert.Spec

end
-- ==== Proof.Val.Finals.lean ====
/- What the seven results hold after every run of the idealized kernel: the step's functions of the arguments. -/
module

public import proofs.«01_k».proof.Proof.Val.Dats
public import proofs.«01_k».proof.Proof.Val.Shift
public import Idealize.ShloMosaic.Lib.Pipeline.ArrRel

@[expose] public section

set_option maxRecDepth 16384

noncomputable section

namespace Cert.KernelIdeal.Run

open Cert.KernelIdeal Cert.KernelIdeal.Gen Cert.KernelIdeal.Body Cert.KernelIdeal.Val Cert.Spec
open Idealize.ShloMosaic Idealize.ShloMosaic.TcCoe
open Idealize.ShloMosaic.Pipeline

variable (m : (ℓ : Loc nD τ sig) → Buf (Elt Ideal) ℓ) (c : Dev nD)

/-- The block of output 8 at point `t`. -/
theorem ix0_8 : ∀ t : Fin cfg0.N, win0_8.index t = ![t.val, 0] := (by decide +kernel : ∀ t : Fin grid0.N, _)
/-- The block of output 9 is the same at every point. -/
theorem ix0_9 : ∀ t : Fin cfg0.N, win0_9.index t = ![0, 0] := (by decide +kernel : ∀ t : Fin grid0.N, _)
/-- The block of output 10 is the same at every point. -/
theorem ix0_10 : ∀ t : Fin cfg0.N, win0_10.index t = ![0, 0] := (by decide +kernel : ∀ t : Fin grid0.N, _)
/-- The block of output 11 at point `t`. -/
theorem ix0_11 : ∀ t : Fin cfg0.N, win0_11.index t = ![t.val, 0] := (by decide +kernel : ∀ t : Fin grid0.N, _)
/-- The block of output 12 at point `t`. -/
theorem ix0_12 : ∀ t : Fin cfg0.N, win0_12.index t = ![t.val, 0] := (by decide +kernel : ∀ t : Fin grid0.N, _)
/-- The block of output 13 at point `t`. -/
theorem ix0_13 : ∀ t : Fin cfg0.N, win0_13.index t = ![t.val, 0] := (by decide +kernel : ∀ t : Fin grid0.N, _)
/-- The block of output 14 is the same at every point. -/
theorem ix0_14 : ∀ t : Fin cfg0.N, win0_14.index t = ![0, 0] := (by decide +kernel : ∀ t : Fin grid0.N, _)

/-- The row a point's stores name, as a number. -/
theorem rowOf_iff (t : Fin cfg0.N) (q : ℕ) (hq : q < 16) (ρ : Fin 2) : BitVec.ofNat 32 q = rowOf (grid0.coords t) (BitVec.ofNat 32 ρ.val) ↔ q = 2 * t.val + ρ.val := by
  have h : ∀ (a : Fin 8) (q : Fin 16) (ρ : Fin 2),
      BitVec.ofNat 32 q.val = Scalar.addi (Scalar.muli (BitVec.ofNat 32 a.val) 2#32) (BitVec.ofNat 32 ρ.val) ↔ q.val = 2 * a.val + ρ.val := by decide
  have := h ⟨t.val, lt8 t⟩ ⟨q, hq⟩ ρ
  unfold rowOf
  rw [coord0]
  exact this

/-- After two rows are set at point `t`, the rows below `2 (t + 1)` are `f`'s, if those below `2 t` were. -/
theorem rows_step {n : ℕ} (f : ℕ → ℕ → EReal) (t : Fin cfg0.N) (g0 g1 : ℕ → EReal) (Y : (⟨2, ![16, n]⟩ : Shape).Idx → EReal)
    (h0 : ∀ d, g0 d = f (2 * t.val) d) (h1 : ∀ d, g1 d = f (2 * t.val + 1) d)
    (hY : ∀ y : (⟨2, ![16, n]⟩ : Shape).Idx, (y 0).val < 2 * t.val → Y y = f (y 0).val (y 1).val)
    (y : (⟨2, ![16, n]⟩ : Shape).Idx) (hy : (y 0).val < 2 * (t.val + 1)) :
    setRow (rowOf (grid0.coords t) 1#32) g1 (setRow (rowOf (grid0.coords t) 0#32) g0 Y) y = f (y 0).val (y 1).val := by
  have hq : (y 0).val < 16 := (y 0).isLt
  unfold setRow
  have e1 : BitVec.ofNat 32 (y 0).val = rowOf (grid0.coords t) 1#32 ↔ (y 0).val = 2 * t.val + 1 := rowOf_iff t (y 0).val hq 1
  have e0 : BitVec.ofNat 32 (y 0).val = rowOf (grid0.coords t) 0#32 ↔ (y 0).val = 2 * t.val := rowOf_iff t (y 0).val hq 0
  by_cases c1 : (y 0).val = 2 * t.val + 1
  · rw [if_pos (e1.mpr c1), h1, c1]
  · rw [if_neg fun h => c1 (e1.mp h)]
    by_cases c0 : (y 0).val = 2 * t.val
    · rw [if_pos (e0.mpr c0), h0, c0]
    · rw [if_neg fun h => c0 (e0.mp h)]
      exact hY y (by omega)

/-- A point adds its two rows to the gain's gradient. -/
theorem dg_step (t : Fin cfg0.N) (Y : (⟨2, ![16, 512]⟩ : Shape).Idx → EReal)
    (hY : ∀ y : (⟨2, ![16, 512]⟩ : Shape).Idx, (y 0).val < 2 * t.val → Y y = DGAIN (inp m c) (128 * (y 0).val) (y 1).val)
    (y : (⟨2, ![16, 512]⟩ : Shape).Idx) (hy : (y 0).val < 2 * (t.val + 1)) : dgNext m c t Y y = DGAIN (inp m c) (128 * (y 0).val) (y 1).val := by
  refine rows_step (fun q d => DGAIN (inp m c) (128 * q) d) t _ _ Y (fun d => ?_) (fun d => ?_) hY y hy
  · unfold inpAt; rw [DGAIN_shift, show 256 * t.val + 0 = 128 * (2 * t.val) by omega]
  · unfold inpAt; rw [DGAIN_shift, show 256 * t.val + 128 = 128 * (2 * t.val + 1) by omega]

/-- A point adds its two rows to the column scales. -/
theorem ts_step (t : Fin cfg0.N) (Y : (⟨2, ![16, 576]⟩ : Shape).Idx → EReal)
    (hY : ∀ y : (⟨2, ![16, 576]⟩ : Shape).Idx, (y 0).val < 2 * t.val → Y y = TSCALE (G (inp m c)) (128 * (y 0).val) (y 1).val)
    (y : (⟨2, ![16, 576]⟩ : Shape).Idx) (hy : (y 0).val < 2 * (t.val + 1)) : tsNext m c t Y y = TSCALE (G (inp m c)) (128 * (y 0).val) (y 1).val := by
  refine rows_step (fun q d => TSCALE (G (inp m c)) (128 * q) d) t _ _ Y (fun d => ?_) (fun d => ?_) hY y hy
  · unfold inpAt; rw [TSCALE_shift, show 256 * t.val + 0 = 128 * (2 * t.val) by omega]
  · unfold inpAt; rw [TSCALE_shift, show 256 * t.val + 128 = 128 * (2 * t.val + 1) by omega]

/-- The first point's part of the weight's gradient is its sum so far. -/
theorem dw_first (t : Fin cfg0.N) (ht : t.val = 0) (Y) : dwNext m c t Y = at2 (m := 576) (n := 4096) (DWpart (inp m c) 0 256) := by
  unfold dwNext inpAt at2
  rw [if_pos ht, ht]
  funext y
  have h := DWpart_step (inp m c) 0 (y 0).val (y 1).val
  rw [Nat.mul_zero, Nat.zero_add, DWpart_zero, zero_add] at h
  exact h.symm

/-- A later point adds its part to the sum so far. -/
theorem dw_later (t : Fin cfg0.N) (k : ℕ) (ht : t.val = k + 1) :
    dwNext m c t (at2 (m := 576) (n := 4096) (DWpart (inp m c) 0 (256 * k + 256)))
      = at2 (m := 576) (n := 4096) (DWpart (inp m c) 0 (256 * (k + 1) + 256)) := by
  unfold dwNext inpAt at2
  rw [if_neg (by omega), ht]
  funext y
  exact (DWpart_step (inp m c) (k + 1) (y 0).val (y 1).val).symm

/-- What a point leaves of the weight's gradient, from what it finds. -/
theorem leaves9_iff (t : Fin cfg0.N) (X) (h : (rdats m c).Leaves 9 t X) : ∃ Y, (rdats m c).Finds 9 t Y ∧ X = dwNext m c t Y := h
/-- What a point leaves of the gain's gradient, from what it finds. -/
theorem leaves10_iff (t : Fin cfg0.N) (X) (h : (rdats m c).Leaves 10 t X) : ∃ Y, (rdats m c).Finds 10 t Y ∧ X = dgNext m c t Y := h
/-- What a point leaves of the column scales, from what it finds. -/
theorem leaves14_iff (t : Fin cfg0.N) (X) (h : (rdats m c).Leaves 14 t X) : ∃ Y, (rdats m c).Finds 14 t Y ∧ X = tsNext m c t Y := h

/-- What a later point finds in a buffer written back at the last point only is what the point before it left. -/
theorem finds_later (w : Fin cfg0.W) (hw : (cfg0.win w).isOut = true) (hflush : ∀ t : Fin cfg0.N, (cfg0.win w).flush t = true ↔ t.val % 8 = 7)
    (t t' : Fin cfg0.N) (ht : t.val = t'.val + 1) (Y) (h : (rdats m c).Finds w t Y) : (rdats m c).Leaves w t' Y := by
  have hf : (cfg0.win w).fetch t = false := by unfold Window.fetch; rw [hw]; rfl
  have h8 := lt8 t
  rcases (RDat.finds_of_pos (rdats m c) hf (by omega) Y).mp h with h | h
  · have h := (hflush _).mp h
    simp only at h
    omega
  · have e : (⟨t.val - 1, by omega⟩ : Fin cfg0.N) = t' := Fin.ext (by simp only; omega)
    rw [e] at h
    exact h

/-- What the points leave in window 9: the sum over the tokens so far. -/
theorem leaves9 (n : ℕ) : ∀ (t : Fin cfg0.N), t.val = n → ∀ X, (rdats m c).Leaves 9 t X →
    X = at2 (m := 576) (n := 4096) (DWpart (inp m c) 0 (256 * n + 256)) := by
  induction n with
  | zero =>
    intro t ht X h
    obtain ⟨Y, _, rfl⟩ := leaves9_iff m c t X h
    exact dw_first m c t ht Y
  | succ k ih =>
    intro t ht X h
    obtain ⟨Y, hY, rfl⟩ := leaves9_iff m c t X h
    have h8 := lt8 t
    have hY' := ih ⟨k, by omega⟩ rfl Y (finds_later m c 9 rfl flush0_9 t ⟨k, by omega⟩ ht Y hY)
    rw [hY']
    exact dw_later m c t k ht

/-- What the points leave in window 10: the gain gradient's rows so far. -/
theorem leaves10 (n : ℕ) : ∀ (t : Fin cfg0.N), t.val = n → ∀ X, (rdats m c).Leaves 10 t X →
    ∀ y : (⟨2, ![16, 512]⟩ : Shape).Idx, (y 0).val < 2 * (n + 1) → X y = DGAIN (inp m c) (128 * (y 0).val) (y 1).val := by
  induction n with
  | zero =>
    intro t ht X h y hy
    obtain ⟨Y, _, rfl⟩ := leaves10_iff m c t X h
    exact dg_step m c t Y (fun y hy => by omega) y (by omega)
  | succ k ih =>
    intro t ht X h y hy
    obtain ⟨Y, hY, rfl⟩ := leaves10_iff m c t X h
    have h8 := lt8 t
    have hY' := ih ⟨k, by omega⟩ rfl Y (finds_later m c 10 rfl flush0_10 t ⟨k, by omega⟩ ht Y hY)
    exact dg_step m c t Y (fun y hy => hY' y (by omega)) y (by omega)

/-- What the points leave in window 14: the rows of scales so far. -/
theorem leaves14 (n : ℕ) : ∀ (t : Fin cfg0.N), t.val = n → ∀ X, (rdats m c).Leaves 14 t X →
    ∀ y : (⟨2, ![16, 576]⟩ : Shape).Idx, (y 0).val < 2 * (n + 1) → X y = TSCALE (G (inp m c)) (128 * (y 0).val) (y 1).val := by
  induction n with
  | zero =>
    intro t ht X h y hy
    obtain ⟨Y, _, rfl⟩ := leaves14_iff m c t X h
    exact ts_step m c t Y (fun y hy => by omega) y (by omega)
  | succ k ih =>
    intro t ht X h y hy
    obtain ⟨Y, hY, rfl⟩ := leaves14_iff m c t X h
    have h8 := lt8 t
    have hY' := ih ⟨k, by omega⟩ rfl Y (finds_later m c 14 rfl flush0_14 t ⟨k, by omega⟩ ht Y hY)
    exact ts_step m c t Y (fun y hy => hY' y (by omega)) y (by omega)

/-! ### The arrays at the end -/

variable (after : (w' : Fin cfg0.W) → Fin cfg0.N → (cfg0.win w').block.Idx → Elt Ideal (cfg0.win w').elt)
  (hL : ∀ (w : Fin cfg0.W) (u : Fin cfg0.N), (cfg0.win w).flush u = true → (rdats m c).Leaves w u (after w u))

include hL in
/-- The gradient of the input, after the last point. -/
theorem final8 : ((rdats m c).withAfter after).arrAt 8 cfg0.N = at2 (m := 2048) (n := 4096) (DX (inp m c)) := by
  refine Dat.arrAt_eq_of_covers _ 8 _ (by decide +kernel) fun t hf y => ?_
  obtain ⟨Y, _, hX⟩ := hL 8 t hf
  have hX : after 8 t = at2 (m := 256) (n := 4096) (DX (inpAt m c t)) := hX
  blk_simp
  rw [RDat.withAfter_after, hX]
  unfold at2 inpAt
  blk_simp [ix0_8]
  refine (DX_shift _ _ _ _).trans ?_
  congr 1 <;> (try simp) <;> (try omega)

include hL in
/-- The row codes, after the last point. -/
theorem final11 : ((rdats m c).withAfter after).arrAt 11 cfg0.N = at2 (m := 2048) (n := 576) (CODE (G (inp m c))) := by
  refine Dat.arrAt_eq_of_covers _ 11 _ (by decide +kernel) fun t hf y => ?_
  obtain ⟨Y, _, hX⟩ := hL 11 t hf
  have hX : after 11 t = at2 (m := 256) (n := 576) (CODE (G (inpAt m c t))) := hX
  blk_simp
  rw [RDat.withAfter_after, hX]
  unfold at2 inpAt
  blk_simp [ix0_11]
  refine (CODE_shift _ _ _ _).trans ?_
  congr 1 <;> (try simp) <;> (try omega)

include hL in
/-- The row scales, after the last point. -/
theorem final12 : ((rdats m c).withAfter after).arrAt 12 cfg0.N = at2 (m := 2048) (n := 5) (SCALE (G (inp m c))) := by
  refine Dat.arrAt_eq_of_covers _ 12 _ (by decide +kernel) fun t hf y => ?_
  obtain ⟨Y, _, hX⟩ := hL 12 t hf
  have hX : after 12 t = at2 (m := 256) (n := 5) (SCALE (G (inpAt m c t))) := hX
  blk_simp
  rw [RDat.withAfter_after, hX]
  unfold at2 inpAt
  blk_simp [ix0_12]
  refine (SCALE_shift _ _ _ _).trans ?_
  congr 1 <;> (try simp) <;> (try omega)

include hL in
/-- The column codes, after the last point. -/
theorem final13 : ((rdats m c).withAfter after).arrAt 13 cfg0.N = at2 (m := 2048) (n := 576) (TCODE (G (inp m c))) := by
  refine Dat.arrAt_eq_of_covers _ 13 _ (by decide +kernel) fun t hf y => ?_
  obtain ⟨Y, _, hX⟩ := hL 13 t hf
  have hX : after 13 t = at2 (m := 256) (n := 576) (TCODE (G (inpAt m c t))) := hX
  blk_simp
  rw [RDat.withAfter_after, hX]
  unfold at2 inpAt
  blk_simp [ix0_13]
  refine (TCODE_shift _ _ _ _).trans ?_
  congr 1 <;> (try simp) <;> (try omega)

include hL in
/-- The gradient of the weight, after the last point. -/
theorem final9 : ((rdats m c).withAfter after).arrAt 9 cfg0.N = at2 (m := 576) (n := 4096) (DWpart (inp m c) 0 2048) := by
  refine Dat.arrAt_eq_of_covers _ 9 _ (by decide +kernel) fun t hf y => ?_
  have ht : t.val = 7 := by have := (flush0_9 t).mp hf; have := lt8 t; omega
  have hX : after 9 t = at2 (m := 576) (n := 4096) (DWpart (inp m c) 0 2048) := leaves9 m c 7 t ht _ (hL 9 t hf)
  blk_simp
  rw [RDat.withAfter_after, hX]
  unfold at2
  blk_simp [ix0_9]

include hL in
/-- The gradient of the gain, after the last point. -/
theorem final10 : ((rdats m c).withAfter after).arrAt 10 cfg0.N = at2 (m := 16) (n := 512) (fun q d => DGAIN (inp m c) (128 * q) d) := by
  refine Dat.arrAt_eq_of_covers _ 10 _ (by decide +kernel) fun t hf y => ?_
  have ht : t.val = 7 := by have := (flush0_10 t).mp hf; have := lt8 t; omega
  have hX : after 10 t = at2 (m := 16) (n := 512) (fun q d => DGAIN (inp m c) (128 * q) d) :=
    funext fun y => leaves10 m c 7 t ht _ (hL 10 t hf) y (by have h : (y 0).val < 16 := (y 0).isLt; omega)
  blk_simp
  rw [RDat.withAfter_after, hX]
  unfold at2
  blk_simp [ix0_10]

include hL in
/-- The column scales, after the last point. -/
theorem final14 : ((rdats m c).withAfter after).arrAt 14 cfg0.N = at2 (m := 16) (n := 576) (fun q d => TSCALE (G (inp m c)) (128 * q) d) := by
  refine Dat.arrAt_eq_of_covers _ 14 _ (by decide +kernel) fun t hf y => ?_
  have ht : t.val = 7 := by have := (flush0_14 t).mp hf; have := lt8 t; omega
  have hX : after 14 t = at2 (m := 16) (n := 576) (fun q d => TSCALE (G (inp m c)) (128 * q) d) :=
    funext fun y => leaves14 m c 7 t ht _ (hL 14 t hf) y (by have h : (y 0).val < 16 := (y 0).isLt; omega)
  blk_simp
  rw [RDat.withAfter_after, hX]
  unfold at2
  blk_simp [ix0_14]

end Cert.KernelIdeal.Run

end
-- ==== Proof.Val.Run.lean ====
/- The idealized kernel's run: the machine is quiescent at the end, the arguments unchanged, and the seven results are the step's functions
   of the arguments. -/
module

public import proofs.«01_k».proof.Proof.Val.Finals

@[expose] public section

set_option maxRecDepth 16384

noncomputable section

namespace Cert.KernelIdeal.Run

open Cert.KernelIdeal Cert.KernelIdeal.Gen Cert.KernelIdeal.Body Cert.KernelIdeal.Val Cert.Spec
open Idealize.ShloMosaic Idealize.ShloMosaic.TcCoe Idealize.SL.Sem
open Idealize.ShloMosaic.Pipeline

variable (m : (ℓ : Loc nD τ sig) → Buf (Elt Ideal) ℓ) (ρ : Dev nD → PrngReg)

/-- The arguments end as they were. -/
theorem args_of (r : PUnit × MemSt nD τ sig (Elt Ideal)) (h : RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (h.arr_in c 2 rfl).trans ((A_eq m c 2).trans (V_main_arg2 m c)),
      (h.arr_in c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- The frame: every run ends with the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_of m r h.1, h.2⟩) (run_main m ρ)

/-- The values: the seven results, by the step's functions. -/
theorem values : θ_run defs (onTc (τ := τ) (main (F := Ideal))) ⟨m, fun _ => 0, ρ⟩ (fun r => ∀ c : Dev nD,
      r.2.mem ((c.tc : Thread nD τ).loc main_v6_0) = at2 (m := 2048) (n := 4096) (DX (inp m c))
      ∧ r.2.mem ((c.tc : Thread nD τ).loc main_v6_1) = at2 (m := 576) (n := 4096) (DWpart (inp m c) 0 2048)
      ∧ r.2.mem ((c.tc : Thread nD τ).loc main_v6_2) = at2 (m := 16) (n := 512) (fun q d => DGAIN (inp m c) (128 * q) d)
      ∧ r.2.mem ((c.tc : Thread nD τ).loc main_v6_3) = at2 (m := 2048) (n := 576) (CODE (G (inp m c)))
      ∧ r.2.mem ((c.tc : Thread nD τ).loc main_v6_4) = at2 (m := 2048) (n := 5) (SCALE (G (inp m c)))
      ∧ r.2.mem ((c.tc : Thread nD τ).loc main_v6_5) = at2 (m := 2048) (n := 576) (TCODE (G (inp m c)))
      ∧ r.2.mem ((c.tc : Thread nD τ).loc main_v6_6) = at2 (m := 16) (n := 576) (fun q d => TSCALE (G (inp m c)) (128 * q) d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨after, hL, hA⟩ := h.1.exists_exact c
    exact ⟨(hA 8).trans (final8 m c after hL), (hA 9).trans (final9 m c after hL), (hA 10).trans (final10 m c after hL),
      (hA 11).trans (final11 m c after hL), (hA 12).trans (final12 m c after hL), (hA 13).trans (final13 m c after hL),
      (hA 14).trans (final14 m c after hL), args_of m r h.1 c⟩) (run_main m ρ)

end Cert.KernelIdeal.Run

end
-- ==== Proof.Ref.Grad.lean ====
/- What the reference computes before it quantises, read at an index: the dequantised tokens and weight, the latent,
   the norm's numbers, the rotary part, and the gradient. -/
module

public import proofs.«01_k».proof.Proof.Gen.ReferenceIdeal.Skeleton
public import proofs.«01_k».proof.Proof.Val.Args

@[expose] public section

set_option maxRecDepth 16384

noncomputable section

namespace Cert.ReferenceIdeal.Val

open Cert.ReferenceIdeal Cert.ReferenceIdeal.Gen Cert.Spec
open Idealize.ShloMosaic Idealize.ShloMosaic.Tactic

variable {a0 : Vec Ideal S2x1024x4096 .fp8e4m3} {a1 : Vec Ideal S2x1024x32 .f32} {a2 : Vec Ideal S576x4096 .fp8e4m3}
  {a3 : Vec Ideal S5x32 .f32} {a4 : Vec Ideal S512 .f32} {a5 : Vec Ideal S2x1024 .i32} {a6 : Vec Ideal S2x1024x512 .bf16}
  {a7 : Vec Ideal S2x1024x64 .bf16} {I : In} (hI : inOf a0 a1 a2 a3 a4 a5 a6 a7 = I)

/-- A token is its batch entry and its place in it. -/
theorem split (r : Fin 2048) : r.val = 1024 * (r.val / 1024) + r.val % 1024 := (Nat.div_add_mod _ _).symm

/-- Twice a small number, converted: the conversion, doubled. -/
theorem sitofp_two (p : Fin 32) : FloatOps.sitofp (F := Ideal) FTy.f32 (IntOp.muli 2#32 (BitVec.ofNat 32 p.val))
    = FloatOps.sitofp (F := Ideal) FTy.f32 (BitVec.ofNat 32 p.val) * Ideal.ofBits FTy.f32 0x40000000#32 := by
  have h2 : Ideal.ofBits FTy.f32 0x40000000#32 = ((2 : ℝ) : EReal) := by
    simp [Ideal.ofBits, Ideal.ieee, -EReal.coe_mul]; norm_num
  have hw : ∀ p : Fin 32, (IntOp.muli 2#32 (BitVec.ofNat 32 p.val)).toInt = 2 * (BitVec.ofNat 32 p.val).toInt := by decide +kernel
  rw [h2]
  show (((IntOp.muli 2#32 (BitVec.ofNat 32 p.val)).toInt : ℝ) : EReal) = (((BitVec.ofNat 32 p.val).toInt : ℝ) : EReal) * _
  rw [hw, ← EReal.coe_mul]
  congr 1
  push_cast
  ring

/-- A quotient by 512 is the product with its reciprocal. -/
theorem div_512 (x : EReal) : Ideal.div x (Ideal.ofBits FTy.f32 0x44000000#32) = x * Ideal.ofBits FTy.f32 0x3B000000#32 := by
  have h1 : Ideal.ofBits FTy.f32 0x44000000#32 = ((512 : ℝ) : EReal) := by
    simp [Ideal.ofBits, Ideal.ieee, -EReal.coe_mul]; norm_num
  have h2 : Ideal.ofBits FTy.f32 0x3B000000#32 = ((1 / 512 : ℝ) : EReal) := by
    simp [Ideal.ofBits, Ideal.ieee, -EReal.coe_mul]; norm_num
  rw [h1, h2, Ideal.div_coe (by norm_num)]

include hI

/-- The dequantised tokens. -/
theorem pay4_at (r : Fin 2048) (o : Fin 4096) : k0_pay4 (F := Ideal) a0 a1 (ix2 r o) = XW I r.val o.val := by
  subst hI
  unfold_payloads
  pointwise
  show _ = tok a0 r.val o.val * tok a1 r.val (o.val / 128)
  rw [tok_of a0 ⟨r.val / 1024, by omega⟩ ⟨r.val % 1024, by omega⟩ o (split r) rfl,
    tok_of a1 ⟨r.val / 1024, by omega⟩ ⟨r.val % 1024, by omega⟩ ⟨o.val / 128, by omega⟩ (split r) rfl]

/-- The dequantised weight. -/
theorem pay5_at (d : Fin 576) (o : Fin 4096) : k0_pay5 (F := Ideal) a2 a3 (ix2 d o) = WW I d.val o.val := by
  subst hI
  unfold_payloads
  pointwise
  show _ = mat a2 d.val o.val * mat a3 (⟨d.val / 128, by omega⟩ : Fin 5).val (⟨o.val / 128, by omega⟩ : Fin 32).val
  rw [mat_of, mat_of]

/-- The incoming latent gradient. -/
theorem pay7_at (r : Fin 2048) (o : Fin 512) : k0_pay7 (F := Ideal) a6 (ix2 r o) = I.dc r.val o.val := by
  subst hI
  unfold_payloads
  pointwise
  exact (tok_of a6 ⟨r.val / 1024, by omega⟩ ⟨r.val % 1024, by omega⟩ o (split r) rfl).symm

/-- The even entries of the incoming rotary gradient. -/
theorem pay16_at (r : Fin 2048) (p : Fin 32) : k0_pay16 (F := Ideal) a7 (ix2 r p) = I.dk r.val (2 * p.val) := by
  subst hI
  unfold_payloads
  pointwise
  exact (tok_of a7 ⟨r.val / 1024, by omega⟩ ⟨r.val % 1024, by omega⟩ ⟨p.val * 2, by omega⟩ (split r) (Nat.mul_comm _ _)).symm

/-- The odd entries of the incoming rotary gradient. -/
theorem pay17_at (r : Fin 2048) (p : Fin 32) : k0_pay17 (F := Ideal) a7 (ix2 r p) = I.dk r.val (2 * p.val + 1) := by
  subst hI
  unfold_payloads
  pointwise
  exact (tok_of a7 ⟨r.val / 1024, by omega⟩ ⟨r.val % 1024, by omega⟩ ⟨p.val * 2 + 1, by omega⟩ (split r)
    (by show 2 * p.val + 1 = p.val * 2 + 1; omega)).symm

/-- The rotary angle. -/
theorem pay12_at (r : Fin 2048) (p : Fin 32) : k0_pay12 (F := Ideal) a5 (ix2 r p) = ang I r.val p.val := by
  subst hI
  unfold_payloads
  pointwise
  rw [sitofp_two]
  show _ = FloatOps.sitofp (F := Ideal) FTy.f32 (posOf a5 r.val) * _
  rw [posOf_of a5 ⟨r.val / 1024, by omega⟩ ⟨r.val % 1024, by omega⟩ (split r)]

/-- The cosines of the rotary angles. -/
theorem pay13_at (r : Fin 2048) (p : Fin 32) : k0_pay13 (F := Ideal) a5 (ix2 r p) = Ideal.cos (ang I r.val p.val) := by
  rw [← pay12_at hI]; rfl
/-- The sines of the rotary angles. -/
theorem pay14_at (r : Fin 2048) (p : Fin 32) : k0_pay14 (F := Ideal) a5 (ix2 r p) = Ideal.sin (ang I r.val p.val) := by
  rw [← pay12_at hI]; rfl

/-- The rotary part of the gradient. -/
theorem pay18_at (r : Fin 2048) (l : Fin 64) :
    k0_pay18 (F := Ideal) (k0_pay13 a5) (k0_pay14 a5) (k0_pay16 a7) (k0_pay17 a7) (ix2 r l) = DKR I r.val l.val := by
  unfold k0_pay18
  pointwise
  simp only [pay13_at hI, pay14_at hI, pay16_at hI, pay17_at hI]
  have hd := Nat.div_add_mod l.val 2
  by_cases h : l.val % 2 = 0
  · rw [dif_pos (by omega), DKR, if_pos h]
    show I.dk r.val (2 * (l.val / 2)) * _ + I.dk r.val (2 * (l.val / 2) + 1) * _ = _
    rw [show 2 * (l.val / 2) = l.val by omega]
  · rw [dif_neg (by omega), DKR, if_neg h]
    show (0 - I.dk r.val (2 * (l.val / 2))) * _ + I.dk r.val (2 * (l.val / 2) + 1) * _ = _
    rw [show 2 * (l.val / 2) = l.val - 1 by omega, show l.val - 1 + 1 = l.val by omega, add_comm, zero_sub, zero_sub, mul_neg, neg_mul]

/-- The latent. -/
theorem pay6_at (r : Fin 2048) (d : Fin 512) : k0_pay6 (F := Ideal) a0 a1 a2 a3 (ix2 r d) = C I r.val d.val := by
  unfold k0_pay6
  pointwise
  refine Finset.sum_congr rfl fun k _ => ?_
  rw [pay4_at hI, pay5_at hI]

/-- The norm's reciprocal root. -/
theorem pay8_at (r : Fin 2048) (z : Fin 1) : k0_pay8 (F := Ideal) a0 a1 a2 a3 (ix2 r z) = RSTD I r.val := by
  unfold k0_pay8
  pointwise
  rw [div_512]
  simp only [pay6_at hI]
  rfl

/-- The gain's products. -/
theorem pay9_at (q : Fin 16) (j : Fin 128) (d : Fin 512) :
    k0_pay9 (F := Ideal) a0 a1 a2 a3 a6 (ix3 q j d) = GP I (128 * q.val + j.val) d.val := by
  unfold k0_pay9
  pointwise
  rw [pay7_at hI, pay6_at hI, pay8_at hI, Nat.mul_comm 128]
  rfl

/-- The gain's gradient, a run of tokens at a time. -/
theorem pay10_at (q : Fin 16) (d : Fin 512) :
    k0_pay10 (F := Ideal) (k0_pay9 a0 a1 a2 a3 a6) (ix2 q d) = DGAIN I (128 * q.val) d.val := by
  unfold k0_pay10
  pointwise
  simp only [pay9_at hI]
  rfl

/-- The latent's gradient. -/
theorem pay11_at (r : Fin 2048) (d : Fin 512) :
    k0_pay11 (F := Ideal) (k0_pay6 a0 a1 a2 a3) (k0_pay7 a6) (k0_pay8 a0 a1 a2 a3) a4 (ix2 r d) = DC I r.val d.val := by
  have hg : ∀ k : Fin 512, a4 (ix1 k) = I.gain k.val := fun k => by subst hI; exact (vec_of a4 k).symm
  unfold k0_pay11
  pointwise
  simp only [div_512, pay6_at hI, pay7_at hI, pay8_at hI, hg, mul_assoc]
  simp only [DC, DH, mean, mul_assoc]

/-- The gradient that is quantised. -/
theorem pay19_at (r : Fin 2048) (d : Fin 576) :
    k0_pay19 (F := Ideal) (k0_pay11 (k0_pay6 a0 a1 a2 a3) (k0_pay7 a6) (k0_pay8 a0 a1 a2 a3) a4) (k0_pay13 a5) (k0_pay14 a5)
      (k0_pay16 a7) (k0_pay17 a7) (ix2 r d) = G I r.val d.val := by
  unfold k0_pay19
  pointwise
  rw [G]
  by_cases h : d.val < 512
  · rw [dif_pos h, if_pos h]
    exact pay11_at hI r ⟨d.val, h⟩
  · rw [dif_neg h, if_neg h]
    exact pay18_at hI r ⟨d.val - 512, by omega⟩

end Cert.ReferenceIdeal.Val

end
-- ==== Proof.Val.Scale.lean ====
/- The quantiser's two spellings agree. One counts the powers of two that the scaled magnitude reaches; the other takes
   the floor of its logarithm to base two, adds one and clips: the exponents are the same whole number, and the scale
   and its inverse are two to that number and to its negation. -/
module

public import proofs.«01_k».proof.Proof.Spec
public import Idealize.ShloMosaic.Lib.WordSum

@[expose] public section

noncomputable section

namespace Cert.Spec

open Idealize.ShloMosaic

/-- The pattern with exponent field `k` and no fraction denotes two to the power `k - 127`. -/
theorem ofBits_pow (k : ℕ) (h1 : 1 ≤ k) (h2 : k ≤ 254) :
    Ideal.ofBits FTy.f32 (BitVec.ofNat 32 (k * 2 ^ 23)) = (((2 : ℝ) ^ ((k : ℤ) - 127) : ℝ) : EReal) := by
  have hn : (BitVec.ofNat 32 (k * 2 ^ 23)).toNat = k * 2 ^ 23 := by
    rw [BitVec.toNat_ofNat]; omega
  have hex : (BitVec.extractLsb' 23 8 (BitVec.ofNat 32 (k * 2 ^ 23))).toNat = k := by
    rw [BitVec.extractLsb'_toNat, hn, Nat.shiftRight_eq_div_pow]; omega
  have hfr : (BitVec.extractLsb' 0 23 (BitVec.ofNat 32 (k * 2 ^ 23))).toNat = 0 := by
    rw [BitVec.extractLsb'_toNat, hn, Nat.shiftRight_eq_div_pow]; omega
  have hsg : (BitVec.extractLsb' 31 1 (BitVec.ofNat 32 (k * 2 ^ 23)) == 1#1) = false := by
    rw [beq_eq_false_iff_ne]
    intro h
    have := congrArg BitVec.toNat h
    rw [BitVec.extractLsb'_toNat, hn, Nat.shiftRight_eq_div_pow] at this
    simp at this
    omega
  show Ideal.ieee 8 23 _ = _
  simp only [Ideal.ieee]
  rw [hex, hfr, hsg, if_neg (by omega), if_neg (by omega)]
  congr 1
  rw [if_neg (by simp)]
  have h3 : ((k : ℤ) - (2 ^ (8 - 1) - 1) - ((23 : ℕ) : ℤ)) = ((k : ℤ) - 127) + (-23) := by norm_num; ring
  rw [h3, zpow_add₀ (by norm_num)]
  norm_num
  ring

/-- Two to a whole power reaches a positive real exactly when the power is at most the floor of the logarithm. -/
theorem pow_le_iff {r : ℝ} (hr : 0 < r) (j : ℤ) : (2 : ℝ) ^ j ≤ r ↔ j ≤ ⌊Real.log r * (1 / Real.log 2)⌋ := by
  have h2 : 0 < Real.log 2 := Real.log_pos (by norm_num)
  rw [Int.le_floor, mul_one_div, le_div_iff₀ h2, ← Real.log_zpow, Real.log_le_log_iff (by positivity) hr]

/-- The reciprocal of the code's range, as a real. -/
theorem recip_pos : ∃ c : ℝ, 0 < c ∧ Ideal.ofBits FTy.f32 0x37924925#32 = (c : EReal) := by
  refine ⟨_, ?_, rfl⟩
  norm_num
  rw [if_neg (by decide)]
  positivity

/-- A sum of indicator words is the count of the indices that satisfy the condition. -/
theorem fold_count {ι : Type} (S : Finset ι) (p : ι → Prop) [DecidablePred p] :
    Finset.fold IntOp.addi (0#32) (fun x => BitVec.setWidth 32 (BitVec.ofBool (decide (p x)))) S = BitVec.ofNat 32 (S.filter p).card := by
  classical
  induction S using Finset.cons_induction with
  | empty => simp
  | cons a S ha ih =>
    rw [Finset.fold_cons, ih, Finset.filter_cons]
    by_cases h : p a
    · rw [if_pos h, Finset.card_cons, Nat.add_comm, BitVec.ofNat_add]
      simp [h, IntOp.addi]
    · rw [if_neg h]
      simp [h, IntOp.addi]

/-- The exponent by the floor of the logarithm, clipped. -/
def rE (a : EReal) : EReal :=
  if a = 0 then 0 else
    min (Ideal.ofBits FTy.f32 0x42FC0000#32) (max (Ideal.ofBits FTy.f32 0xC2FC0000#32)
      (Ideal.liftRound Int.floor (Ideal.div (Ideal.log (a * Ideal.ofBits FTy.f32 0x37924925#32)) ((Real.log 2 : ℝ) : EReal)) + 1))

/-- The count of the thresholds `t` reaches. -/
def cnt (t : EReal) : ℕ :=
  (Finset.univ.filter fun x : Fin 252 =>
    Ideal.ofBits FTy.f32 (IntOp.shli ArithUnit.vector (IntOp.addi (BitVec.ofNat 32 x.val) 1#32) 23#32) ≤ t).card

/-- The shifted words of the thresholds, of the scale and of its inverse. -/
theorem word_threshold : ∀ x : Fin 252,
    IntOp.shli ArithUnit.vector (IntOp.addi (BitVec.ofNat 32 x.val) 1#32) 23#32 = BitVec.ofNat 32 ((x.val + 1) * 2 ^ 23) := by
  decide +kernel
/-- The count `n` as the exponent field of the scale. -/
theorem word_scale : ∀ n : Fin 253,
    IntOp.shli ArithUnit.vector (IntOp.addi (IntOp.subi (BitVec.ofNat 32 n.val) 126#32) 127#32) 23#32
      = BitVec.ofNat 32 ((n.val + 1) * 2 ^ 23) := by
  decide +kernel
/-- The count `n` as the exponent field of the inverse scale. -/
theorem word_inverse : ∀ n : Fin 253,
    IntOp.shli ArithUnit.vector (IntOp.subi 127#32 (IntOp.subi (BitVec.ofNat 32 n.val) 126#32)) 23#32
      = BitVec.ofNat 32 ((253 - n.val) * 2 ^ 23) := by
  decide +kernel

/-- Threshold `x` is two to the power `x - 126`. -/
theorem threshold (x : Fin 252) :
    Ideal.ofBits FTy.f32 (IntOp.shli ArithUnit.vector (IntOp.addi (BitVec.ofNat 32 x.val) 1#32) 23#32)
      = (((2 : ℝ) ^ ((x.val : ℤ) - 126) : ℝ) : EReal) := by
  rw [word_threshold, ofBits_pow (x.val + 1) (by omega) (by omega)]
  have e : (((x.val + 1 : ℕ) : ℤ) - 127) = (x.val : ℤ) - 126 := by push_cast; ring
  rw [e]

/-- Infinity reaches every threshold. -/
theorem cnt_top : cnt ⊤ = 252 := by
  simp [cnt]

/-- The count at a positive real: 127 more than the floor of the logarithm, kept between 0 and 252. -/
theorem cnt_coe {r : ℝ} (hr : 0 < r) : ((cnt (r : EReal) : ℕ) : ℤ) = min 252 (max 0 (⌊Real.log r * (1 / Real.log 2)⌋ + 127)) := by
  set L := ⌊Real.log r * (1 / Real.log 2)⌋ with hL
  have h : cnt (r : EReal) = (Finset.univ.filter fun x : Fin 252 => x.val < (L + 127).toNat).card := by
    rw [cnt]
    congr 1
    apply Finset.filter_congr
    intro x _
    rw [threshold, EReal.coe_le_coe_iff, pow_le_iff hr]
    omega
  rw [h, Fin.card_filter_val_lt]
  omega

/-- The largest exponent. -/
theorem max_code : Ideal.ofBits FTy.f32 0x42FC0000#32 = ((126 : ℝ) : EReal) := by
  simp [Ideal.ofBits, Ideal.ieee, -EReal.coe_mul]; norm_num

/-- The smallest exponent. -/
theorem min_code : Ideal.ofBits FTy.f32 0xC2FC0000#32 = ((-126 : ℝ) : EReal) := by
  simp [Ideal.ofBits, Ideal.ieee, -EReal.coe_mul]; norm_num

/-- The maximum of two reals, as extended reals. -/
theorem emax (x y : ℝ) : ((max x y : ℝ) : EReal) = max (x : EReal) (y : EReal) := EReal.coe_strictMono.monotone.map_max
/-- The minimum of two reals, as extended reals. -/
theorem emin (x y : ℝ) : ((min x y : ℝ) : EReal) = min (x : EReal) (y : EReal) := EReal.coe_strictMono.monotone.map_min

/-- The clipped floor at a positive scaled magnitude is the count less 126. -/
theorem clip_floor {t : EReal} (ht : 0 < t) :
    min (Ideal.ofBits FTy.f32 0x42FC0000#32) (max (Ideal.ofBits FTy.f32 0xC2FC0000#32)
      (Ideal.liftRound Int.floor (Ideal.div (Ideal.log t) ((Real.log 2 : ℝ) : EReal)) + 1)) = (((cnt t : ℝ) - 126 : ℝ) : EReal) := by
  have h2 : 0 < Real.log 2 := Real.log_pos (by norm_num)
  rw [max_code, min_code, Ideal.div_coe h2.ne']
  induction t with
  | bot => exact absurd ht (by simp)
  | top =>
    rw [Ideal.log_top, EReal.top_mul_coe_of_pos (by positivity), cnt_top]
    show min _ (max _ ((⊤ : EReal) + 1)) = _
    rw [EReal.top_add_of_ne_bot (by exact_mod_cast EReal.coe_ne_bot 1), max_eq_right le_top, min_eq_left le_top]
    norm_num
  | coe r =>
    have hr : 0 < r := by exact_mod_cast ht
    rw [Ideal.log_coe, if_neg (not_le.2 hr), ← EReal.coe_mul]
    have hc := cnt_coe hr
    show min _ (max _ (((⌊Real.log r * (1 / Real.log 2)⌋ : ℝ) : EReal) + 1)) = _
    generalize ⌊Real.log r * (1 / Real.log 2)⌋ = L at hc
    have hc' : ((cnt (r : EReal) : ℕ) : ℝ) = min 252 (max 0 ((L : ℝ) + 127)) := by exact_mod_cast congrArg (Int.cast (R := ℝ)) hc
    rw [hc', ← EReal.coe_one, ← EReal.coe_add, ← emax, ← emin, EReal.coe_eq_coe_iff]
    have e : min (252 : ℝ) (max 0 ((L : ℝ) + 127)) - 126 = min (252 - 126) (max (0 - 126) ((L : ℝ) + 127 - 126)) := by
      rw [← min_sub_sub_right, ← max_sub_sub_right]
    rw [e]
    norm_num
    congr 2
    ring

/-- There are 252 thresholds. -/
theorem cnt_le (t : EReal) : cnt t ≤ 252 := by
  rw [cnt]
  exact (Finset.card_le_univ _).trans (by simp)

/-- Both exponents are one whole number between -126 and 126. -/
theorem exponents {a : EReal} (ha : 0 ≤ a) :
    ∃ n : ℕ, n ≤ 252 ∧ kE a = IntOp.subi (BitVec.ofNat 32 n) 126#32 ∧ rE a = (((n : ℝ) - 126 : ℝ) : EReal) := by
  by_cases h : a = 0
  · refine ⟨126, by norm_num, ?_, ?_⟩
    · subst h
      simp [kE, Scalar.select, IntOp.ori, IntOp.subi]
    · rw [rE, if_pos h]
      norm_num
  · obtain ⟨c, hc, hce⟩ := recip_pos
    have hapos : 0 < a := lt_of_le_of_ne ha (Ne.symm h)
    have ht : 0 < a * Ideal.ofBits FTy.f32 0x37924925#32 := by
      rw [hce]; exact EReal.mul_pos hapos (by exact_mod_cast hc)
    refine ⟨cnt (a * Ideal.ofBits FTy.f32 0x37924925#32), cnt_le _, ?_, ?_⟩
    · rw [kE, fold_count]
      simp [h, ht.ne', Scalar.select, IntOp.ori, cnt]
    · rw [rE, if_neg h, clip_floor ht]

/-- The scale is two to the exponent. -/
theorem exp2_rE {a : EReal} (ha : 0 ≤ a) : Ideal.exp2 (rE a) = kS a := by
  obtain ⟨n, hn, hk, hr⟩ := exponents ha
  have hw := word_scale ⟨n, by omega⟩
  rw [kS, hk, hr, hw, ofBits_pow (n + 1) (by omega) (by omega), Ideal.exp2_coe]
  congr 1
  show (2 : ℝ) ^ ((n : ℝ) - 126) = _
  rw [← Real.rpow_intCast]
  congr 1
  push_cast
  ring

/-- The inverse is two to the exponent's negation. -/
theorem exp2_neg_rE {a : EReal} (ha : 0 ≤ a) : Ideal.exp2 (0 - rE a) = kI a := by
  obtain ⟨n, hn, hk, hr⟩ := exponents ha
  have hw := word_inverse ⟨n, by omega⟩
  rw [kI, hk, hr, hw, ofBits_pow (253 - n) (by omega) (by omega), ← EReal.coe_zero, ← EReal.coe_sub, Ideal.exp2_coe]
  congr 1
  show (2 : ℝ) ^ ((0 : ℝ) - ((n : ℝ) - 126)) = _
  rw [← Real.rpow_intCast]
  congr 1
  push_cast [Nat.cast_sub (show n ≤ 253 by omega)]
  ring

/-- A magnitude is not negative. -/
theorem mag_nonneg (v : EReal) : 0 ≤ mag v := by
  show 0 ≤ max v (-v)
  rcases le_total 0 v with h | h
  · exact le_max_of_le_left h
  · exact le_max_of_le_right (by simpa using EReal.neg_le_neg_iff.2 h)

/-- Nor is the largest of a nonempty block. -/
theorem rmax_mag_nonneg {n : ℕ} (hn : 0 < n) (f : ℕ → EReal) : 0 ≤ rmax n fun j => mag (f j) := by
  rw [rmax, Finset.le_fold_max]
  exact Or.inr ⟨⟨0, hn⟩, Finset.mem_univ _, mag_nonneg _⟩

/-- A row block's largest magnitude is not negative. -/
theorem rowA_nonneg (G : ℕ → ℕ → EReal) {n : ℕ} (hn : 0 < n) (r base : ℕ) : 0 ≤ rowA G n r base := rmax_mag_nonneg hn _
/-- A column run's largest magnitude is not negative. -/
theorem colA_nonneg (G : ℕ → ℕ → EReal) (s d : ℕ) : 0 ≤ colA G s d := rmax_mag_nonneg (by norm_num) _

end Cert.Spec

end
-- ==== Proof.Ref.Quant.lean ====
/- What the reference's quantiser computes, read at an index: the exponents of the row blocks and of the column runs, the
   codes, the scales, and the two products of the dequantised codes. -/
module

public import proofs.«01_k».proof.Proof.Ref.Grad
public import proofs.«01_k».proof.Proof.Val.Scale

@[expose] public section

set_option maxRecDepth 16384

noncomputable section

namespace Cert.ReferenceIdeal.Val

open Cert.ReferenceIdeal Cert.ReferenceIdeal.Gen Cert.Spec
open Idealize.ShloMosaic Idealize.ShloMosaic.Tactic

/-- The named constant is the logarithm of 2. -/
theorem ln2_eq : Named.named (F := Ideal) κ "ln2" (φ := .f32) 0x3F317218#32 = ((Real.log 2 : ℝ) : EReal) := rfl

/-- Every column group has a column. -/
theorem gw_pos (g : ℕ) : 0 < gw g := by
  rw [gw]; split <;> norm_num

/-- The exponent the reference spells, of a block whose largest magnitude is `b`. -/
theorem rE_of {a b : EReal} (h : a = b) (inst : Decidable (a = 0)) :
    @ite EReal (a = 0) inst 0 (min (Ideal.ofBits FTy.f32 0x42FC0000#32) (max (Ideal.ofBits FTy.f32 0xC2FC0000#32)
      (Ideal.liftRound Int.floor (Ideal.div (Ideal.log (a * Ideal.ofBits FTy.f32 0x37924925#32)) ((Real.log 2 : ℝ) : EReal)) + 1))) = rE b := by
  subst h
  rw [rE]
  by_cases h0 : a = 0
  · rw [if_pos h0, if_pos h0]
  · rw [if_neg h0, if_neg h0]

section Rows

variable {v61 : FVec Ideal S2048x512 .f32} {v78 v79 v84 v86 : FVec Ideal S2048x32 .f32} {Gr : ℕ → ℕ → EReal}
  (h61 : ∀ (r : Fin 2048) (d : Fin 512), v61 (ix2 r d) = Gr r.val d.val)
  (h18 : ∀ (r : Fin 2048) (l : Fin 64), k0_pay18 (F := Ideal) v78 v79 v84 v86 (ix2 r l) = Gr r.val (512 + l.val))

include h61 h18

/-- The exponent of column group `g` of token `r`. -/
theorem pay20_at (r : Fin 2048) (g : Fin 5) :
    k0_pay20 (F := Ideal) v61 v78 v79 v84 v86 (ix2 r g) = rE (rowA Gr (gw g.val) r.val (128 * g.val)) := by
  unfold k0_pay20
  pointwise
  rw [ln2_eq]
  refine rE_of ?_ _
  by_cases h : g.val < 4
  · rw [dif_pos h, show gw g.val = 128 by rw [gw, if_pos h]]
    unfold rowA rmax
    refine Finset.fold_congr fun x _ => ?_
    rw [h61, Nat.mul_comm 128]
    rfl
  · rw [dif_neg h, show gw g.val = 64 by rw [gw, if_neg h], show 128 * g.val = 512 by omega]
    unfold rowA rmax
    refine Finset.fold_congr fun x _ => ?_
    rw [h18]
    rfl

/-- The scale of column group `g` of token `r`. -/
theorem pay21_at (r : Fin 2048) (g : Fin 5) :
    k0_pay21 (F := Ideal) v61 v78 v79 v84 v86 (ix2 r g) = SCALE Gr r.val g.val := by
  show Ideal.exp2 (k0_pay20 (F := Ideal) v61 v78 v79 v84 v86 (ix2 r g)) = _
  rw [pay20_at h61 h18, exp2_rE (rowA_nonneg Gr (gw_pos _) _ _)]
  rfl

/-- The two parts of the gradient side by side are the gradient. -/
theorem pay19_of (r : Fin 2048) (d : Fin 576) : k0_pay19 (F := Ideal) v61 v78 v79 v84 v86 (ix2 r d) = Gr r.val d.val := by
  unfold k0_pay19
  pointwise
  by_cases h : d.val < 512
  · rw [dif_pos h]
    exact h61 r ⟨d.val, h⟩
  · rw [dif_neg h, h18]
    show Gr r.val (512 + (d.val - 512)) = _
    rw [show 512 + (d.val - 512) = d.val by omega]

/-- The gradient times the inverse of its block's scale. -/
theorem pay22_at (r : Fin 2048) (d : Fin 576) :
    k0_pay22 (F := Ideal) v61 v78 v79 v84 v86 (ix2 r d)
      = Gr r.val d.val * kI (rowA Gr (gw (d.val / 128)) r.val (128 * (d.val / 128))) := by
  unfold k0_pay22
  pointwise
  rw [pay19_of h61 h18, pay20_at h61 h18]
  show _ * Ideal.exp2 (0 - _) = _
  rw [exp2_neg_rE (rowA_nonneg Gr (gw_pos _) _ _)]

/-- The code. -/
theorem pay24_at (r : Fin 2048) (d : Fin 576) :
    k0_pay24 (F := Ideal) (k0_pay22 v61 v78 v79 v84 v86) (Scalar.ofBits .f32 0x47600000#32) k0_pay23 (ix2 r d) = CODE Gr r.val d.val := by
  unfold k0_pay24 k0_pay23
  pointwise
  rw [pay22_at h61 h18]
  rfl

/-- The product of the dequantised codes and the weight. -/
theorem pay25_at {v23 : FVec Ideal S576x4096 .bf16} {W : ℕ → ℕ → EReal}
    (hW : ∀ (d : Fin 576) (o : Fin 4096), v23 (ix2 d o) = W d.val o.val) (r : Fin 2048) (o : Fin 4096) :
    k0_pay25 (F := Ideal) v23 (k0_pay21 v61 v78 v79 v84 v86) (k0_pay22 v61 v78 v79 v84 v86) (Scalar.ofBits .f32 0x47600000#32) k0_pay23
      (ix2 r o) = ∑ k : Fin 576, GB Gr r.val k.val * W k.val o.val := by
  unfold k0_pay25
  pointwise
  refine Finset.sum_congr rfl fun k _ => ?_
  have h24 := pay24_at h61 h18 r k
  have h21 := pay21_at h61 h18 r ⟨k.val / 128, by omega⟩
  rw [hW]
  congr 1
  exact congrArg₂ (· * ·) h24 h21

end Rows

/-- The largest magnitude of a run's column. -/
theorem run_max (u : FVec Ideal S16x128x576 .f32) (q : Fin 16) (d : Fin 576) :
    multiReduction (F := Ideal) .maximumf [1] S16x576 u 0xFF800000#32 reduces_S16x128x576_S16x576 (.inl rfl) rfl (ix2 q d)
      = Finset.fold max (Ideal.ofBits FTy.f32 0xFF800000#32) (fun j : Fin 128 => u (ix3 q j d)) Finset.univ := by
  pointwise

/-- The exponents, of any array of largest magnitudes. -/
theorem run_exponent (a : FVec Ideal S16x576 .f32) (q : Fin 16) (d : Fin 576) :
    select (cmpf .oeq a (broadcast S16x576 (Scalar.ofBits (F := Ideal) .f32 0x00000000#32)))
      (broadcast S16x576 (Scalar.ofBits (F := Ideal) .f32 0x00000000#32))
      (minimumf (broadcast S16x576 (Scalar.ofBits (F := Ideal) .f32 0x42FC0000#32))
        (maximumf (broadcast S16x576 (Scalar.ofBits (F := Ideal) .f32 0xC2FC0000#32))
          (addf (floor (divf (log (mulf a (broadcast S16x576 (Scalar.ofBits (F := Ideal) .f32 0x37924925#32))))
            (broadcast S16x576 (Named.named (F := Ideal) κ "ln2" (φ := .f32) 0x3F317218#32))))
            (broadcast S16x576 (Scalar.ofBits (F := Ideal) .f32 0x3F800000#32))))) (ix2 q d) = rE (a (ix2 q d)) := by
  pointwise
  rw [ln2_eq]
  exact rE_of rfl _

section Columns

variable {v99 : FVec Ideal S2048x576 .f32} {Gr : ℕ → ℕ → EReal}
  (h99 : ∀ (r : Fin 2048) (d : Fin 576), v99 (ix2 r d) = Gr r.val d.val)

include h99

/-- The gradient in runs of 128 tokens. -/
theorem pay26_at (q : Fin 16) (j : Fin 128) (d : Fin 576) :
    k0_pay26 (F := Ideal) v99 (ix3 q j d) = Gr (128 * q.val + j.val) d.val := by
  unfold k0_pay26
  pointwise
  rw [h99, Nat.mul_comm 128]

/-- The exponent of column `d` of run `q`. -/
theorem pay27_at (q : Fin 16) (d : Fin 576) : k0_pay27 (F := Ideal) v99 (ix2 q d) = rE (colA Gr (128 * q.val) d.val) := by
  unfold k0_pay27
  refine (run_exponent _ q d).trans (congrArg rE ?_)
  refine (run_max _ q d).trans ?_
  unfold colA rmax
  refine Finset.fold_congr fun x _ => ?_
  exact congrArg mag (pay26_at h99 q x d)

/-- The scale of column `d` of run `q`. -/
theorem pay28_at (q : Fin 16) (d : Fin 576) : k0_pay28 (F := Ideal) v99 (ix2 q d) = TSCALE Gr (128 * q.val) d.val := by
  unfold k0_pay28
  rw [exp2_apply, pay27_at h99]
  exact exp2_rE (colA_nonneg Gr _ _)

/-- Its inverse. -/
theorem pay29_at (q : Fin 16) (d : Fin 576) :
    k0_pay29 (F := Ideal) v99 (ix3 q 0 d) = kI (colA Gr (128 * q.val) d.val) := by
  unfold k0_pay29
  refine (shapeCast_apply _ _ (ix3 q 0 d) (ix2 q d) ?_).trans ?_
  · rw [Shape.rowMajor_val_two, Shape.rowMajor_val_three]
    show q.val * 576 + d.val = (q.val * 1 + 0) * 576 + d.val
    omega
  · rw [exp2_apply, subf_apply, pay27_at h99]
    refine (congrArg (fun z : EReal => Ideal.exp2 (z - _)) Ideal.ofBits_zero_f32).trans ?_
    exact exp2_neg_rE (colA_nonneg Gr _ _)

/-- The code of a run. -/
theorem pay1_at (q : Fin 16) (j : Fin 128) (d : Fin 576) :
    k0_pay1 (F := Ideal) (k0_pay26 v99) (k0_pay29 v99) (ix3 q j d) = codeC Gr (128 * q.val) (128 * q.val + j.val) d.val := by
  have h26 := pay26_at h99 q j d
  have h29 := pay29_at h99 q d
  unfold k0_pay1
  pointwise
  rw [h26, h29]
  rfl

/-- The codes, token by token. -/
theorem pay2_at (r : Fin 2048) (d : Fin 576) :
    k0_pay2 (F := Ideal) (k0_pay26 v99) (k0_pay29 v99) (ix2 r d) = TCODE Gr r.val d.val := by
  unfold k0_pay2
  pointwise
  rw [pay1_at h99]
  show codeC Gr (128 * (r.val / 128)) (128 * (r.val / 128) + r.val % 128) d.val = _
  rw [Nat.div_add_mod]
  rfl

/-- The product of the dequantised codes of the runs and the dequantised tokens. -/
theorem pay3_at {v9 : FVec Ideal S2048x4096 .bf16} {X : ℕ → ℕ → EReal}
    (hX : ∀ (r : Fin 2048) (o : Fin 4096), v9 (ix2 r o) = X r.val o.val) (d : Fin 576) (o : Fin 4096) :
    k0_pay3 (F := Ideal) v9 (k0_pay26 v99) (k0_pay28 v99) (k0_pay29 v99) (ix2 d o)
      = ∑ k : Fin 2048, GT Gr k.val d.val * X k.val o.val := by
  unfold k0_pay3
  pointwise
  refine Finset.sum_congr rfl fun k _ => ?_
  rw [pay1_at h99, pay28_at h99, hX]
  show codeC Gr (128 * (k.val / 128)) (128 * (k.val / 128) + k.val % 128) d.val * TSCALE Gr (128 * (k.val / 128)) d.val * _ = _
  rw [Nat.div_add_mod]
  rfl

end Columns

end Cert.ReferenceIdeal.Val

end
-- ==== Proof.Ref.Value.lean ====
/- The reference's seven results as functions of a row and a column: the same functions the kernel's results are. -/
module

public import proofs.«01_k».proof.Proof.Gen.ReferenceIdeal.Value
public import proofs.«01_k».proof.Proof.Ref.Quant
public import proofs.«01_k».proof.Proof.Val.Tiles

@[expose] public section

set_option maxRecDepth 16384

noncomputable section

namespace Cert.ReferenceIdeal.Val

open Cert.ReferenceIdeal Cert.ReferenceIdeal.Gen Cert.ReferenceIdeal.Value Cert.Spec
open Idealize.ShloMosaic Idealize.ShloMosaic.Tactic
open Cert.KernelIdeal.Val (at2)

/-- A matrix is the function its entries follow. -/
theorem eq_at2 {m n : ℕ} {X : (⟨2, ![m, n]⟩ : Shape).Idx → EReal} {f : ℕ → ℕ → EReal}
    (h : ∀ (a : Fin m) (b : Fin n), X (ix2 a b) = f a.val b.val) : X = at2 f := by
  funext y
  have hy : y = ix2 (y 0) (y 1) := by
    funext a; match a with | 0 => rfl | 1 => rfl
  rw [hy]
  exact h _ _

variable {a0 : Vec Ideal S2x1024x4096 .fp8e4m3} {a1 : Vec Ideal S2x1024x32 .f32} {a2 : Vec Ideal S576x4096 .fp8e4m3}
  {a3 : Vec Ideal S5x32 .f32} {a4 : Vec Ideal S512 .f32} {a5 : Vec Ideal S2x1024 .i32} {a6 : Vec Ideal S2x1024x512 .bf16}
  {a7 : Vec Ideal S2x1024x64 .bf16} {I : In}

/-- The parts of the body read their arguments whole. -/
theorem pay30_eq : k0_pay30 (F := Ideal) a0 a1 a2 a3 a4 a5 a6 a7
    = k0_pay11 (k0_pay6 a0 a1 a2 a3) (k0_pay7 a6) (k0_pay8 a0 a1 a2 a3) a4 := by
  rw [k0_pay30, View.ld_unit_zero (S := S2x1024x4096) hz0 _ a0, View.ld_unit_zero (S := S2x1024x32) hz1 _ a1,
    View.ld_unit_zero (S := S576x4096) hz2 _ a2, View.ld_unit_zero (S := S5x32) hz3 _ a3,
    View.ld_unit_zero (S := S512) hz4 _ a4, View.ld_unit_zero (S := S2x1024x512) hz6 _ a6]
/-- The cosines, of the positions as they are. -/
theorem pay31_eq : k0_pay31 (F := Ideal) a0 a1 a2 a3 a4 a5 a6 a7 = k0_pay13 a5 := by
  rw [k0_pay31, View.ld_unit_zero (S := S2x1024) hz5 _ a5]
/-- The sines, of the positions as they are. -/
theorem pay32_eq : k0_pay32 (F := Ideal) a0 a1 a2 a3 a4 a5 a6 a7 = k0_pay14 a5 := by
  rw [k0_pay32, View.ld_unit_zero (S := S2x1024) hz5 _ a5]
/-- The even rotary entries, of the argument as it is. -/
theorem pay33_eq : k0_pay33 (F := Ideal) a0 a1 a2 a3 a4 a5 a6 a7 = k0_pay16 a7 := by
  rw [k0_pay33, View.ld_unit_zero (S := S2x1024x64) hz7 _ a7]
/-- The odd rotary entries, of the argument as it is. -/
theorem pay34_eq : k0_pay34 (F := Ideal) a0 a1 a2 a3 a4 a5 a6 a7 = k0_pay17 a7 := by
  rw [k0_pay34, View.ld_unit_zero (S := S2x1024x64) hz7 _ a7]

variable (hI : inOf a0 a1 a2 a3 a4 a5 a6 a7 = I)
include hI

/-- The latent columns are the first 512 columns of the gradient. -/
theorem lat_at (r : Fin 2048) (d : Fin 512) :
    k0_pay30 (F := Ideal) a0 a1 a2 a3 a4 a5 a6 a7 (ix2 r d) = G I r.val d.val := by
  rw [pay30_eq, pay11_at hI, G, if_pos d.isLt]

/-- The rotary columns are the last 64 columns of the gradient. -/
theorem rot_at (r : Fin 2048) (l : Fin 64) :
    k0_pay18 (F := Ideal) (k0_pay31 a0 a1 a2 a3 a4 a5 a6 a7) (k0_pay32 a0 a1 a2 a3 a4 a5 a6 a7)
      (k0_pay33 a0 a1 a2 a3 a4 a5 a6 a7) (k0_pay34 a0 a1 a2 a3 a4 a5 a6 a7) (ix2 r l) = G I r.val (512 + l.val) := by
  rw [pay31_eq, pay32_eq, pay33_eq, pay34_eq, pay18_at hI, G, if_neg (by omega), Nat.add_sub_cancel_left]

/-- The whole gradient. -/
theorem pay35_at (r : Fin 2048) (d : Fin 576) :
    k0_pay35 (F := Ideal) a0 a1 a2 a3 a4 a5 a6 a7 (ix2 r d) = G I r.val d.val := by
  rw [k0_pay35, pay30_eq, pay31_eq, pay32_eq, pay33_eq, pay34_eq, pay19_at hI]

/-- The gradient of the input. -/
theorem G8_eq : G8 (F := Ideal) a0 a1 a2 a3 a4 a5 a6 a7 = at2 (m := 2048) (n := 4096) (DX I) :=
  eq_at2 fun r o => pay25_at (lat_at hI) (rot_at hI) (pay5_at hI) r o

/-- The gradient of the weight. -/
theorem G9_eq : G9 (F := Ideal) a0 a1 a2 a3 a4 a5 a6 a7 = at2 (m := 576) (n := 4096) (DWpart I 0 2048) :=
  eq_at2 fun d o => (pay3_at (pay35_at hI) (pay4_at hI) d o).trans (by simp only [DWpart, Nat.zero_add])

/-- The gradient of the gain, a sum for every run of 128 tokens. -/
theorem G10_eq : G10 (F := Ideal) a0 a1 a2 a3 a4 a5 a6 a7
    = at2 (m := 16) (n := 512) (fun q d => DGAIN I (128 * q) d) :=
  eq_at2 fun q d => pay10_at hI q d

/-- The codes of the gradient quantised by rows. -/
theorem G11_eq : G11 (F := Ideal) a0 a1 a2 a3 a4 a5 a6 a7 = at2 (m := 2048) (n := 576) (CODE (G I)) :=
  eq_at2 fun r d => pay24_at (lat_at hI) (rot_at hI) r d

/-- The scales of the row blocks. -/
theorem G12_eq : G12 (F := Ideal) a0 a1 a2 a3 a4 a5 a6 a7 = at2 (m := 2048) (n := 5) (SCALE (G I)) :=
  eq_at2 fun r g => pay21_at (lat_at hI) (rot_at hI) r g

/-- The codes of the gradient quantised by columns. -/
theorem G13_eq : G13 (F := Ideal) a0 a1 a2 a3 a4 a5 a6 a7 = at2 (m := 2048) (n := 576) (TCODE (G I)) :=
  eq_at2 fun r d => pay2_at (pay35_at hI) r d

/-- The scales of the column runs. -/
theorem G14_eq : G14 (F := Ideal) a0 a1 a2 a3 a4 a5 a6 a7
    = at2 (m := 16) (n := 576) (fun q d => TSCALE (G I) (128 * q) d) :=
  eq_at2 fun q d => pay28_at (pay35_at hI) q d

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init
public import proofs.«01_k».proof.Proof.Run.Frame
public import proofs.«01_k».proof.Proof.Val.Run
public import proofs.«01_k».proof.Proof.Ref.Value

@[expose] public section

noncomputable section

namespace Cert.Proof

open Idealize.ShloMosaic Idealize.SL.Sem Cert.Kernel

open Cert.Spec Cert.KernelIdeal.Run Cert.ReferenceIdeal.Val
open Cert.KernelIdeal.Val (at2)

/-- The kernel and the reference compute the same seven results, exactly over the extended reals: each is the same function
of the arguments, read from the kernel's run and from the reference's. -/
theorem algebraic : Cert.algebraic_KernelIdeal_ReferenceIdeal := fun m g m' g' _ hargs =>
  ⟨fun c => at2 (m := 2048) (n := 4096) (DX (inp m c)), fun c => at2 (m := 576) (n := 4096) (DWpart (inp m c) 0 2048),
    fun c => at2 (m := 16) (n := 512) (fun q d => DGAIN (inp m c) (128 * q) d),
    fun c => at2 (m := 2048) (n := 576) (CODE (G (inp m c))), fun c => at2 (m := 2048) (n := 5) (SCALE (G (inp m c))),
    fun c => at2 (m := 2048) (n := 576) (TCODE (G (inp m c))),
    fun c => at2 (m := 16) (n := 576) (fun q d => TSCALE (G (inp m c)) (128 * q) d),
    Cert.KernelIdeal.Run.values m g,
    (θ_run _ _ _).mono (fun r h c => by
      obtain ⟨h0, h1, h2, h3, h4, h5, h6, h7⟩ := hargs c
      have hI : inOf (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) = inp m c := by
        rw [h0, h1, h2, h3, h4, h5, h6, h7]; rfl
      obtain ⟨r0, r1, r2, r3, r4, r5, r6, rest⟩ := h c
      exact ⟨r0.trans (G8_eq hI), r1.trans (G9_eq hI), r2.trans (G10_eq hI), r3.trans (G11_eq hI), r4.trans (G12_eq hI),
        r5.trans (G13_eq hI), r6.trans (G14_eq hI), rest⟩)
      (Cert.ReferenceIdeal.Value.run m' g')⟩

/-- All five claims. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, algebraic⟩

end Cert.Proof

end
